-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_16" .f32 0x3DB8AA3B#32 (((1 / 16) * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v125) = v5 c
          ∧ r.2.mem ((c.tc : Thread Cert.ReferenceIdeal.nD Cert.ReferenceIdeal.τ).loc Cert.ReferenceIdeal.main_v126) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x2048x8192 : Shape := ⟨3, ![8, 2048, 8192]⟩
abbrev S8x2048x2048 : Shape := ⟨3, ![8, 2048, 2048]⟩
abbrev S8x2048x8x4x256 : Shape := ⟨5, ![8, 2048, 8, 4, 256]⟩
abbrev S_ : Shape := ⟨0, ![]⟩
abbrev S8x2048x8x4 : Shape := ⟨4, ![8, 2048, 8, 4]⟩
abbrev S8x2048x8x256 : Shape := ⟨4, ![8, 2048, 8, 256]⟩
abbrev S8x2048x8 : Shape := ⟨3, ![8, 2048, 8]⟩
abbrev S8x8x256 : Shape := ⟨3, ![8, 8, 256]⟩

class Facts : Prop where
  shapeCasts_S8x2048x8192_S8x2048x8x4x256 : S8x2048x8192.ShapeCasts S8x2048x8x4x256
  bitsLt_bf16_f32 : FTy.bits .bf16 < FTy.bits .f32
  reducesTo_S8x2048x8x4x256_S8x2048x8x4_d4 : S8x2048x8x4x256.ReducesTo [4] S8x2048x8x4
  h_S_ : 0 < S_.numel
  bcast_S_S8x2048x8x4 : S_.BroadcastsInDim S8x2048x8x4 (![] : Fin 0 → Fin S8x2048x8x4.rank)
  reducesTo_S8x2048x8x4_S_d0_1_2_3 : S8x2048x8x4.ReducesTo [0, 1, 2, 3] S_
  shapeCasts_S8x2048x2048_S8x2048x8x256 : S8x2048x2048.ShapeCasts S8x2048x8x256
  reducesTo_S8x2048x8x256_S8x2048x8_d3 : S8x2048x8x256.ReducesTo [3] S8x2048x8
  bcast_S_S8x2048x8 : S_.BroadcastsInDim S8x2048x8 (![] : Fin 0 → Fin S8x2048x8.rank)
  reducesTo_S8x2048x8_S_d0_1_2 : S8x2048x8.ReducesTo [0, 1, 2] S_
  reducesTo_S8x2048x8x256_S8x8x256_d1 : S8x2048x8x256.ReducesTo [1] S8x8x256
  bcast_S_S8x8x256 : S_.BroadcastsInDim S8x8x256 (![] : Fin 0 → Fin S8x8x256.rank)
  reducesTo_S8x8x256_S_d0_1_2 : S8x8x256.ReducesTo [0, 1, 2] S_

variable [Facts]

def fn_part2 {F : FTy → Type} [FloatOps F] (main_v26 : IVec S_ 1) (main_v30 : FVec F S8x8x256 .f32) (main_v32 : IVec S8x8x256 1) (main_v34 : IVec S8x8x256 1) : IVec S_ 1 :=
  let main_cst_11 : FVec F S_ .f32 := constant S_ .f32 0x7F7F0000#32
  let main_v35 : FVec F S8x8x256 .f32 := broadcastInDim S8x8x256 ![] bcast_S_S8x8x256 main_cst_11
  let main_v36 : IVec S8x8x256 1 := cmpf .ole main_v30 main_v35
  let main_v37 : IVec S8x8x256 1 := andi main_v34 main_v36
  let main_v38 : IVec S8x8x256 1 := ori main_v32 main_v37
  let main_c_12 : IVec S_ 1 := constantI S_ 1 1#1
  let main_v39 : IVec S_ 1 := (fun x v => Host.reduce IntOp.andi x v reducesTo_S8x8x256_S_d0_1_2 h_S_) main_v38 main_c_12
  let main_v40 : IVec S_ 1 := andi main_v26 main_v39
  main_v40

def fn_part1 {F : FTy → Type} [FloatOps F] (main_arg2 : FVec F S8x2048x2048 .bf16) (main_v12 : IVec S_ 1) (main_v16 : FVec F S8x2048x8 .f32) (main_cst_4 : FVec F S_ .f32) : IVec S_ 1 :=
  let main_v17 : FVec F S8x2048x8 .f32 := broadcastInDim S8x2048x8 ![] bcast_S_S8x2048x8 main_cst_4
  let main_v18 : IVec S8x2048x8 1 := cmpf .oeq main_v16 main_v17
  let main_cst_5 : FVec F S_ .f32 := constant S_ .f32 0x04800000#32
  let main_v19 : FVec F S8x2048x8 .f32 := broadcastInDim S8x2048x8 ![] bcast_S_S8x2048x8 main_cst_5
  let main_v20 : IVec S8x2048x8 1 := cmpf .oge main_v16 main_v19
  let main_cst_6 : FVec F S_ .f32 := constant S_ .f32 0x7F7F0000#32
  let main_v21 : FVec F S8x2048x8 .f32 := broadcastInDim S8x2048x8 ![] bcast_S_S8x2048x8 main_cst_6
  let main_v22 : IVec S8x2048x8 1 := cmpf .ole main_v16 main_v21
  let main_v23 : IVec S8x2048x8 1 := andi main_v20 main_v22
  let main_v24 : IVec S8x2048x8 1 := ori main_v18 main_v23
  let main_c_7 : IVec S_ 1 := constantI S_ 1 1#1
  let main_v25 : IVec S_ 1 := (fun x v => Host.reduce IntOp.andi x v reducesTo_S8x2048x8_S_d0_1_2 h_S_) main_v24 main_c_7
  let main_v26 : IVec S_ 1 := andi main_v12 main_v25
  let main_v27 : FVec F S8x2048x8x256 .bf16 := shapeCast S8x2048x8x256 main_arg2 shapeCasts_S8x2048x2048_S8x2048x8x256
  let main_v28 : FVec F S8x2048x8x256 .f32 := (extf .f32 · bitsLt_bf16_f32) main_v27
  let main_v29 : FVec F S8x2048x8x256 .f32 := Host.absf main_v28
  let main_cst_8 : FVec F S_ .f32 := constant S_ .f32 0xFF800000#32
  let main_v30 : FVec F S8x8x256 .f32 := (fun x v => Host.reduce FloatOps.maximumf x v reducesTo_S8x2048x8x256_S8x8x256_d1 h_S_) main_v29 main_cst_8
  let main_cst_9 : FVec F S_ .f32 := constant S_ .f32 0x00000000#32
  let main_v31 : FVec F S8x8x256 .f32 := broadcastInDim S8x8x256 ![] bcast_S_S8x8x256 main_cst_9
  let main_v32 : IVec S8x8x256 1 := cmpf .oeq main_v30 main_v31
  let main_cst_10 : FVec F S_ .f32 := constant S_ .f32 0x04800000#32
  let main_v33 : FVec F S8x8x256 .f32 := broadcastInDim S8x8x256 ![] bcast_S_S8x8x256 main_cst_10
  let main_v34 : IVec S8x8x256 1 := cmpf .oge main_v30 main_v33
  fn_part2 (F := F) main_v26 main_v30 main_v32 main_v34

def fn {F : FTy → Type} [FloatOps F] (main_arg0 : FVec F S8x2048x8192 .bf16) (main_arg1 : FVec F S8x2048x2048 .bf16) (main_arg2 : FVec F S8x2048x2048 .bf16) : IVec S_ 1 :=
  let main_v0 : FVec F S8x2048x8x4x256 .bf16 := shapeCast S8x2048x8x4x256 main_arg0 shapeCasts_S8x2048x8192_S8x2048x8x4x256
  let main_v1 : FVec F S8x2048x8x4x256 .f32 := (extf .f32 · bitsLt_bf16_f32) main_v0
  let main_v2 : FVec F S8x2048x8x4x256 .f32 := Host.absf main_v1
  let main_cst : FVec F S_ .f32 := constant S_ .f32 0xFF800000#32
  let main_v3 : FVec F S8x2048x8x4 .f32 := (fun x v => Host.reduce FloatOps.maximumf x v reducesTo_S8x2048x8x4x256_S8x2048x8x4_d4 h_S_) main_v2 main_cst
  let main_cst_0 : FVec F S_ .f32 := constant S_ .f32 0x00000000#32
  let main_v4 : FVec F S8x2048x8x4 .f32 := broadcastInDim S8x2048x8x4 ![] bcast_S_S8x2048x8x4 main_cst_0
  let main_v5 : IVec S8x2048x8x4 1 := cmpf .oeq main_v3 main_v4
  let main_cst_1 : FVec F S_ .f32 := constant S_ .f32 0x04800000#32
  let main_v6 : FVec F S8x2048x8x4 .f32 := broadcastInDim S8x2048x8x4 ![] bcast_S_S8x2048x8x4 main_cst_1
  let main_v7 : IVec S8x2048x8x4 1 := cmpf .oge main_v3 main_v6
  let main_cst_2 : FVec F S_ .f32 := constant S_ .f32 0x7F7F0000#32
  let main_v8 : FVec F S8x2048x8x4 .f32 := broadcastInDim S8x2048x8x4 ![] bcast_S_S8x2048x8x4 main_cst_2
  let main_v9 : IVec S8x2048x8x4 1 := cmpf .ole main_v3 main_v8
  let main_v10 : IVec S8x2048x8x4 1 := andi main_v7 main_v9
  let main_v11 : IVec S8x2048x8x4 1 := ori main_v5 main_v10
  let main_c : IVec S_ 1 := constantI S_ 1 1#1
  let main_v12 : IVec S_ 1 := (fun x v => Host.reduce IntOp.andi x v reducesTo_S8x2048x8x4_S_d0_1_2_3 h_S_) main_v11 main_c
  let main_v13 : FVec F S8x2048x8x256 .bf16 := shapeCast S8x2048x8x256 main_arg1 shapeCasts_S8x2048x2048_S8x2048x8x256
  let main_v14 : FVec F S8x2048x8x256 .f32 := (extf .f32 · bitsLt_bf16_f32) main_v13
  let main_v15 : FVec F S8x2048x8x256 .f32 := Host.absf main_v14
  let main_cst_3 : FVec F S_ .f32 := constant S_ .f32 0xFF800000#32
  let main_v16 : FVec F S8x2048x8 .f32 := (fun x v => Host.reduce FloatOps.maximumf x v reducesTo_S8x2048x8x256_S8x2048x8_d3 h_S_) main_v15 main_cst_3
  let main_cst_4 : FVec F S_ .f32 := constant S_ .f32 0x00000000#32
  fn_part1 (F := F) main_arg2 main_v12 main_v16 main_cst_4
-- ==== Kernel.lean ====
abbrev S8x2048x8192 : Shape := ⟨3, ![8, 2048, 8192]⟩
abbrev S8x2048x2048 : Shape := ⟨3, ![8, 2048, 2048]⟩
abbrev S8x2048x32 : Shape := ⟨3, ![8, 2048, 32]⟩
abbrev S8x2048x8 : Shape := ⟨3, ![8, 2048, 8]⟩
abbrev S8x8x1x256 : Shape := ⟨4, ![8, 8, 1, 256]⟩
abbrev S1x2048x1024 : Shape := ⟨3, ![1, 2048, 1024]⟩
abbrev S1x2048x256 : Shape := ⟨3, ![1, 2048, 256]⟩
abbrev S1x2048x32 : Shape := ⟨3, ![1, 2048, 32]⟩
abbrev S1x2048x8 : Shape := ⟨3, ![1, 2048, 8]⟩
abbrev S1x1x1x256 : Shape := ⟨4, ![1, 1, 1, 256]⟩
abbrev S2x512x256 : Shape := ⟨3, ![2, 512, 256]⟩
abbrev S8x2048 : Shape := ⟨2, ![8, 2048]⟩
abbrev S2x2x512x128 : Shape := ⟨4, ![2, 2, 512, 128]⟩
abbrev S2x512x128 : Shape := ⟨3, ![2, 512, 128]⟩
abbrev S2x512x2048 : Shape := ⟨3, ![2, 512, 2048]⟩
abbrev S256x8 : Shape := ⟨2, ![256, 8]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256x8 : Shape := ⟨3, ![1, 256, 8]⟩
abbrev S256x128 : Shape := ⟨2, ![256, 128]⟩
abbrev S128x256 : Shape := ⟨2, ![128, 256]⟩
abbrev S8x256 : Shape := ⟨2, ![8, 256]⟩
abbrev S1x256 : Shape := ⟨2, ![1, 256]⟩
abbrev S128x32 : Shape := ⟨2, ![128, 32]⟩
abbrev S512x128 : Shape := ⟨2, ![512, 128]⟩
abbrev S1x128x32 : Shape := ⟨3, ![1, 128, 32]⟩
abbrev S1x128x256 : Shape := ⟨3, ![1, 128, 256]⟩
abbrev S128 : Shape := ⟨1, ![128]⟩
abbrev S128x1 : Shape := ⟨2, ![128, 1]⟩
abbrev S128x128 : Shape := ⟨2, ![128, 128]⟩
abbrev S1x1x128x128 : Shape := ⟨4, ![1, 1, 128, 128]⟩
abbrev S1x128x128 : Shape := ⟨3, ![1, 128, 128]⟩
abbrev S1x1x512x128 : Shape := ⟨4, ![1, 1, 512, 128]⟩
abbrev S1x512x128 : Shape := ⟨3, ![1, 512, 128]⟩
abbrev S1x512x256 : Shape := ⟨3, ![1, 512, 256]⟩
abbrev S512x256 : Shape := ⟨2, ![512, 256]⟩
abbrev S1x128 : Shape := ⟨2, ![1, 128]⟩
abbrev S512 : Shape := ⟨1, ![512]⟩
abbrev S512x1 : Shape := ⟨2, ![512, 1]⟩
abbrev S1x512x384 : Shape := ⟨3, ![1, 512, 384]⟩
abbrev S512x384 : Shape := ⟨2, ![512, 384]⟩
abbrev S1x384x256 : Shape := ⟨3, ![1, 384, 256]⟩
abbrev S384x256 : Shape := ⟨2, ![384, 256]⟩
abbrev S1x512x512 : Shape := ⟨3, ![1, 512, 512]⟩
abbrev S512x512 : Shape := ⟨2, ![512, 512]⟩
abbrev S1x512x640 : Shape := ⟨3, ![1, 512, 640]⟩
abbrev S512x640 : Shape := ⟨2, ![512, 640]⟩
abbrev S1x640x256 : Shape := ⟨3, ![1, 640, 256]⟩
abbrev S640x256 : Shape := ⟨2, ![640, 256]⟩
abbrev S1x512x768 : Shape := ⟨3, ![1, 512, 768]⟩
abbrev S512x768 : Shape := ⟨2, ![512, 768]⟩
abbrev S1x768x256 : Shape := ⟨3, ![1, 768, 256]⟩
abbrev S768x256 : Shape := ⟨2, ![768, 256]⟩
abbrev S1x512x896 : Shape := ⟨3, ![1, 512, 896]⟩
abbrev S512x896 : Shape := ⟨2, ![512, 896]⟩
abbrev S1x896x256 : Shape := ⟨3, ![1, 896, 256]⟩
abbrev S896x256 : Shape := ⟨2, ![896, 256]⟩
abbrev S1x512x1024 : Shape := ⟨3, ![1, 512, 1024]⟩
abbrev S512x1024 : Shape := ⟨2, ![512, 1024]⟩
abbrev S1x1024x256 : Shape := ⟨3, ![1, 1024, 256]⟩
abbrev S1024x256 : Shape := ⟨2, ![1024, 256]⟩
abbrev S1x512x1152 : Shape := ⟨3, ![1, 512, 1152]⟩
abbrev S512x1152 : Shape := ⟨2, ![512, 1152]⟩
abbrev S1x1152x256 : Shape := ⟨3, ![1, 1152, 256]⟩
abbrev S1152x256 : Shape := ⟨2, ![1152, 256]⟩
abbrev S1x512x1280 : Shape := ⟨3, ![1, 512, 1280]⟩
abbrev S512x1280 : Shape := ⟨2, ![512, 1280]⟩
abbrev S1x1280x256 : Shape := ⟨3, ![1, 1280, 256]⟩
abbrev S1280x256 : Shape := ⟨2, ![1280, 256]⟩
abbrev S1x512x1408 : Shape := ⟨3, ![1, 512, 1408]⟩
abbrev S512x1408 : Shape := ⟨2, ![512, 1408]⟩
abbrev S1x1408x256 : Shape := ⟨3, ![1, 1408, 256]⟩
abbrev S1408x256 : Shape := ⟨2, ![1408, 256]⟩
abbrev S1x512x1536 : Shape := ⟨3, ![1, 512, 1536]⟩
abbrev S512x1536 : Shape := ⟨2, ![512, 1536]⟩
abbrev S1x1536x256 : Shape := ⟨3, ![1, 1536, 256]⟩
abbrev S1536x256 : Shape := ⟨2, ![1536, 256]⟩
abbrev S1x512x1664 : Shape := ⟨3, ![1, 512, 1664]⟩
abbrev S512x1664 : Shape := ⟨2, ![512, 1664]⟩
abbrev S1x1664x256 : Shape := ⟨3, ![1, 1664, 256]⟩
abbrev S1664x256 : Shape := ⟨2, ![1664, 256]⟩
abbrev S1x512x1792 : Shape := ⟨3, ![1, 512, 1792]⟩
abbrev S512x1792 : Shape := ⟨2, ![512, 1792]⟩
abbrev S1x1792x256 : Shape := ⟨3, ![1, 1792, 256]⟩
abbrev S1792x256 : Shape := ⟨2, ![1792, 256]⟩
abbrev S1x512x1920 : Shape := ⟨3, ![1, 512, 1920]⟩
abbrev S512x1920 : Shape := ⟨2, ![512, 1920]⟩
abbrev S1x1920x256 : Shape := ⟨3, ![1, 1920, 256]⟩
abbrev S1920x256 : Shape := ⟨2, ![1920, 256]⟩
abbrev S1x512x2048 : Shape := ⟨3, ![1, 512, 2048]⟩
abbrev S512x2048 : Shape := ⟨2, ![512, 2048]⟩
abbrev S2048x256 : Shape := ⟨2, ![2048, 256]⟩

abbrev nBuf : Space → Nat
  | .hbm => 10
  | .vmem => 28
  | .smem => 0
  | _ => 0

abbrev bufTy : (tb : Table) → Fin (tcTables nBuf tb) → BufTy
  | .hbm, ⟨0, _⟩ => ⟨S8x2048x8192, .bf16⟩
  | .hbm, ⟨1, _⟩ => ⟨S8x2048x2048, .bf16⟩
  | .hbm, ⟨2, _⟩ => ⟨S8x2048x2048, .bf16⟩
  | .hbm, ⟨3, _⟩ => ⟨S8x2048x8192, .bf16⟩
  | .hbm, ⟨4, _⟩ => ⟨S8x2048x8192, .fp8e4m3⟩
  | .hbm, ⟨5, _⟩ => ⟨S8x2048x32, .f32⟩
  | .hbm, ⟨6, _⟩ => ⟨S8x2048x2048, .fp8e4m3⟩
  | .hbm, ⟨7, _⟩ => ⟨S8x2048x8, .f32⟩
  | .hbm, ⟨8, _⟩ => ⟨S8x2048x2048, .fp8e4m3⟩
  | .hbm, ⟨9, _⟩ => ⟨S8x8x1x256, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .fp8e4m3⟩
  | .local _ .vmem, ⟨9, _⟩ => ⟨S1x2048x1024, .fp8e4m3⟩
  | .local _ .vmem, ⟨10, _⟩ => ⟨S1x2048x32, .f32⟩
  | .local _ .vmem, ⟨11, _⟩ => ⟨S1x2048x32, .f32⟩
  | .local _ .vmem, ⟨12, _⟩ => ⟨S1x2048x256, .fp8e4m3⟩
  | .local _ .vmem, ⟨13, _⟩ => ⟨S1x2048x256, .fp8e4m3⟩
  | .local _ .vmem, ⟨14, _⟩ => ⟨S1x2048x8, .f32⟩
  | .local _ .vmem, ⟨15, _⟩ => ⟨S1x2048x8, .f32⟩
  | .local _ .vmem, ⟨16, _⟩ => ⟨S1x2048x256, .fp8e4m3⟩
  | .local _ .vmem, ⟨17, _⟩ => ⟨S1x2048x256, .fp8e4m3⟩
  | .local _ .vmem, ⟨18, _⟩ => ⟨S1x1x1x256, .f32⟩
  | .local _ .vmem, ⟨19, _⟩ => ⟨S1x1x1x256, .f32⟩
  | .local _ .vmem, ⟨20, _⟩ => ⟨S2x512x256, .fp8e4m3⟩
  | .local _ .vmem, ⟨21, _⟩ => ⟨S8x2048, .f32⟩
  | .local _ .vmem, ⟨22, _⟩ => ⟨S2x2x512x128, .f32⟩
  | .local _ .vmem, ⟨23, _⟩ => ⟨S2x512x128, .f32⟩
  | .local _ .vmem, ⟨24, _⟩ => ⟨S2x512x128, .f32⟩
  | .local _ .vmem, ⟨25, _⟩ => ⟨S2x512x2048, .f32⟩
  | .local _ .vmem, ⟨26, _⟩ => ⟨S2x512x2048, .fp8e4m3⟩
  | .local _ .vmem, ⟨27, _⟩ => ⟨S2x2x512x128, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e_16" => some (((1 / 16) * (Real.log 2)⁻¹ : ℝ) : EReal)
  | _ => none
-- ==== ReferenceIdeal.lean ====
abbrev S8x2048x8192 : Shape := ⟨3, ![8, 2048, 8192]⟩
abbrev S8x2048x2048 : Shape := ⟨3, ![8, 2048, 2048]⟩
abbrev S8x2048x8x4x256 : Shape := ⟨5, ![8, 2048, 8, 4, 256]⟩
abbrev S_ : Shape := ⟨0, ![]⟩
abbrev S8x2048x8x4 : Shape := ⟨4, ![8, 2048, 8, 4]⟩
abbrev S8x2048x8x4x1 : Shape := ⟨5, ![8, 2048, 8, 4, 1]⟩
abbrev S254 : Shape := ⟨1, ![254]⟩
abbrev S8x2048x8x4x1x1 : Shape := ⟨6, ![8, 2048, 8, 4, 1, 1]⟩
abbrev S1x1x1x1x1x254 : Shape := ⟨6, ![1, 1, 1, 1, 1, 254]⟩
abbrev S8x2048x8x4x1x254 : Shape := ⟨6, ![8, 2048, 8, 4, 1, 254]⟩
abbrev S8x2048x8x256 : Shape := ⟨4, ![8, 2048, 8, 256]⟩
abbrev S8x2048x8 : Shape := ⟨3, ![8, 2048, 8]⟩
abbrev S8x2048x8x1 : Shape := ⟨4, ![8, 2048, 8, 1]⟩
abbrev S8x2048x8x1x1 : Shape := ⟨5, ![8, 2048, 8, 1, 1]⟩
abbrev S1x1x1x1x254 : Shape := ⟨5, ![1, 1, 1, 1, 254]⟩
abbrev S8x2048x8x1x254 : Shape := ⟨5, ![8, 2048, 8, 1, 254]⟩
abbrev S8x8x256 : Shape := ⟨3, ![8, 8, 256]⟩
abbrev S8x1x8x256 : Shape := ⟨4, ![8, 1, 8, 256]⟩
abbrev S8x1x8x256x1 : Shape := ⟨5, ![8, 1, 8, 256, 1]⟩
abbrev S8x1x8x256x254 : Shape := ⟨5, ![8, 1, 8, 256, 254]⟩
abbrev S8x8x2048x4x2048 : Shape := ⟨5, ![8, 8, 2048, 4, 2048]⟩
abbrev S8x8x2048x4x1 : Shape := ⟨5, ![8, 8, 2048, 4, 1]⟩
abbrev S8x8x1x2048 : Shape := ⟨4, ![8, 8, 1, 2048]⟩
abbrev S8x8x1x1x2048 : Shape := ⟨5, ![8, 8, 1, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x1x2048 : Shape := ⟨5, ![1, 1, 2048, 1, 2048]⟩
abbrev S8x8x2048x4 : Shape := ⟨4, ![8, 8, 2048, 4]⟩
abbrev S8x8x2048x4x256 : Shape := ⟨5, ![8, 8, 2048, 4, 256]⟩
abbrev S8x8x1x256 : Shape := ⟨4, ![8, 8, 1, 256]⟩
abbrev S8x8x1x1x256 : Shape := ⟨5, ![8, 8, 1, 1, 256]⟩
abbrev S8x2048x32 : Shape := ⟨3, ![8, 2048, 32]⟩

abbrev nBuf : Space → Nat
  | .hbm => 206
  | .vmem => 0
  | .smem => 0
  | _ => 0

abbrev hbmTy0_0 (i : Nat) : BufTy := match i % 128 with
  | 0 => ⟨S8x2048x8192, .bf16⟩
  | 1 => ⟨S8x2048x2048, .bf16⟩
  | 2 => ⟨S8x2048x2048, .bf16⟩
  | 3 => ⟨S8x2048x8x4x256, .bf16⟩
  | 4 => ⟨S8x2048x8x4x256, .f32⟩
  | 5 => ⟨S8x2048x8x4x256, .f32⟩
  | 6 => ⟨S_, .f32⟩
  | 7 => ⟨S8x2048x8x4, .f32⟩
  | 8 => ⟨S8x2048x8x4x1, .f32⟩
  | 9 => ⟨S_, .f32⟩
  | 10 => ⟨S254, .f32⟩
  | 11 => ⟨S254, .i32⟩
  | 12 => ⟨S_, .i32⟩
  | 13 => ⟨S254, .i32⟩
  | 14 => ⟨S254, .i32⟩
  | 15 => ⟨S254, .f32⟩
  | 16 => ⟨S254, .f32⟩
  | 17 => ⟨S8x2048x8x4x1x1, .f32⟩
  | 18 => ⟨S_, .f32⟩
  | 19 => ⟨S8x2048x8x4x1x1, .f32⟩
  | 20 => ⟨S8x2048x8x4x1x1, .f32⟩
  | 21 => ⟨S1x1x1x1x1x254, .f32⟩
  | 22 => ⟨S8x2048x8x4x1x254, .f32⟩
  | 23 => ⟨S8x2048x8x4x1x254, .f32⟩
  | 24 => ⟨S8x2048x8x4x1x254, .i1⟩
  | 25 => ⟨S_, .f32⟩
  | 26 => ⟨S_, .f32⟩
  | 27 => ⟨S8x2048x8x4x1x254, .f32⟩
  | 28 => ⟨S8x2048x8x4x1x254, .f32⟩
  | 29 => ⟨S8x2048x8x4x1x254, .f32⟩
  | 30 => ⟨S_, .f32⟩
  | 31 => ⟨S8x2048x8x4x1, .f32⟩
  | 32 => ⟨S8x2048x8x4x1, .i1⟩
  | 33 => ⟨S_, .f32⟩
  | 34 => ⟨S8x2048x8x4x1, .f32⟩
  | 35 => ⟨S_, .f32⟩
  | 36 => ⟨S_, .f32⟩
  | 37 => ⟨S8x2048x8x4x1, .f32⟩
  | 38 => ⟨S8x2048x8x4x1, .f32⟩
  | 39 => ⟨S8x2048x8x4x256, .f32⟩
  | 40 => ⟨S8x2048x8x4x256, .f32⟩
  | 41 => ⟨S_, .f32⟩
  | 42 => ⟨S_, .f32⟩
  | 43 => ⟨S_, .f32⟩
  | 44 => ⟨S8x2048x8x4x256, .f32⟩
  | 45 => ⟨S8x2048x8x4x256, .f32⟩
  | 46 => ⟨S_, .f32⟩
  | 47 => ⟨S8x2048x8x4x256, .f32⟩
  | 48 => ⟨S8x2048x8x4x256, .f32⟩
  | 49 => ⟨S8x2048x8x256, .bf16⟩
  | 50 => ⟨S8x2048x8x256, .f32⟩
  | 51 => ⟨S8x2048x8x256, .f32⟩
  | 52 => ⟨S_, .f32⟩
  | 53 => ⟨S8x2048x8, .f32⟩
  | 54 => ⟨S8x2048x8x1, .f32⟩
  | 55 => ⟨S_, .f32⟩
  | 56 => ⟨S254, .f32⟩
  | 57 => ⟨S254, .i32⟩
  | 58 => ⟨S_, .i32⟩
  | 59 => ⟨S254, .i32⟩
  | 60 => ⟨S254, .i32⟩
  | 61 => ⟨S254, .f32⟩
  | 62 => ⟨S254, .f32⟩
  | 63 => ⟨S8x2048x8x1x1, .f32⟩
  | 64 => ⟨S_, .f32⟩
  | 65 => ⟨S8x2048x8x1x1, .f32⟩
  | 66 => ⟨S8x2048x8x1x1, .f32⟩
  | 67 => ⟨S1x1x1x1x254, .f32⟩
  | 68 => ⟨S8x2048x8x1x254, .f32⟩
  | 69 => ⟨S8x2048x8x1x254, .f32⟩
  | 70 => ⟨S8x2048x8x1x254, .i1⟩
  | 71 => ⟨S_, .f32⟩
  | 72 => ⟨S_, .f32⟩
  | 73 => ⟨S8x2048x8x1x254, .f32⟩
  | 74 => ⟨S8x2048x8x1x254, .f32⟩
  | 75 => ⟨S8x2048x8x1x254, .f32⟩
  | 76 => ⟨S_, .f32⟩
  | 77 => ⟨S8x2048x8x1, .f32⟩
  | 78 => ⟨S8x2048x8x1, .i1⟩
  | 79 => ⟨S_, .f32⟩
  | 80 => ⟨S8x2048x8x1, .f32⟩
  | 81 => ⟨S_, .f32⟩
  | 82 => ⟨S_, .f32⟩
  | 83 => ⟨S8x2048x8x1, .f32⟩
  | 84 => ⟨S8x2048x8x1, .f32⟩
  | 85 => ⟨S8x2048x8x256, .f32⟩
  | 86 => ⟨S8x2048x8x256, .f32⟩
  | 87 => ⟨S_, .f32⟩
  | 88 => ⟨S_, .f32⟩
  | 89 => ⟨S_, .f32⟩
  | 90 => ⟨S8x2048x8x256, .f32⟩
  | 91 => ⟨S8x2048x8x256, .f32⟩
  | 92 => ⟨S_, .f32⟩
  | 93 => ⟨S8x2048x8x256, .f32⟩
  | 94 => ⟨S8x2048x8x256, .f32⟩
  | 95 => ⟨S8x2048x8x256, .bf16⟩
  | 96 => ⟨S8x2048x8x256, .f32⟩
  | 97 => ⟨S8x2048x8x256, .f32⟩
  | 98 => ⟨S_, .f32⟩
  | 99 => ⟨S8x8x256, .f32⟩
  | 100 => ⟨S8x1x8x256, .f32⟩
  | 101 => ⟨S_, .f32⟩
  | 102 => ⟨S254, .f32⟩
  | 103 => ⟨S254, .i32⟩
  | 104 => ⟨S_, .i32⟩
  | 105 => ⟨S254, .i32⟩
  | 106 => ⟨S254, .i32⟩
  | 107 => ⟨S254, .f32⟩
  | 108 => ⟨S254, .f32⟩
  | 109 => ⟨S8x1x8x256x1, .f32⟩
  | 110 => ⟨S_, .f32⟩
  | 111 => ⟨S8x1x8x256x1, .f32⟩
  | 112 => ⟨S8x1x8x256x1, .f32⟩
  | 113 => ⟨S1x1x1x1x254, .f32⟩
  | 114 => ⟨S8x1x8x256x254, .f32⟩
  | 115 => ⟨S8x1x8x256x254, .f32⟩
  | 116 => ⟨S8x1x8x256x254, .i1⟩
  | 117 => ⟨S_, .f32⟩
  | 118 => ⟨S_, .f32⟩
  | 119 => ⟨S8x1x8x256x254, .f32⟩
  | 120 => ⟨S8x1x8x256x254, .f32⟩
  | 121 => ⟨S8x1x8x256x254, .f32⟩
  | 122 => ⟨S_, .f32⟩
  | 123 => ⟨S8x1x8x256, .f32⟩
  | 124 => ⟨S8x1x8x256, .i1⟩
  | 125 => ⟨S_, .f32⟩
  | 126 => ⟨S8x1x8x256, .f32⟩
  | 127 => ⟨S_, .f32⟩
  | _ => ⟨S8x2048x8192, .bf16⟩

abbrev hbmTy0_1 (i : Nat) : BufTy := match i % 128 with
  | 0 => ⟨S_, .f32⟩
  | 1 => ⟨S8x1x8x256, .f32⟩
  | 2 => ⟨S8x1x8x256, .f32⟩
  | 3 => ⟨S8x2048x8x256, .f32⟩
  | 4 => ⟨S8x2048x8x256, .f32⟩
  | 5 => ⟨S_, .f32⟩
  | 6 => ⟨S_, .f32⟩
  | 7 => ⟨S_, .f32⟩
  | 8 => ⟨S8x2048x8x256, .f32⟩
  | 9 => ⟨S8x2048x8x256, .f32⟩
  | 10 => ⟨S_, .f32⟩
  | 11 => ⟨S8x2048x8x256, .f32⟩
  | 12 => ⟨S8x2048x8x256, .f32⟩
  | 13 => ⟨S8x8x2048x4x2048, .f32⟩
  | 14 => ⟨S8x8x2048x4x1, .f32⟩
  | 15 => ⟨S_, .f32⟩
  | 16 => ⟨S8x8x2048x4x1, .f32⟩
  | 17 => ⟨S8x8x2048x4x1, .f32⟩
  | 18 => ⟨S8x8x2048x4x2048, .f32⟩
  | 19 => ⟨S8x8x2048x4x2048, .f32⟩
  | 20 => ⟨S8x8x1x2048, .f32⟩
  | 21 => ⟨S8x8x1x1x2048, .f32⟩
  | 22 => ⟨S8x8x2048x4x2048, .f32⟩
  | 23 => ⟨S8x8x2048x4x2048, .f32⟩
  | 24 => ⟨S2048, .i32⟩
  | 25 => ⟨S1x2048, .i32⟩
  | 26 => ⟨S2048x1, .i32⟩
  | 27 => ⟨S2048x2048, .i32⟩
  | 28 => ⟨S2048x2048, .i32⟩
  | 29 => ⟨S2048x2048, .i1⟩
  | 30 => ⟨S1x1x2048x1x2048, .i1⟩
  | 31 => ⟨S_, .f32⟩
  | 32 => ⟨S_, .f32⟩
  | 33 => ⟨S8x8x2048x4x2048, .i1⟩
  | 34 => ⟨S8x8x2048x4x2048, .f32⟩
  | 35 => ⟨S8x8x2048x4x2048, .f32⟩
  | 36 => ⟨S_, .f32⟩
  | 37 => ⟨S8x8x2048x4, .f32⟩
  | 38 => ⟨S8x8x2048x4x1, .f32⟩
  | 39 => ⟨S8x8x2048x4x2048, .f32⟩
  | 40 => ⟨S8x8x2048x4x2048, .f32⟩
  | 41 => ⟨S8x8x2048x4x2048, .f32⟩
  | 42 => ⟨S_, .f32⟩
  | 43 => ⟨S8x8x2048x4, .f32⟩
  | 44 => ⟨S8x8x2048x4x1, .f32⟩
  | 45 => ⟨S_, .f32⟩
  | 46 => ⟨S8x8x2048x4x2048, .f32⟩
  | 47 => ⟨S8x8x2048x4x2048, .f32⟩
  | 48 => ⟨S_, .f32⟩
  | 49 => ⟨S_, .f32⟩
  | 50 => ⟨S_, .f32⟩
  | 51 => ⟨S8x8x2048x4x2048, .f32⟩
  | 52 => ⟨S8x8x2048x4x2048, .f32⟩
  | 53 => ⟨S_, .f32⟩
  | 54 => ⟨S8x8x2048x4x2048, .f32⟩
  | 55 => ⟨S8x8x2048x4x2048, .f32⟩
  | 56 => ⟨S8x8x2048x4x256, .f32⟩
  | 57 => ⟨S8x8x1x256, .f32⟩
  | 58 => ⟨S8x8x1x1x256, .f32⟩
  | 59 => ⟨S8x8x2048x4x256, .f32⟩
  | 60 => ⟨S8x8x2048x4x256, .f32⟩
  | 61 => ⟨S_, .f32⟩
  | 62 => ⟨S8x8x2048x4x1, .f32⟩
  | 63 => ⟨S8x8x2048x4x1, .f32⟩
  | 64 => ⟨S8x8x2048x4x256, .f32⟩
  | 65 => ⟨S8x8x2048x4x256, .f32⟩
  | 66 => ⟨S8x2048x8x4x256, .f32⟩
  | 67 => ⟨S8x2048x8192, .f32⟩
  | 68 => ⟨S8x2048x8192, .bf16⟩
  | 69 => ⟨S8x2048x8x4x256, .fp8e4m3⟩
  | 70 => ⟨S8x2048x8192, .fp8e4m3⟩
  | 71 => ⟨S8x2048x32, .f32⟩
  | 72 => ⟨S8x2048x8x256, .fp8e4m3⟩
  | 73 => ⟨S8x2048x2048, .fp8e4m3⟩
  | 74 => ⟨S8x2048x8, .f32⟩
  | 75 => ⟨S8x2048x8x256, .fp8e4m3⟩
  | 76 => ⟨S8x2048x2048, .fp8e4m3⟩
  | 77 => ⟨S8x8x1x256, .f32⟩
  | _ => ⟨S8x2048x8192, .bf16⟩

abbrev hbmTy (i : Nat) : BufTy := match i / 128 with
  | 0 => hbmTy0_0 i
  | 1 => hbmTy0_1 i
  | _ => ⟨S8x2048x8192, .bf16⟩

abbrev bufTy : (tb : Table) → Fin (tcTables nBuf tb) → BufTy
  | .hbm, ⟨i, _⟩ => hbmTy i
  | _, _ => ⟨S8x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v44 : Ref sig .tc := ⟨.hbm, 75, rfl⟩
abbrev main_cst_13 : Ref sig .tc := ⟨.hbm, 76, rfl⟩
abbrev main_v45 : Ref sig .tc := ⟨.hbm, 77, rfl⟩
abbrev main_v46 : Ref sig .tc := ⟨.hbm, 78, rfl⟩
abbrev main_cst_14 : Ref sig .tc := ⟨.hbm, 79, rfl⟩
abbrev main_v47 : Ref sig .tc := ⟨.hbm, 80, rfl⟩
abbrev main_cst_15 : Ref sig .tc := ⟨.hbm, 81, rfl⟩
abbrev main_call4_v0 : Ref sig .tc := ⟨.hbm, 82, rfl⟩
abbrev main_call4_v1 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_cst_17 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_18 : Ref sig .tc := ⟨.hbm, 98, rfl⟩
abbrev main_v55 : Ref sig .tc := ⟨.hbm, 99, rfl⟩
abbrev main_v56 : Ref sig .tc := ⟨.hbm, 100, rfl⟩
abbrev main_cst_19 : Ref sig .tc := ⟨.hbm, 101, rfl⟩
abbrev main_v57 : Ref sig .tc := ⟨.hbm, 102, rfl⟩
abbrev main_v58 : Ref sig .tc := ⟨.hbm, 103, rfl⟩
abbrev main_c_20 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_21 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_22 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_v70 : Ref sig .tc := ⟨.hbm, 121, rfl⟩
abbrev main_cst_23 : Ref sig .tc := ⟨.hbm, 122, rfl⟩
abbrev main_v71 : Ref sig .tc := ⟨.hbm, 123, rfl⟩
abbrev main_v72 : Ref sig .tc := ⟨.hbm, 124, rfl⟩
abbrev main_cst_24 : Ref sig .tc := ⟨.hbm, 125, rfl⟩
abbrev main_v73 : Ref sig .tc := ⟨.hbm, 126, rfl⟩
abbrev main_cst_25 : Ref sig .tc := ⟨.hbm, 127, rfl⟩
abbrev main_call7_v0 : Ref sig .tc := ⟨.hbm, 128, rfl⟩
abbrev main_call7_v1 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_26 : Ref sig .tc := ⟨.hbm, 133, rfl⟩
abbrev main_cst_27 : Ref sig .tc := ⟨.hbm, 134, rfl⟩
abbrev main_call8_v0 : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_28 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_29 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_v95 : Ref sig .tc := ⟨.hbm, 163, rfl⟩
abbrev main_cst_30 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_cst_31 : Ref sig .tc := ⟨.hbm, 170, rfl⟩
abbrev main_v101 : Ref sig .tc := ⟨.hbm, 171, rfl⟩
abbrev main_v102 : Ref sig .tc := ⟨.hbm, 172, rfl⟩
abbrev main_cst_32 : Ref sig .tc := ⟨.hbm, 173, rfl⟩
abbrev main_v103 : Ref sig .tc := ⟨.hbm, 174, rfl⟩
abbrev main_v104 : Ref sig .tc := ⟨.hbm, 175, rfl⟩
abbrev main_cst_33 : Ref sig .tc := ⟨.hbm, 176, rfl⟩
abbrev main_cst_34 : Ref sig .tc := ⟨.hbm, 177, rfl⟩
abbrev main_call10_v0 : Ref sig .tc := ⟨.hbm, 178, rfl⟩
abbrev main_call10_v1 : Ref sig .tc := ⟨.hbm, 179, rfl⟩
abbrev main_call10_v2 : Ref sig .tc := ⟨.hbm, 180, rfl⟩
abbrev main_call10_v3 : Ref sig .tc := ⟨.hbm, 181, rfl⟩
abbrev main_call10_v4 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_cst_35 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩

abbrev nD : Nat := 1
abbrev τ : Topo := Topo.v7x

variable {F : FTy → Type} [FloatOps F]
-- ==== Proof.Tile.lean ====
module

public import proofs.«01_k».proof.Proof.Gen.KernelIdeal.Frame

@[expose] public section

set_option maxRecDepth 16384

noncomputable section

/-! The body of the kernel, written once for a query tile of any number: what each store writes, as lists of pieces
(last first), each list built from the loads of the lists before it. -/

namespace Cert.Gqa

open Cert.KernelIdeal Idealize.ShloMosaic Idealize.ShloMosaic.TcCoe Idealize.SL.Sem

variable {F : FTy → Type} [FloatOps F] [Named F]

/-- A shape of rank 1. -/
abbrev T1 (m : Nat) : Shape := ⟨1, ![m]⟩
/-- A shape of rank 2. -/
abbrev T2 (m n : Nat) : Shape := ⟨2, ![m, n]⟩
/-- A shape of rank 3. -/
abbrev T3 (l m n : Nat) : Shape := ⟨3, ![l, m, n]⟩
/-- A shape of rank 4. -/
abbrev T4 (k l m n : Nat) : Shape := ⟨4, ![k, l, m, n]⟩

theorem red1 (m n : Nat) : (T2 m n).Reduces [1] (T1 m) := by
  refine ⟨rfl, Nat.one_pos, fun b => ?_⟩
  match b with | ⟨0, _⟩ => rfl
theorem red0 (m n : Nat) : (T2 m n).Reduces [0] (T1 n) := by
  refine ⟨rfl, Nat.one_pos, fun b => ?_⟩
  match b with | ⟨0, _⟩ => rfl
theorem numel1 (m : Nat) : (T1 m).numel = m := by simp [Shape.numel]
theorem numel2 (m n : Nat) : (T2 m n).numel = m * n := by simp [Shape.numel, Fin.prod_univ_succ]
theorem numel3 (l m n : Nat) : (T3 l m n).numel = l * (m * n) := by simp [Shape.numel, Fin.prod_univ_succ]
theorem numel4 (k l m n : Nat) : (T4 k l m n).numel = k * (l * (m * n)) := by simp [Shape.numel, Fin.prod_univ_succ]
theorem scCol (m : Nat) : (T1 m).ShapeCasts (T2 m 1) := by
  show (T2 m 1).numel = _; rw [numel1, numel2]; omega
theorem scRow (m : Nat) : (T1 m).ShapeCasts (T2 1 m) := by
  show (T2 1 m).numel = _; rw [numel1, numel2]; omega
theorem scSame (s : Shape) : s.ShapeCasts s := rfl
theorem scDrop (m n : Nat) : (T3 1 m n).ShapeCasts (T2 m n) := by
  show (T2 m n).numel = _; rw [numel3, numel2]; omega
theorem scAdd (m n : Nat) : (T2 m n).ShapeCasts (T3 1 m n) := by
  show (T3 1 m n).numel = _; rw [numel3, numel2]; omega
theorem scDrop2 (m n : Nat) : (T4 1 1 m n).ShapeCasts (T2 m n) := by
  show (T2 m n).numel = _; rw [numel4, numel2]; omega
theorem scAdd2 (m n : Nat) : (T2 m n).ShapeCasts (T4 1 1 m n) := by
  show (T4 1 1 m n).numel = _; rw [numel4, numel2]; omega
theorem bcCol (m n : Nat) : (T2 m 1).Broadcasts (T2 m n) := by
  refine ⟨Nat.le_refl _, fun a => ?_⟩
  match a with
  | ⟨0, _⟩ => exact .inr fun _ => rfl
  | ⟨1, _⟩ => exact .inl rfl
theorem bcRow (m n : Nat) : (T2 1 n).Broadcasts (T2 m n) := by
  refine ⟨Nat.le_refl _, fun a => ?_⟩
  match a with
  | ⟨0, _⟩ => exact .inl rfl
  | ⟨1, _⟩ => exact .inr fun _ => rfl
theorem iotaOk (m n : Nat) (a : Fin 2) : (T2 m n).Iotas .tc 32 [a] :=
  ⟨List.nodup_singleton a, fun _ => ⟨.inr rfl, Nat.le_refl 2⟩, fun h => absurd rfl h⟩
theorem slOk (m n w o : Nat) (h : o + w ≤ n) : (T2 m n).Slices ![0, o] (T2 m w) := by
  refine ⟨rfl, fun a => ?_⟩
  match a with
  | ⟨0, _⟩ => exact Nat.le_of_eq (Nat.zero_add m)
  | ⟨1, _⟩ => exact h
theorem inb2 {l m n a b c d : Nat} (h0 : a + c ≤ m) (h1 : b + d ≤ n) :
    ∀ k, (![a, b] : Fin 2 → Nat) k + (T2 c d).size k ≤ (T2 m n).size k
  | ⟨0, _⟩ => h0 | ⟨1, _⟩ => h1
theorem inb3 {l m n a b c l' m' n' : Nat} (h0 : a + l' ≤ l) (h1 : b + m' ≤ m) (h2 : c + n' ≤ n) :
    ∀ k, (![a, b, c] : Fin 3 → Nat) k + (T3 l' m' n').size k ≤ (T3 l m n).size k
  | ⟨0, _⟩ => h0 | ⟨1, _⟩ => h1 | ⟨2, _⟩ => h2
theorem inb4 {k l m n a b c d k' l' m' n' : Nat} (h0 : a + k' ≤ k) (h1 : b + l' ≤ l) (h2 : c + m' ≤ m) (h3 : d + n' ≤ n) :
    ∀ x, (![a, b, c, d] : Fin 4 → Nat) x + (T4 k' l' m' n').size x ≤ (T4 k l m n).size x
  | ⟨0, _⟩ => h0 | ⟨1, _⟩ => h1 | ⟨2, _⟩ => h2 | ⟨3, _⟩ => h3

/-- A rank-3 rectangle of unit stride. -/
abbrev R3 {l m n : Nat} (a b c l' m' n' : Nat) (h0 : a + l' ≤ l) (h1 : b + m' ≤ m) (h2 : c + n' ≤ n) : Rect (T3 l m n) :=
  Rect.unit ![a, b, c] (T3 l' m' n').size (inb3 h0 h1 h2)

/-- Every fourth row of slot `b`, half `half`, from row `h` on. -/
abbrev RS4 (b half h : Nat) (hb : b < 2) (hh : half < 2) (hr : h < 4) : Rect (T4 2 2 512 128) where
  off := ![b, half, h, 0]
  size := (T4 1 1 128 128).size
  stride := ![1, 1, 4, 1]
  inb := fun a => match a with
    | ⟨0, _⟩ => .inr hb | ⟨1, _⟩ => .inr hh
    | ⟨2, _⟩ => .inr (show h + 4 * 127 < 512 by omega) | ⟨3, _⟩ => .inr (show 0 + 1 * 127 < 128 by omega)
  stride_pos := fun a => match a with
    | ⟨0, _⟩ => Nat.one_pos | ⟨1, _⟩ => Nat.one_pos | ⟨2, _⟩ => (by decide : 0 < 4) | ⟨3, _⟩ => Nat.one_pos

/-- Every fourth row of slot `b` from row `h` on. -/
abbrev RS3 (b h : Nat) (hb : b < 2) (hr : h < 4) : Rect (T3 2 512 128) where
  off := ![b, h, 0]
  size := (T3 1 128 128).size
  stride := ![1, 4, 1]
  inb := fun a => match a with
    | ⟨0, _⟩ => .inr hb
    | ⟨1, _⟩ => .inr (show h + 4 * 127 < 512 by omega) | ⟨2, _⟩ => .inr (show 0 + 1 * 127 < 128 by omega)
  stride_pos := fun a => match a with
    | ⟨0, _⟩ => Nat.one_pos | ⟨1, _⟩ => (by decide : 0 < 4) | ⟨2, _⟩ => Nat.one_pos

/-! ## The quantiser -/

/-- The ladder of powers: exponent fields along axis `ax`. -/
def lad (m n : Nat) (ax : Fin 2) : FVec F (T2 m n) .f32 :=
  bitcastToFloat .f32 (shli (iota .tc (T2 m n) 32 [ax] (iotaOk m n ax)) (broadcast (T2 m n) 23#32))

/-- The largest magnitude of each row. -/
def amax1 (m : Nat) (xf : FVec F (T2 m 256) .f32) : FVec F (T2 m 1) .f32 :=
  shapeCast (T2 m 1) (multiReduction .maximumf [1] (T1 m) (absf xf) 0xFF800000#32 (red1 m 256) (.inl rfl) rfl) (scCol m)

/-- The scale of each row from its largest magnitude. -/
def scl1 (m : Nat) (a : FVec F (T2 m 1) .f32) : FVec F (T2 m 1) .f32 :=
  select (cmpf .olt a (broadcast (T2 m 1) (Scalar.ofBits .f32 0x04800000#32))) (broadcast (T2 m 1) (Scalar.ofBits .f32 0x3F800000#32))
    (shapeCast (T2 m 1) (multiReduction .minimumf [1] (T1 m)
      (select (cmpf .olt (broadcastTo (T2 m 256) a (bcCol m 256)) (mulf (lad m 256 1) (broadcast (T2 m 256) (Scalar.ofBits .f32 0x43E00000#32))))
        (lad m 256 1) (broadcast (T2 m 256) (Scalar.ofBits .f32 0x7B800000#32)))
      0x7F800000#32 (red1 m 256) (.inl rfl) rfl) (scCol m))

/-- The reciprocal of a scale. -/
def rcp (m n : Nat) (s : FVec F (T2 m n) .f32) : FVec F (T2 m n) .f32 :=
  divf (broadcast (T2 m n) (Scalar.ofBits .f32 0x3F800000#32)) s

/-- The scale of each column from its largest magnitude. -/
def scl0 (a : FVec F (T2 1 256) .f32) : FVec F (T2 1 256) .f32 :=
  select (cmpf .olt a (broadcast (T2 1 256) (Scalar.ofBits .f32 0x04800000#32))) (broadcast (T2 1 256) (Scalar.ofBits .f32 0x3F800000#32))
    (shapeCast (T2 1 256) (multiReduction .minimumf [0] (T1 256)
      (select (cmpf .olt (broadcastTo (T2 256 256) a (bcRow 256 256)) (mulf (lad 256 256 0) (broadcast (T2 256 256) (Scalar.ofBits .f32 0x43E00000#32))))
        (lad 256 256 0) (broadcast (T2 256 256) (Scalar.ofBits .f32 0x7B800000#32)))
      0x7F800000#32 (red0 256 256) (.inl rfl) rfl) (scRow 256))

/-! ## What the body is run on -/

/-- The grid coordinates, the arguments' blocks and the buffers the body loads from. -/
structure Args (F : FTy → Type) where
  a2 : Memref sig .tc .vmem (T3 1 2048 1024) .bf16
  h2 : a2.IsWhole
  a3 : Memref sig .tc .vmem (T3 1 2048 256) .bf16
  h3 : a3.IsWhole
  a4 : Memref sig .tc .vmem (T3 1 2048 256) .bf16
  h4 : a4.IsWhole
  a8 : Memref sig .tc .vmem (T3 1 2048 256) .fp8e4m3
  a10 : Memref sig .tc .vmem (T3 1 2048 256) .fp8e4m3
  a12 : Memref sig .tc .vmem (T3 2 512 256) .fp8e4m3
  a13 : Memref sig .tc .vmem (T2 8 2048) .f32
  a14 : Memref sig .tc .vmem (T4 2 2 512 128) .f32
  a15 : Memref sig .tc .vmem (T3 2 512 128) .f32
  a16 : Memref sig .tc .vmem (T3 2 512 128) .f32
  a17 : Memref sig .tc .vmem (T3 2 512 2048) .f32
  a18 : Memref sig .tc .vmem (T3 2 512 2048) .fp8e4m3
  a19 : Memref sig .tc .vmem (T4 2 2 512 128) .f32
  kv : BitVec 32
  x0 : Vec F (T3 1 2048 1024) .bf16
  x1 : Vec F (T3 1 2048 256) .bf16
  x2 : Vec F (T3 1 2048 256) .bf16
  /-- What the body finds in the query scales' block, after the stores so far. -/
  rq : List (View.Piece (Elt F) (T3 1 2048 32) .f32) → (B : LoadRect (T3 1 2048 32)) → B.shape.Idx → Elt F .f32
  /-- What the body finds in the key scales' block, after the stores so far. -/
  rk : List (View.Piece (Elt F) (T3 1 2048 8) .f32) → (B : LoadRect (T3 1 2048 8)) → B.shape.Idx → Elt F .f32

variable (a : Args F)

/-! ## The keys and values -/

/-- Rows `256 r …` of the keys. -/
def kf (r : Nat) (hr : 256 * r + 256 ≤ 2048) : FVec F (T2 256 256) .f32 :=
  extf .f32 (shapeCast (T2 256 256) (View.readAt (Elt F) a.a3.view
    (R3 0 (256 * r) 0 1 256 256 (by omega) hr (by omega)).toLoadRect (a.h3.unread a.x1)) (scDrop 256 256)) (by decide)
/-- Their scales. -/
def ksc (r : Nat) (hr : 256 * r + 256 ≤ 2048) : FVec F (T2 256 1) .f32 := scl1 256 (amax1 256 (kf a r hr))
/-- Rows `256 r …` of the values. -/
def vf (r : Nat) (hr : 256 * r + 256 ≤ 2048) : FVec F (T2 256 256) .f32 :=
  extf .f32 (shapeCast (T2 256 256) (View.readAt (Elt F) a.a4.view
    (R3 0 (256 * r) 0 1 256 256 (by omega) hr (by omega)).toLoadRect (a.h4.unread a.x2)) (scDrop 256 256)) (by decide)

/-- The key codes' pieces of the first `n` chunks. -/
def H6 : (n : Nat) → 256 * n ≤ 2048 → List (View.Piece (Elt F) (T3 1 2048 256) .fp8e4m3)
  | 0, _ => []
  | n + 1, h => ⟨R3 0 (256 * n) 0 1 256 256 (by omega) (by omega) (by omega),
      shapeCast (T3 1 256 256) (truncf .fp8e4m3 (mulf (kf a n (by omega))
        (broadcastTo (T2 256 256) (rcp 256 1 (ksc a n (by omega))) (bcCol 256 256))) (by decide)) (scAdd 256 256)⟩ :: H6 n (by omega)

/-- The key scales' pieces of the first `n` chunks, over the pieces `z`. -/
def H7 (z : List (View.Piece (Elt F) (T3 1 2048 8) .f32)) : (n : Nat) → 256 * n ≤ 2048 → List (View.Piece (Elt F) (T3 1 2048 8) .f32)
  | 0, _ => z
  | n + 1, h => ⟨R3 0 (256 * n) 0 1 256 8 (by omega) (by omega) (by omega),
      shapeCast (T3 1 256 8) (select (cmpi .eq (iota .tc (T2 256 8) 32 [1] (iotaOk 256 8 1)) (broadcast (T2 256 8) a.kv))
        (broadcastTo (T2 256 8) (shapeCast (T2 256 1) (ksc a n (by omega)) (scSame _)) (bcCol 256 8))
        (shapeCast (T2 256 8) (a.rk (H7 z n (by omega)) (R3 0 (256 * n) 0 1 256 8 (by omega) (by omega) (by omega)).toLoadRect) (scDrop 256 8)))
        (scAdd 256 8)⟩ :: H7 z n (by omega)

/-- The key scales as rows: pieces of the first `n` chunks. -/
def HS1 : (n : Nat) → 256 * n ≤ 2048 → List (View.Piece (Elt F) (T2 8 2048) .f32)
  | 0, _ => []
  | n + 1, h => ⟨Rect.unit ![0, 256 * n] (T2 8 256).size (inb2 (l := 0) (by omega) (by omega)),
      shapeCast (T2 8 256) (extractStridedSlice (T2 8 256) ![0, 0] (transpose (T2 128 256) [1, 0]
        (broadcastTo (T2 256 128) (shapeCast (T2 256 1) (ksc a n (by omega)) (scSame _)) (bcCol 256 128)) (by decide)) (by decide)) (scSame _)⟩
      :: HS1 n (by omega)

/-- The largest magnitude of each value column over the first `n` chunks. -/
def vmax : (n : Nat) → 256 * n ≤ 2048 → FVec F (T2 1 256) .f32
  | 0, _ => broadcast (T2 1 256) (Scalar.ofBits .f32 0x00000000#32)
  | n + 1, h => maximumf (vmax n (by omega)) (shapeCast (T2 1 256)
      (multiReduction .maximumf [0] (T1 256) (absf (vf a n (by omega))) 0xFF800000#32 (red0 256 256) (.inl rfl) rfl) (scRow 256))

/-- The value scales. -/
def vsc : FVec F (T2 1 256) .f32 := scl0 (vmax a 8 (by omega))

/-- The value scales' piece. -/
def H9 : List (View.Piece (Elt F) (T4 1 1 1 256) .f32) :=
  [⟨Rect.unit ![0, 0, 0, 0] (T4 1 1 1 256).size (inb4 (by omega) (by omega) (by omega) (by omega)), shapeCast (T4 1 1 1 256) (vsc a) (scAdd2 1 256)⟩]

/-- The value codes' pieces of the first `n` chunks. -/
def H8 : (n : Nat) → 256 * n ≤ 2048 → List (View.Piece (Elt F) (T3 1 2048 256) .fp8e4m3)
  | 0, _ => []
  | n + 1, h => ⟨R3 0 (256 * n) 0 1 256 256 (by omega) (by omega) (by omega),
      shapeCast (T3 1 256 256) (truncf .fp8e4m3 (mulf (vf a n (by omega))
        (broadcastTo (T2 256 256) (rcp 1 256 (vsc a)) (bcRow 256 256))) (by decide)) (scAdd 256 256)⟩ :: H8 n (by omega)

/-! ## The mask of a diagonal chunk -/

/-- The token of each row: the row over four, rounded down. -/
def tok : IVec (T2 512 128) 32 :=
  select (andi (cmpi .ne (subi
        (extui 32 (cmpi .sgt (iota .tc (T2 512 128) 32 [0] (iotaOk 512 128 0)) (broadcast (T2 512 128) 0#32)) (by decide))
        (extui 32 (cmpi .slt (iota .tc (T2 512 128) 32 [0] (iotaOk 512 128 0)) (broadcast (T2 512 128) 0#32)) (by decide)))
      (broadcast (T2 512 128) (Scalar.subi (Scalar.extui (Scalar.cmpi .sgt 4#32 0#32)) (Scalar.extui (Scalar.cmpi .slt 4#32 0#32)))))
      (cmpi .ne (remsi (iota .tc (T2 512 128) 32 [0] (iotaOk 512 128 0)) (broadcast (T2 512 128) 4#32)) (broadcast (T2 512 128) 0#32)))
    (subi (divsi (iota .tc (T2 512 128) 32 [0] (iotaOk 512 128 0)) (broadcast (T2 512 128) 4#32)) (broadcast (T2 512 128) 1#32))
    (divsi (iota .tc (T2 512 128) 32 [0] (iotaOk 512 128 0)) (broadcast (T2 512 128) 4#32))

/-- Zero at a key not after the row's token, minus infinity after it. -/
def bias : FVec F (T2 512 128) .f32 :=
  select (cmpi .sle (iota .tc (T2 512 128) 32 [1] (iotaOk 512 128 1)) tok)
    (broadcast (T2 512 128) (Scalar.ofBits .f32 0x00000000#32)) (broadcast (T2 512 128) (Scalar.ofBits .f32 0xFF800000#32))

/-! ## One query tile -/

/-- The buffers' pieces so far. -/
structure Bufs (F : FTy → Type) where
  s0 : List (View.Piece (Elt F) (T3 2 512 256) .fp8e4m3)
  s2 : List (View.Piece (Elt F) (T4 2 2 512 128) .f32)
  s3 : List (View.Piece (Elt F) (T3 2 512 128) .f32)
  s4 : List (View.Piece (Elt F) (T3 2 512 128) .f32)
  s5 : List (View.Piece (Elt F) (T3 2 512 2048) .f32)
  s6 : List (View.Piece (Elt F) (T3 2 512 2048) .fp8e4m3)
  s7 : List (View.Piece (Elt F) (T4 2 2 512 128) .f32)
  l3 : List (View.Piece (Elt F) (T3 1 2048 1024) .bf16)
  l4 : List (View.Piece (Elt F) (T3 1 2048 1024) .fp8e4m3)
  l5 : List (View.Piece (Elt F) (T3 1 2048 32) .f32)

/-- Head `h` of tile `i` of the queries. -/
def xf (i h : Nat) (hi : i < 16) (hh : h < 4) : FVec F (T2 128 256) .f32 :=
  extf .f32 (shapeCast (T2 128 256) (View.readAt (Elt F) a.a2.view
    (R3 0 (128 * i) (256 * h) 1 128 256 (by omega) (by omega) (by omega)).toLoadRect (a.h2.unread a.x0)) (scDrop 128 256)) (by decide)
/-- Their scales. -/
def qsc (i h : Nat) (hi : i < 16) (hh : h < 4) : FVec F (T2 128 1) .f32 := scl1 128 (amax1 128 (xf a i h hi hh))
/-- Their codes. -/
def xq (i h : Nat) (hi : i < 16) (hh : h < 4) : FVec F (T2 128 256) .f32 :=
  mulf (xf a i h hi hh) (broadcastTo (T2 128 256) (rcp 128 1 (qsc a i h hi hh)) (bcCol 128 256))

/-- The query scales of tile `i` after the heads below `n`. -/
def qsNew (l5 : List (View.Piece (Elt F) (T3 1 2048 32) .f32)) (i : Nat) (hi : i < 16) : (n : Nat) → n ≤ 4 → FVec F (T2 128 32) .f32
  | 0, _ => shapeCast (T2 128 32) (a.rq l5 (R3 0 (128 * i) 0 1 128 32 (by omega) (by omega) (by omega)).toLoadRect) (scDrop 128 32)
  | n + 1, h => select (cmpi .eq (iota .tc (T2 128 32) 32 [1] (iotaOk 128 32 1))
        (broadcast (T2 128 32) (Scalar.addi (Scalar.muli a.kv 4#32) (BitVec.ofNat 32 n))))
      (broadcastTo (T2 128 32) (shapeCast (T2 128 1) (qsc a i n hi (by omega)) (scSame _)) (bcCol 128 32)) (qsNew l5 i hi n (by omega))

theorem slot_lt (i : Nat) : i % 2 < 2 := Nat.mod_lt _ (by decide)

/-- The interleaved codes after the heads below `n`. -/
def hs2 (st : List (View.Piece (Elt F) (T4 2 2 512 128) .f32)) (i : Nat) (hi : i < 16) : (n : Nat) → n ≤ 4 → List (View.Piece (Elt F) (T4 2 2 512 128) .f32)
  | 0, _ => st
  | n + 1, h =>
    ⟨RS4 (i % 2) 1 n (slot_lt i) (by decide) (by omega),
      shapeCast (T4 1 1 128 128) (extractStridedSlice (T2 128 128) ![0, 128] (xq a i n hi (by omega)) (slOk 128 256 128 128 (by decide))) (scAdd2 128 128)⟩ ::
    ⟨RS4 (i % 2) 0 n (slot_lt i) (by decide) (by omega),
      shapeCast (T4 1 1 128 128) (extractStridedSlice (T2 128 128) ![0, 0] (xq a i n hi (by omega)) (slOk 128 256 128 0 (by decide))) (scAdd2 128 128)⟩ ::
    hs2 st i hi n (by omega)

/-- The interleaved exponent factors after the heads below `n`. -/
def hs3 (st : List (View.Piece (Elt F) (T3 2 512 128) .f32)) (i : Nat) (hi : i < 16) : (n : Nat) → n ≤ 4 → List (View.Piece (Elt F) (T3 2 512 128) .f32)
  | 0, _ => st
  | n + 1, h =>
    ⟨RS3 (i % 2) n (slot_lt i) (by omega),
      shapeCast (T3 1 128 128) (broadcastTo (T2 128 128) (shapeCast (T2 128 1)
        (mulf (qsc a i n hi (by omega)) (broadcast (T2 128 1) (Named.named κ "log2e_16" 0x3DB8AA3B#32))) (scSame _)) (bcCol 128 128)) (scAdd 128 128)⟩ ::
    hs3 st i hi n (by omega)

/-- A whole half of slot `b`. -/
abbrev RH (b half : Nat) (hb : b < 2) (hh : half < 2) : Rect (T4 2 2 512 128) :=
  Rect.unit ![b, half, 0, 0] (T4 1 1 512 128).size (inb4 (by omega) (by omega) (by omega) (by omega))

/-- The stacked codes. -/
def hs0 (s2 : List (View.Piece (Elt F) (T4 2 2 512 128) .f32)) (st : List (View.Piece (Elt F) (T3 2 512 256) .fp8e4m3)) (i : Nat) :
    List (View.Piece (Elt F) (T3 2 512 256) .fp8e4m3) :=
  ⟨R3 (i % 2) 0 128 1 512 128 (by omega) (by omega) (by omega),
    shapeCast (T3 1 512 128) (truncf .fp8e4m3 (shapeCast (T2 512 128) (a.a14.view.readCov s2 (RH (i % 2) 1 (slot_lt i) (by decide)).toLoadRect) (scDrop2 512 128)) (by decide)) (scAdd 512 128)⟩ ::
  ⟨R3 (i % 2) 0 0 1 512 128 (by omega) (by omega) (by omega),
    shapeCast (T3 1 512 128) (truncf .fp8e4m3 (shapeCast (T2 512 128) (a.a14.view.readCov s2 (RH (i % 2) 0 (slot_lt i) (by decide)).toLoadRect) (scDrop2 512 128)) (by decide)) (scAdd 512 128)⟩ ::
  st

theorem catOk : Shape.Concatenates [T2 128 128, T2 128 128] (T2 128 256) 1 := by decide

/-- Head `h` of an interleaved buffer. -/
def head (m : Memref sig .tc .vmem (T4 2 2 512 128) .f32) (s : List (View.Piece (Elt F) (T4 2 2 512 128) .f32)) (i h : Nat) (hh : h < 4) : FVec F (T2 128 256) .f32 :=
  concatenate (T2 128 256) 1
    [⟨T2 128 128, shapeCast (T2 128 128) (m.view.readCov s (RS4 (i % 2) 0 h (slot_lt i) (by decide) hh).toLoadRect) (scDrop2 128 128)⟩,
     ⟨T2 128 128, shapeCast (T2 128 128) (m.view.readCov s (RS4 (i % 2) 1 h (slot_lt i) (by decide) hh).toLoadRect) (scDrop2 128 128)⟩] catOk

/-- The query codes' pieces after the heads below `n`. -/
def l4 (s2 : List (View.Piece (Elt F) (T4 2 2 512 128) .f32)) (st : List (View.Piece (Elt F) (T3 1 2048 1024) .fp8e4m3)) (i : Nat) (hi : i < 16) :
    (n : Nat) → n ≤ 4 → List (View.Piece (Elt F) (T3 1 2048 1024) .fp8e4m3)
  | 0, _ => st
  | n + 1, h =>
    ⟨R3 0 (128 * i) (256 * n) 1 128 256 (by omega) (by omega) (by omega),
      shapeCast (T3 1 128 256) (truncf .fp8e4m3 (head a.a14 s2 i n (by omega)) (by decide)) (scAdd 128 256)⟩ :: l4 s2 st i hi n (by omega)

theorem ne1 : ([1] : List (Fin 2)) ≠ [] := by decide
theorem pw0 : ([0] : List (Fin 2)).Pairwise (· < ·) := by decide
theorem pw1 : ([1] : List (Fin 2)).Pairwise (· < ·) := by decide
theorem pm01 : ([] ++ [0] ++ [1] : List (Fin 2)).Perm (List.finRange 2) := by decide
theorem pm10 : ([] ++ [1] ++ [0] : List (Fin 2)).Perm (List.finRange 2) := by decide

/-- The dimension numbers of the scores' product. -/
abbrev dotQK (n : Nat) : DotDims (T2 512 256) (T2 n 256) (T2 512 n) where
  lhsContracting := [1]
  rhsContracting := [1]
  lhsNonContracting := [0]
  rhsNonContracting := [0]
  lhsBatch := []
  rhsBatch := []
  wf := by
    refine ⟨rfl, ne1, rfl, by simp, pw0, pw0, pm01, pm01, rfl, Nat.two_pos, fun b => ?_⟩
    match b with | ⟨0, _⟩ => rfl | ⟨1, _⟩ => rfl

/-- The dimension numbers of the values' product. -/
abbrev dotPV (n : Nat) : DotDims (T2 512 n) (T2 n 256) (T2 512 256) where
  lhsContracting := [1]
  rhsContracting := [0]
  lhsNonContracting := [0]
  rhsNonContracting := [1]
  lhsBatch := []
  rhsBatch := []
  wf := by
    refine ⟨rfl, ne1, rfl, by simp, pw0, pw1, pm01, pm10, rfl, Nat.two_pos, fun b => ?_⟩
    match b with | ⟨0, _⟩ => rfl | ⟨1, _⟩ => rfl

/-- The stacked codes, loaded. -/
def q8 (s0 : List (View.Piece (Elt F) (T3 2 512 256) .fp8e4m3)) (i : Nat) : FVec F (T2 512 256) .fp8e4m3 :=
  shapeCast (T2 512 256) (a.a12.view.readCov s0 (R3 (i % 2) 0 0 1 512 256 (by omega) (by omega) (by omega)).toLoadRect) (scDrop 512 256)

/-- The products of the stacked codes with `w` keys from key `o` on. -/
def raw (q : FVec F (T2 512 256) .fp8e4m3) (o w : Nat) (h : o + w ≤ 2048) : FVec F (T2 512 w) .f32 :=
  matmul (dotQK w) none q (shapeCast (T2 w 256) (a.a8.view.readCov (H6 a 8 (by omega)) (R3 0 o 0 1 w 256 (by omega) h (by omega)).toLoadRect) (scDrop w 256))
    (constant (T2 512 w) .f32 0x00000000#32)

/-- The key scales of chunk `n`, in every row. -/
def ksr (n : Nat) (h : 128 * n + 128 ≤ 2048) : FVec F (T2 512 128) .f32 :=
  broadcastTo (T2 512 128) (a.a13.view.readCov (HS1 a 8 (by omega))
    (Rect.unit ![0, 128 * n] (T2 1 128).size (inb2 (l := 0) (by omega) h) : Rect (T2 8 2048)).toLoadRect) (bcRow 512 128)

/-- The piece of the scores of chunk `n`. -/
def pc5 (i n : Nat) (h : 128 * n + 128 ≤ 2048) (t : FVec F (T2 512 128) .f32) : View.Piece (Elt F) (T3 2 512 2048) .f32 :=
  ⟨R3 (i % 2) 0 (128 * n) 1 512 128 (by omega) (by omega) h, shapeCast (T3 1 512 128) t (scAdd 512 128)⟩

/-- A whole slot. -/
abbrev RW (b : Nat) (hb : b < 2) : Rect (T3 2 512 128) := R3 b 0 0 1 512 128 (by omega) (by omega) (by omega)

/-- The scores' and the running maxima's pieces. -/
structure SB (F : FTy → Type) where
  s4 : List (View.Piece (Elt F) (T3 2 512 128) .f32)
  s5 : List (View.Piece (Elt F) (T3 2 512 2048) .f32)

/-- The running maxima, loaded. -/
def ldm (s4 : List (View.Piece (Elt F) (T3 2 512 128) .f32)) (i : Nat) : FVec F (T2 512 128) .f32 :=
  shapeCast (T2 512 128) (a.a16.view.readCov s4 (RW (i % 2) (slot_lt i)).toLoadRect) (scDrop 512 128)

/-- The scores of the chunk at `n` of block `o`. -/
def scoreA (q : FVec F (T2 512 256) .fp8e4m3) (j : Nat) (h : 256 * j + 256 ≤ 2048) : FVec F (T2 512 128) .f32 :=
  mulf (extractStridedSlice (T2 512 128) ![0, 0] (raw a q (256 * j) 256 h) (slOk 512 256 128 0 (by decide))) (ksr a (2 * j) (by omega))
def scoreB (q : FVec F (T2 512 256) .fp8e4m3) (j : Nat) (h : 256 * j + 256 ≤ 2048) : FVec F (T2 512 128) .f32 :=
  mulf (extractStridedSlice (T2 512 128) ![0, 128] (raw a q (256 * j) 256 h) (slOk 512 256 128 128 (by decide))) (ksr a (2 * j + 1) (by omega))
def scoreH (q : FVec F (T2 512 256) .fp8e4m3) (n : Nat) (h : 128 * n + 128 ≤ 2048) : FVec F (T2 512 128) .f32 :=
  addf (mulf (raw a q (128 * n) 128 h) (ksr a n h)) bias

/-- The running maxima after a block's two chunks. -/
def mx2 (s4 : List (View.Piece (Elt F) (T3 2 512 128) .f32)) (i j : Nat) (tA tB : FVec F (T2 512 128) .f32) : FVec F (T2 512 128) .f32 :=
  match j with
  | 0 => maximumf tA tB
  | _ + 1 => maximumf (maximumf (ldm a s4 i) tA) tB
def mx1 (s4 : List (View.Piece (Elt F) (T3 2 512 128) .f32)) (i : Nat) (t : FVec F (T2 512 128) .f32) : FVec F (T2 512 128) .f32 :=
  match i with
  | 0 => t
  | k + 1 => maximumf (ldm a s4 (k + 1)) t

/-- A block of two chunks stored. -/
def blk (st : SB F) (i j : Nat) (h : 256 * j + 256 ≤ 2048) (tA tB : FVec F (T2 512 128) .f32) : SB F where
  s4 := ⟨RW (i % 2) (slot_lt i), shapeCast (T3 1 512 128) (mx2 a st.s4 i j tA tB) (scAdd 512 128)⟩ :: st.s4
  s5 := pc5 i (2 * j + 1) (by omega) tB :: pc5 i (2 * j) (by omega) tA :: st.s5

/-- The blocks before the diagonal. -/
def full (q : FVec F (T2 512 256) .fp8e4m3) (st : SB F) (i : Nat) : (n : Nat) → 256 * n ≤ 2048 → SB F
  | 0, _ => st
  | n + 1, h => blk a (full q st i n (by omega)) i n (by omega) (scoreA a q n (by omega)) (scoreB a q n (by omega))

/-- All the blocks of tile `i`: the diagonal chunk is the last. -/
def blocks (q : FVec F (T2 512 256) .fp8e4m3) (st : SB F) (i : Nat) (hi : i < 16) : SB F :=
  bif Nat.beq (i % 2) 0 then
    { s4 := ⟨RW (i % 2) (slot_lt i), shapeCast (T3 1 512 128)
        (mx1 a (full a q st i (i / 2) (by omega)).s4 i (scoreH a q i (by omega))) (scAdd 512 128)⟩ :: (full a q st i (i / 2) (by omega)).s4
      s5 := pc5 i i (by omega) (scoreH a q i (by omega)) :: (full a q st i (i / 2) (by omega)).s5 }
  else if h : 256 * (i / 2) + 256 ≤ 2048 then
    blk a (full a q st i (i / 2) (by omega)) i (i / 2) h (scoreA a q (i / 2) h) (addf (scoreB a q (i / 2) h) bias)
  else st

/-- The exponent factors, loaded. -/
def ldc (s3 : List (View.Piece (Elt F) (T3 2 512 128) .f32)) (i : Nat) : FVec F (T2 512 128) .f32 :=
  shapeCast (T2 512 128) (a.a15.view.readCov s3 (RW (i % 2) (slot_lt i)).toLoadRect) (scDrop 512 128)

/-- The exponent's offset of each row. -/
def mcv (c m : FVec F (T2 512 128) .f32) : FVec F (T2 512 128) .f32 :=
  subf (mulf (broadcastTo (T2 512 128) (shapeCast (T2 512 1)
    (multiReduction .maximumf [1] (T1 512) m 0xFF800000#32 (red1 512 128) (.inl rfl) rfl) (scCol 512)) (bcCol 512 128)) c)
    (broadcast (T2 512 128) (Scalar.ofBits .f32 0x41000000#32))

/-- The weights of chunk `n`. -/
def pw (s5 : List (View.Piece (Elt F) (T3 2 512 2048) .f32)) (c mc : FVec F (T2 512 128) .f32) (i n : Nat) (h : 128 * n + 128 ≤ 2048) : FVec F (T2 512 128) .f32 :=
  exp2 (subf (mulf (shapeCast (T2 512 128) (a.a17.view.readCov s5
    (R3 (i % 2) 0 (128 * n) 1 512 128 (by omega) (by omega) h).toLoadRect) (scDrop 512 128)) c) mc)

/-- The weights' sum over chunks `0 … n`. -/
def acc (s5 : List (View.Piece (Elt F) (T3 2 512 2048) .f32)) (c mc : FVec F (T2 512 128) .f32) (i : Nat) : (n : Nat) → 128 * n + 128 ≤ 2048 → FVec F (T2 512 128) .f32
  | 0, h => pw a s5 c mc i 0 h
  | n + 1, h => addf (acc s5 c mc i n (by omega)) (pw a s5 c mc i (n + 1) h)

/-- The weights' pieces of the first `n` chunks. -/
def hs6 (s5 : List (View.Piece (Elt F) (T3 2 512 2048) .f32)) (c mc : FVec F (T2 512 128) .f32) (st : List (View.Piece (Elt F) (T3 2 512 2048) .fp8e4m3)) (i : Nat) :
    (n : Nat) → 128 * n ≤ 2048 → List (View.Piece (Elt F) (T3 2 512 2048) .fp8e4m3)
  | 0, _ => st
  | n + 1, h => ⟨R3 (i % 2) 0 (128 * n) 1 512 128 (by omega) (by omega) (by omega),
      shapeCast (T3 1 512 128) (truncf .fp8e4m3 (pw a s5 c mc i n (by omega)) (by decide)) (scAdd 512 128)⟩ :: hs6 s5 c mc st i n (by omega)

/-- One over the weights' sums. -/
def rl (acc : FVec F (T2 512 128) .f32) : FVec F (T2 512 128) .f32 :=
  broadcastTo (T2 512 128) (shapeCast (T2 512 1) (reciprocal true (shapeCast (T2 512 1)
    (multiReduction .add [1] (T1 512) acc 0x00000000#32 (red1 512 128) (.inl rfl) rfl) (scCol 512))) (scSame _)) (bcCol 512 128)

/-- The weights' product with the value codes. -/
def ov (s6 : List (View.Piece (Elt F) (T3 2 512 2048) .fp8e4m3)) (i nk : Nat) (h : nk ≤ 2048) : FVec F (T2 512 256) .f32 :=
  matmul (dotPV nk) none
    (shapeCast (T2 512 nk) (a.a18.view.readCov s6 (R3 (i % 2) 0 0 1 512 nk (by omega) (by omega) (by omega)).toLoadRect) (scDrop 512 nk))
    (shapeCast (T2 nk 256) (a.a10.view.readCov (H8 a 8 (by omega)) (R3 0 0 0 1 nk 256 (by omega) (by omega) (by omega)).toLoadRect) (scDrop nk 256))
    (constant (T2 512 256) .f32 0x00000000#32)

/-- The two halves of the weighted means stored. -/
def sto (o : FVec F (T2 512 256) .f32) (r : FVec F (T2 512 128) .f32) (st : List (View.Piece (Elt F) (T4 2 2 512 128) .f32)) (i : Nat) :
    List (View.Piece (Elt F) (T4 2 2 512 128) .f32) :=
  ⟨RH (i % 2) 1 (slot_lt i) (by decide), shapeCast (T4 1 1 512 128)
    (mulf (extractStridedSlice (T2 512 128) ![0, 128] o (slOk 512 256 128 128 (by decide))) r) (scAdd2 512 128)⟩ ::
  ⟨RH (i % 2) 0 (slot_lt i) (by decide), shapeCast (T4 1 1 512 128)
    (mulf (extractStridedSlice (T2 512 128) ![0, 0] o (slOk 512 256 128 0 (by decide))) r) (scAdd2 512 128)⟩ :: st

/-- The results' pieces after the heads below `n`. -/
def l3 (s7 : List (View.Piece (Elt F) (T4 2 2 512 128) .f32)) (st : List (View.Piece (Elt F) (T3 1 2048 1024) .bf16)) (i : Nat) (hi : i < 16) :
    (n : Nat) → n ≤ 4 → List (View.Piece (Elt F) (T3 1 2048 1024) .bf16)
  | 0, _ => st
  | n + 1, h =>
    ⟨R3 0 (128 * i) (256 * n) 1 128 256 (by omega) (by omega) (by omega),
      shapeCast (T3 1 128 256) (truncf .bf16 (mulf (head a.a19 s7 i n (by omega))
        (broadcastTo (T2 128 256) (vsc a) (bcRow 128 256))) (by decide)) (scAdd 128 256)⟩ :: l3 s7 st i hi n (by omega)

section Step
variable (st : Bufs F) (i : Nat) (hi : i < 16)
def n2 := hs2 a st.s2 i hi 4 (Nat.le_refl _)
def n3 := hs3 a st.s3 i hi 4 (Nat.le_refl _)
def n0 := hs0 a (n2 a st i hi) st.s0 i
def nq := q8 a (n0 a st i hi) i
def nsb := blocks a (nq a st i hi) ⟨st.s4, st.s5⟩ i hi
def nc := ldc a (n3 a st i hi) i
def nmc := mcv (nc a st i hi) (ldm a (nsb a st i hi).s4 i)
def nacc := acc a (nsb a st i hi).s5 (nc a st i hi) (nmc a st i hi) i i (by omega)
def n6 := hs6 a (nsb a st i hi).s5 (nc a st i hi) (nmc a st i hi) st.s6 i (i + 1) (by omega)
def n3' : List (View.Piece (Elt F) (T3 2 512 128) .f32) :=
  ⟨RW (i % 2) (slot_lt i), shapeCast (T3 1 512 128) (rl (nacc a st i hi)) (scAdd 512 128)⟩ :: n3 a st i hi
def n7 := sto (ov a (n6 a st i hi) i (128 * (i + 1)) (by omega)) (ldc a (n3' a st i hi) i) st.s7 i

/-- One query tile: the buffers after it. -/
def step : Bufs F where
  s0 := n0 a st i hi
  s2 := n2 a st i hi
  s3 := n3' a st i hi
  s4 := (nsb a st i hi).s4
  s5 := (nsb a st i hi).s5
  s6 := n6 a st i hi
  s7 := n7 a st i hi
  l3 := l3 a (n7 a st i hi) st.l3 i hi 4 (Nat.le_refl _)
  l4 := l4 a (n2 a st i hi) st.l4 i hi 4 (Nat.le_refl _)
  l5 := ⟨R3 0 (128 * i) 0 1 128 32 (by omega) (by omega) (by omega), shapeCast (T3 1 128 32) (qsNew a st.l5 i hi 4 (Nat.le_refl _)) (scAdd 128 32)⟩ :: st.l5
end Step

/-- The buffers after the first `n` tiles, the query scales' pieces starting from `z`. -/
def tiles (z : List (View.Piece (Elt F) (T3 1 2048 32) .f32)) : (n : Nat) → n ≤ 16 → Bufs F
  | 0, _ => ⟨[], [], [], [], [], [], [], [], [], z⟩
  | n + 1, h => step a (tiles z n (by omega)) n (by omega)

end Cert.Gqa
-- ==== Proof.Bridge.lean ====
module

public import proofs.«01_k».proof.Proof.Tile

@[expose] public section

set_option maxRecDepth 65536
set_option maxHeartbeats 0

noncomputable section

/-! The frame's two runs of the body write the pieces of `Tile`. -/

namespace Cert.Gqa

open Cert.KernelIdeal Cert.KernelIdeal.Gen Idealize.ShloMosaic Idealize.ShloMosaic.TcCoe Idealize.SL.Sem Idealize.ShloMosaic.Tactic

variable {F : FTy → Type} [FloatOps F] [Named F]

section
variable (c : Dev nD) (i : grid0.Coords)
  (arg2 : Memref sig .tc .vmem S1x2048x1024 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x1024 .bf16) (harg5 : arg5.IsWhole)
  (arg6 : Memref sig .tc .vmem S1x2048x1024 .fp8e4m3) (harg6 : arg6.IsWhole) (arg7 : Memref sig .tc .vmem S1x2048x32 .f32) (harg7 : arg7.IsWhole)
  (arg8 : Memref sig .tc .vmem S1x2048x256 .fp8e4m3) (harg8 : arg8.IsWhole) (arg9 : Memref sig .tc .vmem S1x2048x8 .f32) (harg9 : arg9.IsWhole)
  (arg10 : Memref sig .tc .vmem S1x2048x256 .fp8e4m3) (harg10 : arg10.IsWhole) (arg11 : Memref sig .tc .vmem S1x1x1x256 .f32) (harg11 : arg11.IsWhole)
  (arg12 : Memref sig .tc .vmem S2x512x256 .fp8e4m3) (harg12 : arg12.IsWhole) (arg13 : Memref sig .tc .vmem S8x2048 .f32) (harg13 : arg13.IsWhole)
  (arg14 : Memref sig .tc .vmem S2x2x512x128 .f32) (harg14 : arg14.IsWhole) (arg15 : Memref sig .tc .vmem S2x512x128 .f32) (harg15 : arg15.IsWhole)
  (arg16 : Memref sig .tc .vmem S2x512x128 .f32) (harg16 : arg16.IsWhole) (arg17 : Memref sig .tc .vmem S2x512x2048 .f32) (harg17 : arg17.IsWhole)
  (arg18 : Memref sig .tc .vmem S2x512x2048 .fp8e4m3) (harg18 : arg18.IsWhole) (arg19 : Memref sig .tc .vmem S2x2x512x128 .f32) (harg19 : arg19.IsWhole)
  (x0 : Vec F S1x2048x1024 .bf16) (x1 : Vec F S1x2048x256 .bf16) (x2 : Vec F S1x2048x256 .bf16)

/-- What the body is run on when it reads its own zeros in the scales' blocks. -/
def argsA : Args F :=
  ⟨arg2, harg2, arg3, harg3, arg4, harg4, arg8, arg10, arg12, arg13, arg14, arg15, arg16, arg17, arg18, arg19, BitVec.ofNat 32 (i 1).val, x0, x1, x2,
    fun L B => arg7.view.readCov L B, fun L B => arg9.view.readCov L B⟩

/-- What the body is run on when it reads `xo5` and `xo7` in the scales' blocks. -/
def argsB (xo5 : Vec F S1x2048x32 .f32) (xo7 : Vec F S1x2048x8 .f32) : Args F :=
  ⟨arg2, harg2, arg3, harg3, arg4, harg4, arg8, arg10, arg12, arg13, arg14, arg15, arg16, arg17, arg18, arg19, BitVec.ofNat 32 (i 1).val, x0, x1, x2,
    fun L B => View.readAt (Elt F) arg7.view B (harg7.unread xo5), fun L B => View.readAt (Elt F) arg9.view B (harg9.unread xo7)⟩

/-- The zero pieces of the scales' blocks. -/
def z5 : List (View.Piece (Elt F) (T3 1 2048 32) .f32) :=
  [⟨Rect.unit ![0, 0, 0] (T3 1 2048 32).size (inb3 (by omega) (by omega) (by omega)), broadcast (T3 1 2048 32) (Scalar.ofBits .f32 0x00000000#32)⟩]
def z7 : List (View.Piece (Elt F) (T3 1 2048 8) .f32) :=
  [⟨Rect.unit ![0, 0, 0] (T3 1 2048 8).size (inb3 (by omega) (by omega) (by omega)), broadcast (T3 1 2048 8) (Scalar.ofBits .f32 0x00000000#32)⟩]

theorem runA_L3 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).1
      = (tiles (argsA i arg2 harg2 arg3 harg3 arg4 harg4 arg7 arg8 arg9 arg10 arg12 arg13 arg14 arg15 arg16 arg17 arg18 arg19 x0 x1 x2) z5 16 (Nat.le_refl _)).l3 := by
  sl_kernel_rfl

theorem runA_L4 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).2.1
      = (tiles (argsA i arg2 harg2 arg3 harg3 arg4 harg4 arg7 arg8 arg9 arg10 arg12 arg13 arg14 arg15 arg16 arg17 arg18 arg19 x0 x1 x2) z5 16 (Nat.le_refl _)).l4 := by
  sl_kernel_rfl

theorem runA_L5 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).2.2.1
      = (tiles (argsA i arg2 harg2 arg3 harg3 arg4 harg4 arg7 arg8 arg9 arg10 arg12 arg13 arg14 arg15 arg16 arg17 arg18 arg19 x0 x1 x2) z5 16 (Nat.le_refl _)).l5 := by
  sl_kernel_rfl

theorem runA_L6 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).2.2.2.1
      = H6 (argsA i arg2 harg2 arg3 harg3 arg4 harg4 arg7 arg8 arg9 arg10 arg12 arg13 arg14 arg15 arg16 arg17 arg18 arg19 x0 x1 x2) 8 (by omega) := by
  sl_kernel_rfl

theorem runA_L7 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).2.2.2.2.1
      = H7 (argsA i arg2 harg2 arg3 harg3 arg4 harg4 arg7 arg8 arg9 arg10 arg12 arg13 arg14 arg15 arg16 arg17 arg18 arg19 x0 x1 x2) z7 8 (by omega) := by
  sl_kernel_rfl

theorem runA_L8 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).2.2.2.2.2.1
      = H8 (argsA i arg2 harg2 arg3 harg3 arg4 harg4 arg7 arg8 arg9 arg10 arg12 arg13 arg14 arg15 arg16 arg17 arg18 arg19 x0 x1 x2) 8 (by omega) := by
  sl_kernel_rfl

theorem runA_L9 (hc0 : cond0_0 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2).2.2.2.2.2.2.1
      = H9 (argsA i arg2 harg2 arg3 harg3 arg4 harg4 arg7 arg8 arg9 arg10 arg12 arg13 arg14 arg15 arg16 arg17 arg18 arg19 x0 x1 x2) := by
  sl_kernel_rfl

theorem runB_L3 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).1
      = (tiles (argsB i arg2 harg2 arg3 harg3 arg4 harg4 arg7 harg7 arg8 arg9 harg9 arg10 arg12 arg13 arg14 arg15 arg16 arg17 arg18 arg19 x0 x1 x2 xo5 xo7) [] 16 (Nat.le_refl _)).l3 := by
  sl_kernel_rfl

theorem runB_L4 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).2.1
      = (tiles (argsB i arg2 harg2 arg3 harg3 arg4 harg4 arg7 harg7 arg8 arg9 harg9 arg10 arg12 arg13 arg14 arg15 arg16 arg17 arg18 arg19 x0 x1 x2 xo5 xo7) [] 16 (Nat.le_refl _)).l4 := by
  sl_kernel_rfl

theorem runB_L5 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).2.2.1
      = (tiles (argsB i arg2 harg2 arg3 harg3 arg4 harg4 arg7 harg7 arg8 arg9 harg9 arg10 arg12 arg13 arg14 arg15 arg16 arg17 arg18 arg19 x0 x1 x2 xo5 xo7) [] 16 (Nat.le_refl _)).l5 := by
  sl_kernel_rfl

theorem runB_L6 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).2.2.2.1
      = H6 (argsB i arg2 harg2 arg3 harg3 arg4 harg4 arg7 harg7 arg8 arg9 harg9 arg10 arg12 arg13 arg14 arg15 arg16 arg17 arg18 arg19 x0 x1 x2 xo5 xo7) 8 (by omega) := by
  sl_kernel_rfl

theorem runB_L7 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).2.2.2.2.1
      = H7 (argsB i arg2 harg2 arg3 harg3 arg4 harg4 arg7 harg7 arg8 arg9 harg9 arg10 arg12 arg13 arg14 arg15 arg16 arg17 arg18 arg19 x0 x1 x2 xo5 xo7) [] 8 (by omega) := by
  sl_kernel_rfl

theorem runB_L8 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).2.2.2.2.2.1
      = H8 (argsB i arg2 harg2 arg3 harg3 arg4 harg4 arg7 harg7 arg8 arg9 harg9 arg10 arg12 arg13 arg14 arg15 arg16 arg17 arg18 arg19 x0 x1 x2 xo5 xo7) 8 (by omega) := by
  sl_kernel_rfl

theorem runB_L9 (hc0 : ¬cond0_0 i) (xo5 : Vec F S1x2048x32 .f32) (xo7 : Vec F S1x2048x8 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7).2.2.2.2.2.2.1
      = H9 (argsB i arg2 harg2 arg3 harg3 arg4 harg4 arg7 harg7 arg8 arg9 harg9 arg10 arg12 arg13 arg14 arg15 arg16 arg17 arg18 arg19 x0 x1 x2 xo5 xo7) := by
  sl_kernel_rfl

end

end Cert.Gqa
-- ==== Proof.Canon.lean ====
module

public import proofs.«01_k».proof.Proof.Tile
public import Idealize.ShloMosaic.Lib.Pointwise

@[expose] public section

set_option maxRecDepth 16384

noncomputable section

/-! What a list of stored pieces holds at an index: the last piece that covers it. -/

namespace Cert.Gqa

open Cert.KernelIdeal Idealize.ShloMosaic Idealize.ShloMosaic.TcCoe Idealize.SL.Sem

variable {V : EltTy → Type} [∀ e, Nonempty (V e)] {e : EltTy}

theorem hit {s : Shape} (r : Rect s) (w : r.shape.Idx → V e) (L : List (View.Piece V s e)) (y : s.Idx) (x : r.shape.Idx)
    (h : ∀ a, (y a : ℕ) = r.off a + r.stride a * (x a).val) : View.canon (⟨r, w⟩ :: L) y = w x := by
  have : y = r.emb x := funext fun a => Fin.ext (h a)
  rw [this, View.canon_cons_emb]

theorem miss {s : Shape} (r : Rect s) (w : r.shape.Idx → V e) (L : List (View.Piece V s e)) (y : s.Idx)
    (h : ∀ x : r.shape.Idx, ¬ ∀ a, (y a : ℕ) = r.off a + r.stride a * (x a).val) : View.canon (⟨r, w⟩ :: L) y = View.canon L y := by
  refine View.canon_cons_of_not_mem _ _ fun hy => ?_
  rw [← Rect.map_emb_univ, Finset.mem_map] at hy
  obtain ⟨x, _, rfl⟩ := hy
  exact h x fun a => rfl

section R3
variable {l m n : ℕ} (a b c l' m' n' : ℕ) (h0 : a + l' ≤ l) (h1 : b + m' ≤ m) (h2 : c + n' ≤ n)

theorem hit3 (w : (R3 a b c l' m' n' h0 h1 h2).shape.Idx → V e) (L : List (View.Piece V (T3 l m n) e)) (y : (T3 l m n).Idx)
    (x0 : Fin l') (x1 : Fin m') (x2 : Fin n') (e0 : (y 0).val = a + x0.val) (e1 : (y 1).val = b + x1.val) (e2 : (y 2).val = c + x2.val) :
    View.canon (⟨R3 a b c l' m' n' h0 h1 h2, w⟩ :: L) y = w (ix3 x0 x1 x2) :=
  hit _ w L y _ fun k => match k with
    | ⟨0, _⟩ => by show (y 0).val = a + 1 * x0.val; omega
    | ⟨1, _⟩ => by show (y 1).val = b + 1 * x1.val; omega
    | ⟨2, _⟩ => by show (y 2).val = c + 1 * x2.val; omega

theorem miss3 (w : (R3 a b c l' m' n' h0 h1 h2).shape.Idx → V e) (L : List (View.Piece V (T3 l m n) e)) (y : (T3 l m n).Idx)
    (h : ¬ (a ≤ (y 0).val ∧ (y 0).val < a + l' ∧ b ≤ (y 1).val ∧ (y 1).val < b + m' ∧ c ≤ (y 2).val ∧ (y 2).val < c + n')) :
    View.canon (⟨R3 a b c l' m' n' h0 h1 h2, w⟩ :: L) y = View.canon L y := by
  refine miss _ w L y fun x hx => h ?_
  have k0 : (y 0).val = a + 1 * (x 0).val := hx 0
  have k1 : (y 1).val = b + 1 * (x 1).val := hx 1
  have k2 : (y 2).val = c + 1 * (x 2).val := hx 2
  have q0 : (x 0).val < l' := (x 0).isLt
  have q1 : (x 1).val < m' := (x 1).isLt
  have q2 : (x 2).val < n' := (x 2).isLt
  omega

theorem rd3 {sg : RefSig} {κ : Kind} {sp : Space} (v : View sg κ sp (T3 l m n) e) (L : List (View.Piece V (T3 l m n) e)) (x0 : Fin l') (x1 : Fin m') (x2 : Fin n') :
    v.readCov L (R3 a b c l' m' n' h0 h1 h2).toLoadRect (ix3 x0 x1 x2)
      = View.canon L (ix3 (⟨a + x0.val, by have := x0.isLt; omega⟩ : Fin l) (⟨b + x1.val, by have := x1.isLt; omega⟩ : Fin m) (⟨c + x2.val, by have := x2.isLt; omega⟩ : Fin n)) := by
  rw [View.readCov_eq_canon']
  refine congrArg (View.canon L) (funext fun k => Fin.ext ?_)
  match k with
    | ⟨0, _⟩ => show a + 1 * x0.val = a + x0.val; omega
    | ⟨1, _⟩ => show b + 1 * x1.val = b + x1.val; omega
    | ⟨2, _⟩ => show c + 1 * x2.val = c + x2.val; omega
end R3

section R2
variable {m n : ℕ} (b c m' n' : ℕ) (h : ∀ k, (![b, c] : Fin 2 → Nat) k + (T2 m' n').size k ≤ (T2 m n).size k)

theorem hit2 (w : (Rect.unit (s := T2 m n) ![b, c] (T2 m' n').size h).shape.Idx → V e) (L : List (View.Piece V (T2 m n) e)) (y : (T2 m n).Idx)
    (x1 : Fin m') (x2 : Fin n') (e1 : (y 0).val = b + x1.val) (e2 : (y 1).val = c + x2.val) :
    View.canon (⟨Rect.unit (s := T2 m n) ![b, c] (T2 m' n').size h, w⟩ :: L) y = w (ix2 x1 x2) :=
  hit _ w L y _ fun k => match k with
    | ⟨0, _⟩ => by show (y 0).val = b + 1 * x1.val; omega
    | ⟨1, _⟩ => by show (y 1).val = c + 1 * x2.val; omega

theorem miss2 (w : (Rect.unit (s := T2 m n) ![b, c] (T2 m' n').size h).shape.Idx → V e) (L : List (View.Piece V (T2 m n) e)) (y : (T2 m n).Idx)
    (hh : ¬ (b ≤ (y 0).val ∧ (y 0).val < b + m' ∧ c ≤ (y 1).val ∧ (y 1).val < c + n')) :
    View.canon (⟨Rect.unit (s := T2 m n) ![b, c] (T2 m' n').size h, w⟩ :: L) y = View.canon L y := by
  refine miss _ w L y fun x hx => hh ?_
  have k0 : (y 0).val = b + 1 * (x 0).val := hx 0
  have k1 : (y 1).val = c + 1 * (x 1).val := hx 1
  have q0 : (x 0).val < m' := (x 0).isLt
  have q1 : (x 1).val < n' := (x 1).isLt
  omega

theorem rd2 {sg : RefSig} {κ : Kind} {sp : Space} (v : View sg κ sp (T2 m n) e) (L : List (View.Piece V (T2 m n) e)) (x1 : Fin m') (x2 : Fin n')
    (hm : b + m' ≤ m) (hn : c + n' ≤ n) :
    v.readCov L (Rect.unit (s := T2 m n) ![b, c] (T2 m' n').size h).toLoadRect (ix2 x1 x2)
      = View.canon L (ix2 (⟨b + x1.val, by have := x1.isLt; omega⟩ : Fin m) (⟨c + x2.val, by have := x2.isLt; omega⟩ : Fin n)) := by
  rw [View.readCov_eq_canon']
  refine congrArg (View.canon L) (funext fun k => Fin.ext ?_)
  match k with
    | ⟨0, _⟩ => show b + 1 * x1.val = b + x1.val; omega
    | ⟨1, _⟩ => show c + 1 * x2.val = c + x2.val; omega
end R2

section RS4
variable (b half h : ℕ) (hb : b < 2) (hh : half < 2) (hr : h < 4)

theorem hitS4 (w : (RS4 b half h hb hh hr).shape.Idx → V e) (L : List (View.Piece V (T4 2 2 512 128) e)) (y : (T4 2 2 512 128).Idx)
    (x2 x3 : Fin 128) (e0 : (y 0).val = b) (e1 : (y 1).val = half) (e2 : (y 2).val = h + 4 * x2.val) (e3 : (y 3).val = x3.val) :
    View.canon (⟨RS4 b half h hb hh hr, w⟩ :: L) y = w (ix4 (0 : Fin 1) (0 : Fin 1) x2 x3) :=
  hit _ w L y (ix4 (0 : Fin 1) (0 : Fin 1) x2 x3) fun k => match k with
    | ⟨0, _⟩ => by show (y 0).val = b + 1 * 0; omega
    | ⟨1, _⟩ => by show (y 1).val = half + 1 * 0; omega
    | ⟨2, _⟩ => by show (y 2).val = h + 4 * x2.val; omega
    | ⟨3, _⟩ => by show (y 3).val = 0 + 1 * x3.val; omega

theorem missS4 (w : (RS4 b half h hb hh hr).shape.Idx → V e) (L : List (View.Piece V (T4 2 2 512 128) e)) (y : (T4 2 2 512 128).Idx)
    (hn : ¬ ((y 0).val = b ∧ (y 1).val = half ∧ (y 2).val % 4 = h)) :
    View.canon (⟨RS4 b half h hb hh hr, w⟩ :: L) y = View.canon L y := by
  refine miss _ w L y fun x hx => hn ?_
  have k0 : (y 0).val = b + 1 * (x 0).val := hx 0
  have k1 : (y 1).val = half + 1 * (x 1).val := hx 1
  have k2 : (y 2).val = h + 4 * (x 2).val := hx 2
  have q0 : (x 0).val < 1 := (x 0).isLt
  have q1 : (x 1).val < 1 := (x 1).isLt
  omega

theorem rdS4 {sg : RefSig} {κ : Kind} {sp : Space} (v : View sg κ sp (T4 2 2 512 128) e) (L : List (View.Piece V (T4 2 2 512 128) e)) (x2 x3 : Fin 128) :
    v.readCov L (RS4 b half h hb hh hr).toLoadRect (ix4 (0 : Fin 1) (0 : Fin 1) x2 x3)
      = View.canon L (ix4 (⟨b, hb⟩ : Fin 2) (⟨half, hh⟩ : Fin 2) (⟨h + 4 * x2.val, by have := x2.isLt; omega⟩ : Fin 512) x3) := by
  rw [View.readCov_eq_canon']
  refine congrArg (View.canon L) (funext fun k => Fin.ext ?_)
  match k with
    | ⟨0, _⟩ => show b + 1 * 0 = b; omega
    | ⟨1, _⟩ => show half + 1 * 0 = half; omega
    | ⟨2, _⟩ => rfl
    | ⟨3, _⟩ => show 0 + 1 * x3.val = x3.val; omega
end RS4

section RS3
variable (b h : ℕ) (hb : b < 2) (hr : h < 4)

theorem hitS3 (w : (RS3 b h hb hr).shape.Idx → V e) (L : List (View.Piece V (T3 2 512 128) e)) (y : (T3 2 512 128).Idx)
    (x2 x3 : Fin 128) (e0 : (y 0).val = b) (e2 : (y 1).val = h + 4 * x2.val) (e3 : (y 2).val = x3.val) :
    View.canon (⟨RS3 b h hb hr, w⟩ :: L) y = w (ix3 (0 : Fin 1) x2 x3) :=
  hit _ w L y (ix3 (0 : Fin 1) x2 x3) fun k => match k with
    | ⟨0, _⟩ => by show (y 0).val = b + 1 * 0; omega
    | ⟨1, _⟩ => by show (y 1).val = h + 4 * x2.val; omega
    | ⟨2, _⟩ => by show (y 2).val = 0 + 1 * x3.val; omega

theorem missS3 (w : (RS3 b h hb hr).shape.Idx → V e) (L : List (View.Piece V (T3 2 512 128) e)) (y : (T3 2 512 128).Idx)
    (hn : ¬ ((y 0).val = b ∧ (y 1).val % 4 = h)) :
    View.canon (⟨RS3 b h hb hr, w⟩ :: L) y = View.canon L y := by
  refine miss _ w L y fun x hx => hn ?_
  have k0 : (y 0).val = b + 1 * (x 0).val := hx 0
  have k2 : (y 1).val = h + 4 * (x 1).val := hx 1
  have q0 : (x 0).val < 1 := (x 0).isLt
  omega
end RS3

section RH
variable (b half : ℕ) (hb : b < 2) (hh : half < 2)

theorem hitH (w : (RH b half hb hh).shape.Idx → V e) (L : List (View.Piece V (T4 2 2 512 128) e)) (y : (T4 2 2 512 128).Idx)
    (e0 : (y 0).val = b) (e1 : (y 1).val = half) :
    View.canon (⟨RH b half hb hh, w⟩ :: L) y = w (ix4 (0 : Fin 1) (0 : Fin 1) (y 2) (y 3)) :=
  hit _ w L y (ix4 (0 : Fin 1) (0 : Fin 1) (y 2) (y 3)) fun k => match k with
    | ⟨0, _⟩ => by show (y 0).val = b + 1 * 0; omega
    | ⟨1, _⟩ => by show (y 1).val = half + 1 * 0; omega
    | ⟨2, _⟩ => by show (y 2).val = 0 + 1 * (y 2).val; omega
    | ⟨3, _⟩ => by show (y 3).val = 0 + 1 * (y 3).val; omega

theorem missH (w : (RH b half hb hh).shape.Idx → V e) (L : List (View.Piece V (T4 2 2 512 128) e)) (y : (T4 2 2 512 128).Idx)
    (hn : ¬ ((y 0).val = b ∧ (y 1).val = half)) :
    View.canon (⟨RH b half hb hh, w⟩ :: L) y = View.canon L y := by
  refine miss _ w L y fun x hx => hn ?_
  have k0 : (y 0).val = b + 1 * (x 0).val := hx 0
  have k1 : (y 1).val = half + 1 * (x 1).val := hx 1
  have q0 : (x 0).val < 1 := (x 0).isLt
  have q1 : (x 1).val < 1 := (x 1).isLt
  omega

theorem rdH {sg : RefSig} {κ : Kind} {sp : Space} (v : View sg κ sp (T4 2 2 512 128) e) (L : List (View.Piece V (T4 2 2 512 128) e)) (x2 : Fin 512) (x3 : Fin 128) :
    v.readCov L (RH b half hb hh).toLoadRect (ix4 (0 : Fin 1) (0 : Fin 1) x2 x3)
      = View.canon L (ix4 (⟨b, hb⟩ : Fin 2) (⟨half, hh⟩ : Fin 2) x2 x3) := by
  rw [View.readCov_eq_canon']
  refine congrArg (View.canon L) (funext fun k => Fin.ext ?_)
  match k with
    | ⟨0, _⟩ => show b + 1 * 0 = b; omega
    | ⟨1, _⟩ => show half + 1 * 0 = half; omega
    | ⟨2, _⟩ => show 0 + 1 * x2.val = x2.val; omega
    | ⟨3, _⟩ => show 0 + 1 * x3.val = x3.val; omega
end RH

/-! ## Casts that drop or add unit axes -/

theorem scD {α : Type} (m n : ℕ) (x : (T3 1 m n).Idx → α) (r : Fin m) (l : Fin n) : shapeCast (T2 m n) x (scDrop m n) (ix2 r l) = x (ix3 (0 : Fin 1) r l) :=
  congrArg x (Shape.reshapeEquiv_eq_of_rowMajor _ (by
    rw [Shape.rowMajor_val_three, Shape.rowMajor_val_two]; show ((0 : ℕ) * m + r.val) * n + l.val = r.val * n + l.val; rw [zero_mul, zero_add]))
theorem scA {α : Type} (m n : ℕ) (x : (T2 m n).Idx → α) (r : Fin m) (l : Fin n) : shapeCast (T3 1 m n) x (scAdd m n) (ix3 (0 : Fin 1) r l) = x (ix2 r l) :=
  congrArg x (Shape.reshapeEquiv_eq_of_rowMajor _ (by
    rw [Shape.rowMajor_val_three, Shape.rowMajor_val_two]; show r.val * n + l.val = ((0 : ℕ) * m + r.val) * n + l.val; rw [zero_mul, zero_add]))
theorem scD2 {α : Type} (m n : ℕ) (x : (T4 1 1 m n).Idx → α) (r : Fin m) (l : Fin n) : shapeCast (T2 m n) x (scDrop2 m n) (ix2 r l) = x (ix4 (0 : Fin 1) (0 : Fin 1) r l) :=
  congrArg x (Shape.reshapeEquiv_eq_of_rowMajor _ (by
    rw [Shape.rowMajor_val_four, Shape.rowMajor_val_two]; show (((0 : ℕ) * 1 + 0) * m + r.val) * n + l.val = r.val * n + l.val; simp))
theorem scA2 {α : Type} (m n : ℕ) (x : (T2 m n).Idx → α) (r : Fin m) (l : Fin n) : shapeCast (T4 1 1 m n) x (scAdd2 m n) (ix4 (0 : Fin 1) (0 : Fin 1) r l) = x (ix2 r l) :=
  congrArg x (Shape.reshapeEquiv_eq_of_rowMajor _ (by
    rw [Shape.rowMajor_val_four, Shape.rowMajor_val_two]; show r.val * n + l.val = (((0 : ℕ) * 1 + 0) * m + r.val) * n + l.val; simp))

end Cert.Gqa
-- ==== Proof.Scl.lean ====
module

public import Idealize.ShloMosaic.Lib.Pointwise

@[expose] public section

set_option maxRecDepth 16384

noncomputable section

/-! The scale of a quantiser: the smallest power of two above a 448th of the largest magnitude. -/

namespace Cert.Gqa

open Idealize.ShloMosaic

/-! ## The constants -/

theorem c_top : Ideal.ofBits .f32 0x7F800000#32 = ⊤ := by
  simp only [Ideal.ofBits, Ideal.ieee, show ((0x7F800000#32).extractLsb' 23 8).toNat = 255 by decide, show ((0x7F800000#32).extractLsb' 0 23).toNat = 0 by decide,
    show ((0x7F800000#32).extractLsb' (8 + 23) 1 == 1#1) = false by decide]
  norm_num
theorem c_bot : Ideal.ofBits .f32 0xFF800000#32 = ⊥ := by
  simp only [Ideal.ofBits, Ideal.ieee, show ((0xFF800000#32).extractLsb' 23 8).toNat = 255 by decide, show ((0xFF800000#32).extractLsb' 0 23).toNat = 0 by decide,
    show ((0xFF800000#32).extractLsb' (8 + 23) 1 == 1#1) = true by decide]
  norm_num
theorem c_448 : Ideal.ofBits .f32 0x43E00000#32 = ((448 : ℝ) : EReal) := by
  simp only [Ideal.ofBits, Ideal.ieee, show ((0x43E00000#32).extractLsb' 23 8).toNat = 135 by decide, show ((0x43E00000#32).extractLsb' 0 23).toNat = 6291456 by decide,
    show ((0x43E00000#32).extractLsb' (8 + 23) 1 == 1#1) = false by decide]
  norm_num
theorem c_neg448 : Ideal.ofBits .f32 0xC3E00000#32 = ((-448 : ℝ) : EReal) := by
  simp only [Ideal.ofBits, Ideal.ieee, show ((0xC3E00000#32).extractLsb' 23 8).toNat = 135 by decide, show ((0xC3E00000#32).extractLsb' 0 23).toNat = 6291456 by decide,
    show ((0xC3E00000#32).extractLsb' (8 + 23) 1 == 1#1) = true by decide]
  norm_num
theorem c_m118 : Ideal.ofBits .f32 0x04800000#32 = (((2 : ℝ) ^ (-118 : ℤ) : ℝ) : EReal) := by
  simp only [Ideal.ofBits, Ideal.ieee, show ((0x04800000#32).extractLsb' 23 8).toNat = 9 by decide, show ((0x04800000#32).extractLsb' 0 23).toNat = 0 by decide,
    show ((0x04800000#32).extractLsb' (8 + 23) 1 == 1#1) = false by decide]
  norm_num
theorem c_120 : Ideal.ofBits .f32 0x7B800000#32 = (((2 : ℝ) ^ (120 : ℤ) : ℝ) : EReal) := by
  simp only [Ideal.ofBits, Ideal.ieee, show ((0x7B800000#32).extractLsb' 23 8).toNat = 247 by decide, show ((0x7B800000#32).extractLsb' 0 23).toNat = 0 by decide,
    show ((0x7B800000#32).extractLsb' (8 + 23) 1 == 1#1) = false by decide]
  norm_num
theorem c_max : Ideal.ofBits .f32 0x7F7F0000#32 = ((((2 : ℝ) - 2 ^ (-7 : ℤ)) * 2 ^ (127 : ℤ) : ℝ) : EReal) := by
  simp only [Ideal.ofBits, Ideal.ieee, show ((0x7F7F0000#32).extractLsb' 23 8).toNat = 254 by decide, show ((0x7F7F0000#32).extractLsb' 0 23).toNat = 8323072 by decide,
    show ((0x7F7F0000#32).extractLsb' (8 + 23) 1 == 1#1) = false by decide]
  norm_num
theorem c_8 : Ideal.ofBits .f32 0x41000000#32 = ((8 : ℝ) : EReal) := by
  simp only [Ideal.ofBits, Ideal.ieee, show ((0x41000000#32).extractLsb' 23 8).toNat = 130 by decide, show ((0x41000000#32).extractLsb' 0 23).toNat = 0 by decide,
    show ((0x41000000#32).extractLsb' (8 + 23) 1 == 1#1) = false by decide]
  norm_num
theorem c_256 : Ideal.ofBits .f32 0x43800000#32 = ((256 : ℝ) : EReal) := by
  simp only [Ideal.ofBits, Ideal.ieee, show ((0x43800000#32).extractLsb' 23 8).toNat = 135 by decide, show ((0x43800000#32).extractLsb' 0 23).toNat = 0 by decide,
    show ((0x43800000#32).extractLsb' (8 + 23) 1 == 1#1) = false by decide]
  norm_num
theorem c_2 : Ideal.ofBits .f32 0x40000000#32 = ((2 : ℝ) : EReal) := by
  simp only [Ideal.ofBits, Ideal.ieee, show ((0x40000000#32).extractLsb' 23 8).toNat = 128 by decide, show ((0x40000000#32).extractLsb' 0 23).toNat = 0 by decide,
    show ((0x40000000#32).extractLsb' (8 + 23) 1 == 1#1) = false by decide]
  norm_num
theorem c_16th : Ideal.ofBits .f32 0x3D800000#32 = ((1 / 16 : ℝ) : EReal) := by
  simp only [Ideal.ofBits, Ideal.ieee, show ((0x3D800000#32).extractLsb' 23 8).toNat = 123 by decide, show ((0x3D800000#32).extractLsb' 0 23).toNat = 0 by decide,
    show ((0x3D800000#32).extractLsb' (8 + 23) 1 == 1#1) = false by decide]
  norm_num

/-! ## The two ladders -/

/-- What exponent field `k` denotes. -/
def lpw (k : ℕ) : EReal := if k = 0 then 0 else if k = 255 then ⊤ else (((2 : ℝ) ^ ((k : ℤ) - 127) : ℝ) : EReal)

theorem fld_bits : ∀ k : Fin 256,
    ((IntOp.shli ArithUnit.vector (BitVec.ofNat 32 ↑k) 23#32).extractLsb' 23 8).toNat = k.val
    ∧ ((IntOp.shli ArithUnit.vector (BitVec.ofNat 32 ↑k) 23#32).extractLsb' 0 23).toNat = 0
    ∧ ((IntOp.shli ArithUnit.vector (BitVec.ofNat 32 ↑k) 23#32).extractLsb' (8 + 23) 1 == 1#1) = false := by decide

theorem lad_val (k : Fin 256) : Ideal.ofBits .f32 (IntOp.shli ArithUnit.vector (BitVec.ofNat 32 ↑k) 23#32) = lpw k.val := by
  obtain ⟨h1, h2, h3⟩ := fld_bits k
  simp only [Ideal.ofBits, Ideal.ieee, h1, h2, h3, lpw]
  by_cases h0 : k.val = 0
  · simp [h0]
  by_cases h5 : k.val = 255
  · simp [h5]
  · rw [if_neg (by omega), if_neg h0, if_neg h0, if_neg h5]
    refine congrArg (fun z : ℝ => (z : EReal)) ?_
    have h : (2 : ℝ) ^ ((k.val : ℤ) - 127) = 2 ^ 23 * 2 ^ ((k.val : ℤ) - (2 ^ (8 - 1) - 1) - (23 : ℕ)) := by
      rw [← zpow_natCast, ← zpow_add₀ (by norm_num)]
      refine congrArg _ ?_
      push_cast
      ring
    rw [h]
    simp
    left; norm_num

/-- The scale as the kernel computes it. -/
def sck (a : EReal) : EReal :=
  if a < Ideal.ofBits .f32 0x04800000#32 then 1
  else Finset.fold min (Ideal.ofBits .f32 0x7F800000#32) (fun x : Fin 256 =>
    if a < Ideal.ofBits .f32 (IntOp.shli ArithUnit.vector (BitVec.ofNat 32 ↑x) 23#32) * Ideal.ofBits .f32 0x43E00000#32
    then Ideal.ofBits .f32 (IntOp.shli ArithUnit.vector (BitVec.ofNat 32 ↑x) 23#32) else Ideal.ofBits .f32 0x7B800000#32) Finset.univ

/-- Entry `e` of the reference's powers. -/
def rpw (e : ℕ) : EReal := (((2 : ℝ) ^ ((e : ℤ) - 126) : ℝ) : EReal)

/-- The scale as the reference computes it. -/
def scr (a : EReal) : EReal :=
  if a = 0 then 1 else Finset.fold min ⊤ (fun e : Fin 254 => if Ideal.div a ((448 : ℝ) : EReal) < rpw e.val then rpw e.val else ⊤) Finset.univ

theorem div_lt_iff_real (r p : ℝ) : Ideal.div (r : EReal) ((448 : ℝ) : EReal) < (p : EReal) ↔ r < p * 448 := by
  rw [Ideal.div, if_neg (by exact_mod_cast (by norm_num : (448 : ℝ) ≠ 0)), ← EReal.coe_inv, ← EReal.coe_mul, EReal.coe_lt_coe_iff]
  constructor <;> intro h <;> linarith

/-- The two agree, and the scale is a positive real above a 448th of the largest magnitude. -/
theorem scale_spec (r : ℝ) (h : r = 0 ∨ (2 : ℝ) ^ (-118 : ℤ) ≤ r) (hu : r ≤ (2 - 2 ^ (-7 : ℤ)) * 2 ^ (127 : ℤ)) :
    sck (r : EReal) = scr (r : EReal) ∧ ∃ s : ℝ, 0 < s ∧ sck (r : EReal) = (s : EReal) ∧ r ≤ s * 448 := by
  rcases h with h | h
  · subst h
    have h1 : sck ((0 : ℝ) : EReal) = 1 := by
      rw [sck, c_m118, if_pos]
      exact EReal.coe_lt_coe_iff.2 (by positivity)
    refine ⟨?_, 1, one_pos, h1, by norm_num⟩
    rw [h1, scr, if_pos (by simp)]
  · have hr : 0 < r := lt_of_lt_of_le (by positivity) h
    have hS : sck (r : EReal) = Finset.fold min ⊤ (fun x : Fin 256 =>
        if (r : EReal) < lpw x.val * ((448 : ℝ) : EReal) then lpw x.val else (((2 : ℝ) ^ (120 : ℤ) : ℝ) : EReal)) Finset.univ := by
      rw [sck, c_m118, if_neg (by rw [EReal.coe_lt_coe_iff]; exact not_lt.2 h)]
      simp only [lad_val, c_448, c_120, c_top]
    have hR : scr (r : EReal) = Finset.fold min ⊤ (fun e : Fin 254 => if r < (2 : ℝ) ^ ((e.val : ℤ) - 126) * 448 then rpw e.val else ⊤) Finset.univ := by
      rw [scr, if_neg (by exact_mod_cast hr.ne')]
      simp only [rpw, div_lt_iff_real]
    have h120 : r < (2 : ℝ) ^ (120 : ℤ) * 448 := by
      refine lt_of_le_of_lt hu ?_
      norm_num
    have hle1 : scr (r : EReal) ≤ (((2 : ℝ) ^ (120 : ℤ) : ℝ) : EReal) := by
      rw [hR]
      refine (Finset.fold_min_le _).2 (.inr ⟨⟨246, by norm_num⟩, Finset.mem_univ _, ?_⟩)
      rw [if_pos (by norm_num at h120 ⊢; linarith)]
      exact le_of_eq (by norm_num [rpw])
    have key : sck (r : EReal) = scr (r : EReal) := by
      refine le_antisymm ?_ ?_
      · rw [hR]
        refine (Finset.le_fold_min _).2 ⟨le_top, fun e _ => ?_⟩
        split
        · rename_i he
          rw [hS]
          refine (Finset.fold_min_le _).2 (.inr ⟨⟨e.val + 1, by omega⟩, Finset.mem_univ _, ?_⟩)
          have hl : lpw (e.val + 1) = rpw e.val := by
            rw [lpw, if_neg (by omega), if_neg (by have := e.isLt; omega), rpw]
            congr 2; push_cast; ring
          show (if _ < lpw (e.val + 1) * _ then lpw (e.val + 1) else _) ≤ _
          rw [hl, if_pos]
          rw [rpw, ← EReal.coe_mul, EReal.coe_lt_coe_iff]
          exact he
        · exact le_top
      · rw [hS]
        refine (Finset.le_fold_min _).2 ⟨le_top, fun x _ => ?_⟩
        split
        · rename_i hx
          by_cases h0 : x.val = 0
          · rw [lpw, if_pos h0, zero_mul] at hx
            exact absurd (EReal.coe_lt_coe_iff.1 (by simpa using hx)) (not_lt.2 hr.le)
          by_cases h5 : x.val = 255
          · rw [lpw, if_neg h0, if_pos h5]; exact le_top
          · rw [hR]
            refine (Finset.fold_min_le _).2 (.inr ⟨⟨x.val - 1, by have := x.isLt; omega⟩, Finset.mem_univ _, ?_⟩)
            have hl : lpw x.val = rpw (x.val - 1) := by
              rw [lpw, if_neg h0, if_neg h5, rpw]
              congr 2; push_cast [Nat.one_le_iff_ne_zero.2 h0]; ring
            rw [hl] at hx ⊢
            rw [rpw, ← EReal.coe_mul, EReal.coe_lt_coe_iff] at hx
            show (if r < _ then rpw (x.val - 1) else ⊤) ≤ _
            rw [if_pos hx]
        · exact hle1
    refine ⟨key, ?_⟩
    have hmem : ∃ e : Fin 254, scr (r : EReal) = rpw e.val ∧ r < (2 : ℝ) ^ ((e.val : ℤ) - 126) * 448 := by
      have hlt : scr (r : EReal) < ⊤ := lt_of_le_of_lt hle1 (EReal.coe_lt_top _)
      have h2 : scr (r : EReal) ≤ scr (r : EReal) := le_rfl
      nth_rewrite 1 [hR] at h2
      rcases (Finset.fold_min_le _).1 h2 with h3 | ⟨e, _, he⟩
      · exact absurd h3 (not_le.2 hlt)
      · split at he
        · rename_i hc
          refine ⟨e, le_antisymm ?_ he, hc⟩
          rw [hR]
          exact (Finset.fold_min_le _).2 (.inr ⟨e, Finset.mem_univ _, by rw [if_pos hc]⟩)
        · exact absurd he (not_le.2 hlt)
    obtain ⟨e, h1, h2⟩ := hmem
    exact ⟨(2 : ℝ) ^ ((e.val : ℤ) - 126), by positivity, key.trans h1, h2.le⟩

end Cert.Gqa
-- ==== Proof.Spec.lean ====
module

public import proofs.«01_k».proof.Proof.Scl

@[expose] public section

set_option maxRecDepth 16384

noncomputable section

/-! What one batch row and one key head compute, as functions of tokens, heads and lanes. -/

namespace Cert.Gqa

open Idealize.ShloMosaic

/-- The queries by token, head and lane; the keys and the values by token and lane. -/
structure In where
  X : ℕ → ℕ → ℕ → EReal
  K : ℕ → ℕ → EReal
  V : ℕ → ℕ → EReal

/-- The magnitude. -/
def ab (x : EReal) : EReal := max x (-x)

/-- The largest magnitude of `n` entries. -/
def am (n : ℕ) (f : ℕ → EReal) : EReal := Finset.fold max ⊥ (fun d : Fin n => ab (f d.val)) Finset.univ

variable (I : In)

/-- The queries' scale. -/
def qs (t h : ℕ) : EReal := sck (am 256 (I.X t h))
/-- The keys' scale. -/
def ks (j : ℕ) : EReal := sck (am 256 (I.K j))
/-- The values' scale. -/
def vs (d : ℕ) : EReal := sck (am 2048 fun j => I.V j d)
/-- The queries' codes. -/
def qc (t h d : ℕ) : EReal := I.X t h d * Ideal.div 1 (qs I t h)
/-- The keys' codes. -/
def kc (j d : ℕ) : EReal := I.K j d * Ideal.div 1 (ks I j)
/-- The values' codes. -/
def vc (j d : ℕ) : EReal := I.V j d * Ideal.div 1 (vs I d)
/-- The score of a key, minus infinity after the query. -/
def sco (t h j : ℕ) : EReal := (∑ d : Fin 256, qc I t h d.val * kc I j d.val) * ks I j + (if j ≤ t then 0 else ⊥)
/-- The exponent's factor. -/
def cf (t h : ℕ) : EReal := qs I t h * (((1 / 16) * (Real.log 2)⁻¹ : ℝ) : EReal)
/-- The weight of a key, about an offset `M`. -/
def pwt (M : EReal) (t h j : ℕ) : EReal := Ideal.exp2 (sco I t h j * cf I t h - (M * cf I t h - Ideal.ofBits .f32 0x41000000#32))
/-- The weighted mean of the values over `n` keys. -/
def outM (M : EReal) (n t h d : ℕ) : EReal :=
  (∑ j : Fin n, pwt I M t h j.val * vc I j.val d) * Ideal.div 1 (∑ j : Fin n, pwt I M t h j.val) * vs I d

theorem am_congr (n : ℕ) {f g : ℕ → EReal} (h : ∀ d, d < n → f d = g d) : am n f = am n g := by
  unfold am
  exact congrArg (fun z => Finset.fold max ⊥ z Finset.univ) (funext fun d => by rw [h d.val d.isLt])

end Cert.Gqa
-- ==== Proof.Read1.lean ====
module

public import proofs.«01_k».proof.Proof.Canon
public import proofs.«01_k».proof.Proof.Spec

@[expose] public section

set_option maxRecDepth 16384

noncomputable section

/-! What the body's quantisers store, over the reals. -/

namespace Cert.Gqa

open Cert.KernelIdeal Idealize.ShloMosaic Idealize.ShloMosaic.TcCoe Idealize.SL.Sem

/-- The arguments' blocks as functions of tokens, heads and lanes. -/
def inOf (a : Args Ideal) : In where
  X t h d := if hh : t < 2048 ∧ h < 4 ∧ d < 256 then a.x0 (ix3 (0 : Fin 1) (⟨t, hh.1⟩ : Fin 2048) (⟨256 * h + d, by omega⟩ : Fin 1024)) else 0
  K j d := if hh : j < 2048 ∧ d < 256 then a.x1 (ix3 (0 : Fin 1) (⟨j, hh.1⟩ : Fin 2048) (⟨d, hh.2⟩ : Fin 256)) else 0
  V j d := if hh : j < 2048 ∧ d < 256 then a.x2 (ix3 (0 : Fin 1) (⟨j, hh.1⟩ : Fin 2048) (⟨d, hh.2⟩ : Fin 256)) else 0

variable (a : Args Ideal)

theorem ld3 {l m n : ℕ} (o b c l' m' n' : ℕ) (h0 : o + l' ≤ l) (h1 : b + m' ≤ m) (h2 : c + n' ≤ n) {e : EltTy}
    (M : Memref sig .tc .vmem (T3 l m n) e) (hM : M.IsWhole) (x : Vec Ideal (T3 l m n) e) (x0 : Fin l') (x1 : Fin m') (x2 : Fin n') :
    View.readAt (Elt Ideal) M.view (R3 o b c l' m' n' h0 h1 h2).toLoadRect (hM.unread x) (ix3 x0 x1 x2)
      = x (ix3 (⟨o + x0.val, by have := x0.isLt; omega⟩ : Fin l) (⟨b + x1.val, by have := x1.isLt; omega⟩ : Fin m) (⟨c + x2.val, by have := x2.isLt; omega⟩ : Fin n)) := by
  rw [View.readAt_eq_ld, Memref.IsWhole.read_unread]
  refine congrArg x (funext fun k => Fin.ext ?_)
  match k with
    | ⟨0, _⟩ => show o + 1 * x0.val = o + x0.val; omega
    | ⟨1, _⟩ => show b + 1 * x1.val = b + x1.val; omega
    | ⟨2, _⟩ => show c + 1 * x2.val = c + x2.val; omega

theorem ext_apply {s : Shape} {f g : FTy} (x : FVec Ideal s f) (h) (i : s.Idx) : (extf g x h : FVec Ideal s g) i = (x i : EReal) := rfl

theorem trunc_apply {s : Shape} {f g : FTy} (x : FVec Ideal s f) (h) (i : s.Idx) : (truncf g x h : FVec Ideal s g) i = (x i : EReal) := rfl

theorem cat_apply (A B : FVec Ideal (T2 128 128) .f32) (r : Fin 128) (d : Fin 256) :
    concatenate (T2 128 256) 1 [⟨T2 128 128, A⟩, ⟨T2 128 128, B⟩] catOk (ix2 r d)
      = if h : d.val < 128 then A (ix2 r ⟨d.val, h⟩) else B (ix2 r ⟨d.val - 128, by have := d.isLt; omega⟩) := by
  pointwise

theorem xf_apply (i h : ℕ) (hi : i < 16) (hh : h < 4) (r : Fin 128) (d : Fin 256) :
    xf a i h hi hh (ix2 r d) = (inOf a).X (128 * i + r.val) h d.val := by
  have hr := r.isLt
  have hd := d.isLt
  rw [xf, ext_apply, scD, ld3]
  refine Eq.trans ?_ (dif_pos ⟨by omega, hh, hd⟩).symm
  rfl

theorem kf_apply (c : ℕ) (hc : 256 * c + 256 ≤ 2048) (r : Fin 256) (d : Fin 256) :
    kf a c hc (ix2 r d) = (inOf a).K (256 * c + r.val) d.val := by
  have hr := r.isLt
  have hd := d.isLt
  rw [kf, ext_apply, scD, ld3]
  refine Eq.trans ?_ (dif_pos ⟨by omega, hd⟩).symm
  refine congrArg a.x1 (funext fun k => Fin.ext ?_)
  match k with
    | ⟨0, _⟩ => rfl
    | ⟨1, _⟩ => rfl
    | ⟨2, _⟩ => exact Nat.zero_add _

theorem vf_apply (c : ℕ) (hc : 256 * c + 256 ≤ 2048) (r : Fin 256) (d : Fin 256) :
    vf a c hc (ix2 r d) = (inOf a).V (256 * c + r.val) d.val := by
  have hr := r.isLt
  have hd := d.isLt
  rw [vf, ext_apply, scD, ld3]
  refine Eq.trans ?_ (dif_pos ⟨by omega, hd⟩).symm
  refine congrArg a.x2 (funext fun k => Fin.ext ?_)
  match k with
    | ⟨0, _⟩ => rfl
    | ⟨1, _⟩ => rfl
    | ⟨2, _⟩ => exact Nat.zero_add _

theorem scl1_256 (x : FVec Ideal (T2 256 1) .f32) (r : Fin 256) : scl1 256 x (ix2 r 0) = sck (x (ix2 r 0)) := by
  pointwise [scl1, lad]
  simp only [sck]
theorem scl1_128 (x : FVec Ideal (T2 128 1) .f32) (r : Fin 128) : scl1 128 x (ix2 r 0) = sck (x (ix2 r 0)) := by
  pointwise [scl1, lad]
  simp only [sck]
theorem scl0_apply (x : FVec Ideal (T2 1 256) .f32) (r : Fin 256) : scl0 x (ix2 0 r) = sck (x (ix2 0 r)) := by
  pointwise [scl0, lad]
  simp only [sck]
theorem amax1_256 (x : FVec Ideal (T2 256 256) .f32) (r : Fin 256) :
    amax1 256 x (ix2 r 0) = Finset.fold max ⊥ (fun d : Fin 256 => ab (x (ix2 r d))) Finset.univ := by
  pointwise [amax1]
  rw [c_bot]; rfl
theorem amax1_128 (x : FVec Ideal (T2 128 256) .f32) (r : Fin 128) :
    amax1 128 x (ix2 r 0) = Finset.fold max ⊥ (fun d : Fin 256 => ab (x (ix2 r d))) Finset.univ := by
  pointwise [amax1]
  rw [c_bot]; rfl

theorem qsc_apply (i h : ℕ) (hi : i < 16) (hh : h < 4) (r : Fin 128) : qsc a i h hi hh (ix2 r 0) = qs (inOf a) (128 * i + r.val) h := by
  rw [qsc, scl1_128, amax1_128, qs, am]
  simp only [xf_apply]
theorem ksc_apply (c : ℕ) (hc : 256 * c + 256 ≤ 2048) (r : Fin 256) : ksc a c hc (ix2 r 0) = ks (inOf a) (256 * c + r.val) := by
  rw [ksc, scl1_256, amax1_256, ks, am]
  simp only [kf_apply]
theorem xq_apply (i h : ℕ) (hi : i < 16) (hh : h < 4) (r : Fin 128) (d : Fin 256) :
    xq a i h hi hh (ix2 r d) = qc (inOf a) (128 * i + r.val) h d.val := by
  pointwise [xq, rcp]
  rw [xf_apply, qsc_apply, qc]

/-! ## The keys' codes and scales -/

theorem H6_canon : ∀ (n : ℕ) (hn : 256 * n ≤ 2048) (u : Fin 1) (j : Fin 2048) (d : Fin 256), j.val < 256 * n →
    View.canon (H6 a n hn) (ix3 u j d) = kc (inOf a) j.val d.val
  | 0, _, _, _, _, hy => absurd hy (by omega)
  | n + 1, hn, u, j, d, hy => by
    by_cases hc : 256 * n ≤ j.val
    · refine (hit3 _ _ _ _ _ _ _ _ _ _ _ _ 0 ⟨j.val - 256 * n, by omega⟩ d (by show u.val = 0 + 0; omega) (by show j.val = 256 * n + (j.val - 256 * n); omega) (Nat.zero_add _).symm).trans ?_
      rw [scA]
      pointwise [rcp]
      rw [kf_apply, ksc_apply, kc]
      simp only [show 256 * n + (j.val - 256 * n) = j.val by omega]
    · refine (miss3 _ _ _ _ _ _ _ _ _ _ _ _ fun h => hc h.2.2.1).trans ?_
      exact H6_canon n (by omega) u j d (by omega)

theorem HS1_canon : ∀ (n : ℕ) (hn : 256 * n ≤ 2048) (u : Fin 8) (j : Fin 2048), j.val < 256 * n →
    View.canon (HS1 a n hn) (ix2 u j) = ks (inOf a) j.val
  | 0, _, _, _, hy => absurd hy (by omega)
  | n + 1, hn, u, j, hy => by
    by_cases hc : 256 * n ≤ j.val
    · refine (hit2 _ _ _ _ _ _ _ _ u ⟨j.val - 256 * n, by omega⟩ (Nat.zero_add _).symm (by show j.val = 256 * n + (j.val - 256 * n); omega)).trans ?_
      pointwise
      rw [ksc_apply]
      simp only [show 256 * n + (j.val - 256 * n) = j.val by omega]
    · refine (miss2 _ _ _ _ _ _ _ _ fun h => hc h.2.2.1).trans ?_
      exact HS1_canon n (by omega) u j (by omega)

/-! ## The values' codes and scales -/

theorem vmax_apply (d : Fin 256) : ∀ (n : ℕ) (hn : 256 * n ≤ 2048),
    vmax a n hn (ix2 0 d) = max 0 (am (256 * n) fun j => (inOf a).V j d.val)
  | 0, _ => by
    pointwise [vmax]
    simp [am]
  | n + 1, hn => by
    rw [vmax]
    pointwise
    rw [vmax_apply d n (by omega), c_bot, max_assoc]
    refine congrArg (max 0) (eq_of_forall_ge_iff fun c => ?_)
    rw [max_le_iff]
    simp only [am, Finset.fold_max_le, vf_apply, Finset.mem_univ, true_imp_iff, Idealize.ShloMosaic.Ideal.absf_def, ab]
    constructor
    · rintro ⟨⟨h1, h2⟩, h3, h4⟩
      refine ⟨h1, fun x => ?_⟩
      by_cases hx : x.val < 256 * n
      · exact h2 ⟨x.val, hx⟩
      · have := h4 ⟨x.val - 256 * n, by have := x.isLt; omega⟩
        simpa only [show 256 * n + (x.val - 256 * n) = x.val by omega] using this
    · rintro ⟨h1, h2⟩
      exact ⟨⟨h1, fun x => h2 ⟨x.val, by have := x.isLt; omega⟩⟩, h1, fun x => h2 ⟨256 * n + x.val, by have := x.isLt; omega⟩⟩

theorem ab_nonneg (x : EReal) : 0 ≤ ab x := by
  rcases le_total 0 x with h | h
  · exact le_max_of_le_left h
  · exact le_max_of_le_right (EReal.neg_nonneg.2 h)

theorem vsc_apply (d : Fin 256) : vsc a (ix2 0 d) = vs (inOf a) d.val := by
  rw [vsc, scl0_apply, vmax_apply, vs]
  refine congrArg sck (max_eq_right ?_)
  refine (Finset.le_fold_max _).2 (.inr ⟨⟨0, by decide⟩, Finset.mem_univ _, ab_nonneg _⟩)

theorem H8_canon : ∀ (n : ℕ) (hn : 256 * n ≤ 2048) (u : Fin 1) (j : Fin 2048) (d : Fin 256), j.val < 256 * n →
    View.canon (H8 a n hn) (ix3 u j d) = vc (inOf a) j.val d.val
  | 0, _, _, _, _, hy => absurd hy (by omega)
  | n + 1, hn, u, j, d, hy => by
    by_cases hc : 256 * n ≤ j.val
    · refine (hit3 _ _ _ _ _ _ _ _ _ _ _ _ 0 ⟨j.val - 256 * n, by omega⟩ d (by show u.val = 0 + 0; omega) (by show j.val = 256 * n + (j.val - 256 * n); omega) (Nat.zero_add _).symm).trans ?_
      rw [scA]
      pointwise [rcp]
      rw [vf_apply, vsc_apply, vc]
      simp only [show 256 * n + (j.val - 256 * n) = j.val by omega]
    · refine (miss3 _ _ _ _ _ _ _ _ _ _ _ _ fun h => hc h.2.2.1).trans ?_
      exact H8_canon n (by omega) u j d (by omega)

theorem H9_canon (u v w : Fin 1) (d : Fin 256) : View.canon (H9 a) (ix4 u v w d) = vs (inOf a) d.val := by
  refine (hit _ _ _ _ (ix4 (0 : Fin 1) (0 : Fin 1) (0 : Fin 1) d) fun k => match k with
    | ⟨0, _⟩ => by show u.val = 0 + 1 * 0; omega
    | ⟨1, _⟩ => by show v.val = 0 + 1 * 0; omega
    | ⟨2, _⟩ => by show w.val = 0 + 1 * 0; omega
    | ⟨3, _⟩ => by show d.val = 0 + 1 * d.val; omega).trans ?_
  rw [scA2, vsc_apply]

end Cert.Gqa
-- ==== Proof.Read2.lean ====
module

public import proofs.«01_k».proof.Proof.Read1

@[expose] public section

set_option maxRecDepth 16384

noncomputable section

/-! What a query tile's quantiser leaves in the buffers, over the reals. -/

namespace Cert.Gqa

open Cert.KernelIdeal Idealize.ShloMosaic Idealize.ShloMosaic.TcCoe Idealize.SL.Sem

variable (a : Args Ideal)

theorem hs2_canon (st : List (View.Piece (Elt Ideal) (T4 2 2 512 128) .f32)) (i : ℕ) (hi : i < 16) : ∀ (n : ℕ) (hn : n ≤ 4)
    (u v : Fin 2) (R : Fin 512) (l : Fin 128), u.val = i % 2 → R.val % 4 < n →
    View.canon (hs2 a st i hi n hn) (ix4 u v R l) = qc (inOf a) (128 * i + R.val / 4) (R.val % 4) (128 * v.val + l.val)
  | 0, _, _, _, _, _, _, h => absurd h (by omega)
  | n + 1, hn, u, v, R, l, hu, h => by
    have hR := R.isLt
    have hl := l.isLt
    have hv := v.isLt
    by_cases e : R.val % 4 = n
    · by_cases e1 : v.val = 1
      · refine (hitS4 _ _ _ _ _ _ _ _ _ ⟨R.val / 4, by omega⟩ l hu e1 (by show R.val = n + 4 * (R.val / 4); omega) rfl).trans ?_
        rw [scA2]
        pointwise
        rw [xq_apply, e, e1]
      · refine (missS4 _ _ _ _ _ _ _ _ _ fun h => e1 h.2.1).trans ?_
        refine (hitS4 _ _ _ _ _ _ _ _ _ ⟨R.val / 4, by omega⟩ l hu (show v.val = 0 by omega) (by show R.val = n + 4 * (R.val / 4); omega) rfl).trans ?_
        rw [scA2]
        pointwise
        rw [xq_apply, e, show v.val = 0 by omega]
        simp only [Nat.mul_zero, Nat.zero_add]
    · refine (missS4 _ _ _ _ _ _ _ _ _ fun h => e h.2.2).trans ?_
      refine (missS4 _ _ _ _ _ _ _ _ _ fun h => e h.2.2).trans ?_
      exact hs2_canon st i hi n (by omega) u v R l hu (by omega)

theorem hs3_canon (st : List (View.Piece (Elt Ideal) (T3 2 512 128) .f32)) (i : ℕ) (hi : i < 16) : ∀ (n : ℕ) (hn : n ≤ 4)
    (u : Fin 2) (R : Fin 512) (l : Fin 128), u.val = i % 2 → R.val % 4 < n →
    View.canon (hs3 a st i hi n hn) (ix3 u R l) = cf (inOf a) (128 * i + R.val / 4) (R.val % 4)
  | 0, _, _, _, _, _, h => absurd h (by omega)
  | n + 1, hn, u, R, l, hu, h => by
    have hR := R.isLt
    by_cases e : R.val % 4 = n
    · refine (hitS3 _ _ _ _ _ _ _ ⟨R.val / 4, by omega⟩ l hu (by show R.val = n + 4 * (R.val / 4); omega) rfl).trans ?_
      rw [scA]
      pointwise
      rw [qsc_apply, e, cf, IdealRules.named_const.ideal_named_scalar _ _ _ _ rfl]
    · refine (missS3 _ _ _ _ _ _ _ fun h => e h.2).trans ?_
      exact hs3_canon st i hi n (by omega) u R l hu (by omega)

theorem hs0_canon (s2 : List (View.Piece (Elt Ideal) (T4 2 2 512 128) .f32)) (st : List (View.Piece (Elt Ideal) (T3 2 512 256) .fp8e4m3)) (i : ℕ)
    (f : ℕ → ℕ → EReal) (h2 : ∀ (u v : Fin 2) (R : Fin 512) (l : Fin 128), u.val = i % 2 → View.canon s2 (ix4 u v R l) = f R.val (128 * v.val + l.val))
    (u : Fin 2) (R : Fin 512) (d : Fin 256) (hu : u.val = i % 2) :
    View.canon (hs0 a s2 st i) (ix3 u R d) = f R.val d.val := by
  have hd := d.isLt
  by_cases e : 128 ≤ d.val
  · refine (hit3 _ _ _ _ _ _ _ _ _ _ _ _ 0 R ⟨d.val - 128, by omega⟩ (by show u.val = i % 2 + 0; omega) (Nat.zero_add _).symm (by show d.val = 128 + (d.val - 128); omega)).trans ?_
    rw [scA, trunc_apply]
    refine (scD2 512 128 _ _ _).trans ?_
    refine (rdH _ _ _ _ _ _ _ _).trans ?_
    refine (h2 _ _ _ _ rfl).trans ?_
    show f R.val (128 * 1 + (d.val - 128)) = _
    rw [show 128 * 1 + (d.val - 128) = d.val by omega]
  · refine (miss3 _ _ _ _ _ _ _ _ _ _ _ _ fun h => e h.2.2.2.2.1).trans ?_
    refine (hit3 _ _ _ _ _ _ _ _ _ _ _ _ 0 R ⟨d.val, by omega⟩ (by show u.val = i % 2 + 0; omega) (Nat.zero_add _).symm (Nat.zero_add _).symm).trans ?_
    rw [scA, trunc_apply]
    refine (scD2 512 128 _ _ _).trans ?_
    refine (rdH _ _ _ _ _ _ _ _).trans ?_
    refine (h2 _ _ _ _ rfl).trans ?_
    show f R.val (128 * 0 + d.val) = _
    rw [show 128 * 0 + d.val = d.val by omega]

theorem q8_apply (s0 : List (View.Piece (Elt Ideal) (T3 2 512 256) .fp8e4m3)) (i : ℕ) (f : ℕ → ℕ → EReal)
    (h0 : ∀ (u : Fin 2) (R : Fin 512) (d : Fin 256), u.val = i % 2 → View.canon s0 (ix3 u R d) = f R.val d.val) (R : Fin 512) (d : Fin 256) :
    q8 a s0 i (ix2 R d) = f R.val d.val := by
  refine (scD 512 256 _ _ _).trans ?_
  refine (rd3 _ _ _ _ _ _ _ _ _ _ _ _ _ _).trans ?_
  refine (h0 _ _ _ rfl).trans ?_
  show f (0 + R.val) (0 + d.val) = _
  rw [Nat.zero_add, Nat.zero_add]

theorem head_apply (m : Memref sig .tc .vmem (T4 2 2 512 128) .f32) (s : List (View.Piece (Elt Ideal) (T4 2 2 512 128) .f32)) (i h : ℕ) (hh : h < 4)
    (f : ℕ → ℕ → EReal) (h2 : ∀ (u v : Fin 2) (R : Fin 512) (l : Fin 128), u.val = i % 2 → View.canon s (ix4 u v R l) = f R.val (128 * v.val + l.val))
    (r : Fin 128) (d : Fin 256) : head m s i h hh (ix2 r d) = f (h + 4 * r.val) d.val := by
  have hd := d.isLt
  rw [head, cat_apply]
  split
  · refine (scD2 128 128 _ _ _).trans ?_
    refine (rdS4 _ _ _ _ _ _ _ _ _ _).trans ?_
    refine (h2 _ _ _ _ rfl).trans ?_
    show f _ (128 * 0 + d.val) = _
    rw [show 128 * 0 + d.val = d.val by omega]
  · refine (scD2 128 128 _ _ _).trans ?_
    refine (rdS4 _ _ _ _ _ _ _ _ _ _).trans ?_
    refine (h2 _ _ _ _ rfl).trans ?_
    show f _ (128 * 1 + (d.val - 128)) = _
    rw [show 128 * 1 + (d.val - 128) = d.val by omega]

/-- The pieces of a tile's codes: the tile's rows hold the codes, the others what was there. -/
theorem l4_canon (s2 : List (View.Piece (Elt Ideal) (T4 2 2 512 128) .f32)) (st : List (View.Piece (Elt Ideal) (T3 1 2048 1024) .fp8e4m3)) (i : ℕ) (hi : i < 16)
    (f : ℕ → ℕ → EReal) (h2 : ∀ (u v : Fin 2) (R : Fin 512) (l : Fin 128), u.val = i % 2 → View.canon s2 (ix4 u v R l) = f R.val (128 * v.val + l.val)) :
    ∀ (n : ℕ) (hn : n ≤ 4) (u : Fin 1) (t : Fin 2048) (c : Fin 1024),
    View.canon (l4 a s2 st i hi n hn) (ix3 u t c) =
      if 128 * i ≤ t.val ∧ t.val < 128 * i + 128 ∧ c.val < 256 * n then f (c.val / 256 + 4 * (t.val - 128 * i)) (c.val % 256) else View.canon st (ix3 u t c)
  | 0, _, u, t, c => by rw [if_neg (by omega)]; rfl
  | n + 1, hn, u, t, c => by
    have hu := u.isLt
    have hc := c.isLt
    by_cases e : (128 * i ≤ t.val ∧ t.val < 128 * i + 128) ∧ 256 * n ≤ c.val ∧ c.val < 256 * n + 256
    · rw [if_pos (by omega)]
      refine (hit3 _ _ _ _ _ _ _ _ _ _ _ _ 0 ⟨t.val - 128 * i, by omega⟩ ⟨c.val - 256 * n, by omega⟩ (by show u.val = 0 + 0; omega) (by show t.val = 128 * i + (t.val - 128 * i); omega) (by show c.val = 256 * n + (c.val - 256 * n); omega)).trans ?_
      rw [scA]
      refine (head_apply a.a14 s2 i n (by omega) f h2 _ _).trans ?_
      show f (n + 4 * (t.val - 128 * i)) (c.val - 256 * n) = _
      rw [show c.val / 256 = n by omega, show c.val % 256 = c.val - 256 * n by omega]
    · refine (miss3 _ _ _ _ _ _ _ _ _ _ _ _ fun h => e ⟨⟨h.2.2.1, h.2.2.2.1⟩, h.2.2.2.2⟩).trans ?_
      refine (l4_canon s2 st i hi f h2 n (by omega) u t c).trans ?_
      by_cases e' : 128 * i ≤ t.val ∧ t.val < 128 * i + 128 ∧ c.val < 256 * n
      · rw [if_pos e', if_pos (by omega)]
      · rw [if_neg e', if_neg (by omega)]

end Cert.Gqa
-- ==== Proof.Read3.lean ====
module

public import proofs.«01_k».proof.Proof.Read2

@[expose] public section

set_option maxRecDepth 16384

noncomputable section

/-! What a query tile's scores leave in the buffers, over the reals. -/

namespace Cert.Gqa

open Cert.KernelIdeal Idealize.ShloMosaic Idealize.ShloMosaic.TcCoe Idealize.SL.Sem

variable (a : Args Ideal)

theorem tok_apply (R : Fin 512) (l : Fin 128) : tok (ix2 R l) = BitVec.ofNat 32 (R.val / 4) := by
  pointwise [tok]
  revert R
  decide +kernel

theorem sle_small : ∀ (l : Fin 128) (t : Fin 128),
    IntOp.cmpi .sle (BitVec.ofNat 32 l.val) (BitVec.ofNat 32 t.val) = if l.val ≤ t.val then 1#1 else 0#1 := by decide +kernel

theorem bias_apply (R : Fin 512) (l : Fin 128) : (bias : FVec Ideal (T2 512 128) .f32) (ix2 R l) = if l.val ≤ R.val / 4 then (0 : EReal) else ⊥ := by
  have e : cmpi .sle (iota .tc (T2 512 128) 32 [1] (iotaOk 512 128 1)) tok (ix2 R l) = if l.val ≤ R.val / 4 then 1#1 else 0#1 := by
    have hR := R.isLt
    refine Eq.trans ?_ (sle_small l ⟨R.val / 4, by omega⟩)
    pointwise
    rw [tok_apply]
  show Scalar.select (cmpi .sle (iota .tc (T2 512 128) 32 [1] (iotaOk 512 128 1)) tok (ix2 R l)) (Ideal.ofBits .f32 0x00000000#32) (Ideal.ofBits .f32 0xFF800000#32) = _
  rw [e, c_bot, show Ideal.ofBits .f32 0x00000000#32 = 0 by simp]
  split <;> rfl

/-- The score of a key without the mask. -/
def sc0 (I : In) (t h j : ℕ) : EReal := (∑ d : Fin 256, qc I t h d.val * kc I j d.val) * ks I j

theorem sco_le (I : In) {t h j : ℕ} (hj : j ≤ t) : sco I t h j = sc0 I t h j := by
  rw [sco, if_pos hj, add_zero]; rfl

theorem mm256 (q : FVec Ideal (T2 512 256) .fp8e4m3) (k : FVec Ideal (T2 256 256) .fp8e4m3) (R : Fin 512) (l : Fin 256) :
    matmul (dotQK 256) none q k (constant (T2 512 256) .f32 0x00000000#32) (ix2 R l) = ∑ d : Fin 256, (q (ix2 R d) : EReal) * k (ix2 l d) := by
  pointwise
theorem mm128 (q : FVec Ideal (T2 512 256) .fp8e4m3) (k : FVec Ideal (T2 128 256) .fp8e4m3) (R : Fin 512) (l : Fin 128) :
    matmul (dotQK 128) none q k (constant (T2 512 128) .f32 0x00000000#32) (ix2 R l) = ∑ d : Fin 256, (q (ix2 R d) : EReal) * k (ix2 l d) := by
  pointwise

section Score
variable (q : FVec Ideal (T2 512 256) .fp8e4m3) (i : ℕ)
  (hq : ∀ (R : Fin 512) (d : Fin 256), q (ix2 R d) = qc (inOf a) (128 * i + R.val / 4) (R.val % 4) d.val)

theorem H6_rd (o w : ℕ) (h : o + w ≤ 2048) (u : Fin 1) (l : Fin w) (d : Fin 256) (h0 : 0 + 1 ≤ 1) (h2 : 0 + 256 ≤ 256) :
    a.a8.view.readCov (H6 a 8 (by omega)) (R3 0 o 0 1 w 256 h0 h h2).toLoadRect (ix3 u l d) = kc (inOf a) (o + l.val) d.val := by
  refine (rd3 _ _ _ _ _ _ _ _ _ _ _ _ _ _).trans ?_
  refine (H6_canon a _ _ _ _ _ (by show o + l.val < _; omega)).trans ?_
  show kc (inOf a) (o + l.val) (0 + d.val) = _
  rw [Nat.zero_add]

include hq in
theorem raw256 (o : ℕ) (h : o + 256 ≤ 2048) (R : Fin 512) (l : Fin 256) :
    raw a q o 256 h (ix2 R l) = ∑ d : Fin 256, qc (inOf a) (128 * i + R.val / 4) (R.val % 4) d.val * kc (inOf a) (o + l.val) d.val := by
  rw [raw, mm256]
  refine Finset.sum_congr rfl fun d _ => ?_
  rw [hq]
  exact congrArg (qc (inOf a) (128 * i + R.val / 4) (R.val % 4) d.val * ·) ((scD 256 256 _ l d).trans (H6_rd a o 256 h 0 l d _ _))

include hq in
theorem raw128 (o : ℕ) (h : o + 128 ≤ 2048) (R : Fin 512) (l : Fin 128) :
    raw a q o 128 h (ix2 R l) = ∑ d : Fin 256, qc (inOf a) (128 * i + R.val / 4) (R.val % 4) d.val * kc (inOf a) (o + l.val) d.val := by
  rw [raw, mm128]
  refine Finset.sum_congr rfl fun d _ => ?_
  rw [hq]
  exact congrArg (qc (inOf a) (128 * i + R.val / 4) (R.val % 4) d.val * ·) ((scD 128 256 _ l d).trans (H6_rd a o 128 h 0 l d _ _))

theorem ksr_apply (n : ℕ) (h : 128 * n + 128 ≤ 2048) (R : Fin 512) (l : Fin 128) : ksr a n h (ix2 R l) = ks (inOf a) (128 * n + l.val) := by
  pointwise [ksr]
  refine (rd2 0 (128 * n) 1 128 _ _ _ _ _ (by omega) h).trans ?_
  exact HS1_canon a _ _ _ _ (by show 128 * n + l.val < _; omega)

include hq in
theorem scoreA_apply (j : ℕ) (h : 256 * j + 256 ≤ 2048) (R : Fin 512) (l : Fin 128) :
    scoreA a q j h (ix2 R l) = sc0 (inOf a) (128 * i + R.val / 4) (R.val % 4) (256 * j + l.val) := by
  have hl := l.isLt
  pointwise [scoreA]
  refine congrArg₂ (· * ·) ((raw256 a q i hq _ _ _ _).trans rfl) ((ksr_apply a _ _ R l).trans ?_)
  rw [show 128 * (2 * j) + l.val = 256 * j + l.val by omega]

include hq in
theorem scoreB_apply (j : ℕ) (h : 256 * j + 256 ≤ 2048) (R : Fin 512) (l : Fin 128) :
    scoreB a q j h (ix2 R l) = sc0 (inOf a) (128 * i + R.val / 4) (R.val % 4) (256 * j + 128 + l.val) := by
  have hl := l.isLt
  pointwise [scoreB]
  refine congrArg₂ (· * ·) ((raw256 a q i hq _ _ _ _).trans ?_) ((ksr_apply a _ _ R l).trans ?_)
  · simp only [Nat.add_assoc]
  · rw [show 128 * (2 * j + 1) + l.val = 256 * j + 128 + l.val by omega]

theorem diag (I : In) (i' h o : ℕ) (t l : ℕ) (e : o = 128 * i') :
    sc0 I (128 * i' + t) h (o + l) + (if l ≤ t then (0 : EReal) else ⊥) = sco I (128 * i' + t) h (o + l) := by
  subst e
  unfold sco sc0
  by_cases hh : l ≤ t
  · rw [if_pos hh, if_pos (by omega)]
  · rw [if_neg hh, if_neg (by omega)]

include hq in
theorem scoreH_apply (h : 128 * i + 128 ≤ 2048) (R : Fin 512) (l : Fin 128) :
    scoreH a q i h (ix2 R l) = sco (inOf a) (128 * i + R.val / 4) (R.val % 4) (128 * i + l.val) := by
  rw [← diag (inOf a) i _ (128 * i) (R.val / 4) l.val rfl]
  show raw a q (128 * i) 128 h (ix2 R l) * ksr a i h (ix2 R l) + (bias : FVec Ideal (T2 512 128) .f32) (ix2 R l) = _
  rw [raw128 a q i hq, ksr_apply, bias_apply]
  rfl

include hq in
theorem scoreBd_apply (j : ℕ) (h : 256 * j + 256 ≤ 2048) (e : 256 * j + 128 = 128 * i) (R : Fin 512) (l : Fin 128) :
    addf (scoreB a q j h) bias (ix2 R l) = sco (inOf a) (128 * i + R.val / 4) (R.val % 4) (256 * j + 128 + l.val) := by
  rw [← diag (inOf a) i _ (256 * j + 128) (R.val / 4) l.val e]
  show scoreB a q j h (ix2 R l) + (bias : FVec Ideal (T2 512 128) .f32) (ix2 R l) = _
  rw [scoreB_apply a q i hq, bias_apply]

/-- A running maximum in lane `l`: not infinite, and in lane 0 real. -/
def Ok (l : ℕ) (x : EReal) : Prop := x ≠ ⊤ ∧ (l = 0 → x ≠ ⊥)

theorem Ok.max {l : ℕ} {x y : EReal} (hx : Ok l x) (hy : Ok l y) : Ok l (max x y) := by
  rcases max_cases x y with ⟨e, _⟩ | ⟨e, _⟩ <;> rw [e] <;> assumption

/-- The scores that are not masked are real. -/
def Fine (I : In) : Prop := ∀ t h j, t < 2048 → h < 4 → j < 2048 → sc0 I t h j ≠ ⊤ ∧ sc0 I t h j ≠ ⊥

variable (hF : Fine (inOf a))

theorem ok_sco (I : In) (hF : Fine I) (t h j l : ℕ) (ht : t < 2048) (hh : h < 4) (hj : j < 2048) (hl : l = 0 → j ≤ t) : Ok l (sco I t h j) := by
  by_cases e : j ≤ t
  · rw [sco_le _ e]
    exact ⟨(hF t h j ht hh hj).1, fun _ => (hF t h j ht hh hj).2⟩
  · refine ⟨?_, fun h => absurd (hl h) e⟩
    rw [sco, if_neg e, EReal.add_bot]
    exact bot_ne_top

section Piece
variable (s4 : List (View.Piece (Elt Ideal) (T3 2 512 128) .f32)) (s5 : List (View.Piece (Elt Ideal) (T3 2 512 2048) .f32))

theorem RW_canon (w : FVec Ideal (T2 512 128) .f32) (u : Fin 2) (R : Fin 512) (l : Fin 128) (hu : u.val = i % 2) :
    View.canon (⟨RW (i % 2) (slot_lt i), shapeCast (T3 1 512 128) w (scAdd 512 128)⟩ :: s4) (ix3 u R l) = w (ix2 R l) := by
  refine (hit3 _ _ _ _ _ _ _ _ _ _ _ _ 0 R l (by show u.val = i % 2 + 0; omega) (Nat.zero_add _).symm (Nat.zero_add _).symm).trans ?_
  rw [scA]

theorem ldm_apply (R : Fin 512) (l : Fin 128) : ldm a s4 i (ix2 R l) = View.canon s4 (ix3 (⟨i % 2, slot_lt i⟩ : Fin 2) R l) := by
  refine (scD 512 128 _ _ _).trans ?_
  refine (rd3 _ _ _ _ _ _ _ _ _ _ _ _ _ _).trans ?_
  refine congrArg (View.canon s4) (funext fun k => Fin.ext ?_)
  match k with
    | ⟨0, _⟩ => rfl
    | ⟨1, _⟩ => exact Nat.zero_add _
    | ⟨2, _⟩ => exact Nat.zero_add _

theorem pc5_hit (n : ℕ) (h : 128 * n + 128 ≤ 2048) (t : FVec Ideal (T2 512 128) .f32) (u : Fin 2) (R : Fin 512) (j : Fin 2048) (hu : u.val = i % 2)
    (h1 : 128 * n ≤ j.val) (h2 : j.val < 128 * n + 128) :
    View.canon (pc5 i n h t :: s5) (ix3 u R j) = t (ix2 R ⟨j.val - 128 * n, by omega⟩) := by
  refine (hit3 _ _ _ _ _ _ _ _ _ _ _ _ 0 R ⟨j.val - 128 * n, by omega⟩ (by show u.val = i % 2 + 0; omega) (Nat.zero_add _).symm (by show j.val = 128 * n + (j.val - 128 * n); omega)).trans ?_
  rw [scA]

theorem pc5_miss (n : ℕ) (h : 128 * n + 128 ≤ 2048) (t : FVec Ideal (T2 512 128) .f32) (u : Fin 2) (R : Fin 512) (j : Fin 2048)
    (h1 : ¬ (128 * n ≤ j.val ∧ j.val < 128 * n + 128)) :
    View.canon (pc5 i n h t :: s5) (ix3 u R j) = View.canon s5 (ix3 u R j) :=
  miss3 _ _ _ _ _ _ _ _ _ _ _ _ fun h => h1 h.2.2.2.2
end Piece

/-- The running maxima of a slot are fine. -/
def Mx (s4 : List (View.Piece (Elt Ideal) (T3 2 512 128) .f32)) (i : ℕ) : Prop :=
  ∀ (u : Fin 2) (R : Fin 512) (l : Fin 128), u.val = i % 2 → Ok l.val (View.canon s4 (ix3 u R l))
/-- The scores of the keys below `n` are in a slot. -/
def Sx (s5 : List (View.Piece (Elt Ideal) (T3 2 512 2048) .f32)) (i n : ℕ) : Prop :=
  ∀ (u : Fin 2) (R : Fin 512) (j : Fin 2048), u.val = i % 2 → j.val < n → View.canon s5 (ix3 u R j) = sco (inOf a) (128 * i + R.val / 4) (R.val % 4) j.val

theorem blk_ok (st : SB Ideal) (j : ℕ) (h : 256 * j + 256 ≤ 2048) (tA tB : FVec Ideal (T2 512 128) .f32)
    (hA : ∀ R l, tA (ix2 R l) = sco (inOf a) (128 * i + R.val / 4) (R.val % 4) (256 * j + l.val))
    (hB : ∀ R l, tB (ix2 R l) = sco (inOf a) (128 * i + R.val / 4) (R.val % 4) (256 * j + 128 + l.val))
    (oA : ∀ (R : Fin 512) (l : Fin 128), Ok l.val (tA (ix2 R l))) (oB : ∀ (R : Fin 512) (l : Fin 128), Ok l.val (tB (ix2 R l)))
    (h4 : j ≠ 0 → Mx st.s4 i) (h5 : Sx a st.s5 i (256 * j)) :
    Mx (blk a st i j h tA tB).s4 i ∧ Sx a (blk a st i j h tA tB).s5 i (256 * (j + 1)) := by
  constructor
  · intro u R l hu
    rw [blk, RW_canon i _ _ u R l hu]
    match j with
    | 0 => exact (oA R l).max (oB R l)
    | k + 1 =>
      refine Ok.max (Ok.max ?_ (oA R l)) (oB R l)
      rw [ldm_apply]
      exact h4 (by omega) _ R l rfl
  · intro u R k hu hk
    rw [blk]
    by_cases e1 : 256 * j + 128 ≤ k.val
    · refine (pc5_hit i _ _ _ _ u R k hu (by omega) (by omega)).trans ?_
      rw [hB]
      simp only [show 256 * j + 128 + (k.val - 128 * (2 * j + 1)) = k.val by omega]
    · refine (pc5_miss i _ _ _ _ u R k (by omega)).trans ?_
      by_cases e2 : 256 * j ≤ k.val
      · refine (pc5_hit i _ _ _ _ u R k hu (by omega) (by omega)).trans ?_
        rw [hA]
        simp only [show 256 * j + (k.val - 128 * (2 * j)) = k.val by omega]
      · refine (pc5_miss i _ _ _ _ u R k (by omega)).trans ?_
        exact h5 u R k hu (by omega)

theorem mx1_ok (s4 : List (View.Piece (Elt Ideal) (T3 2 512 128) .f32)) (i' : ℕ) (t : FVec Ideal (T2 512 128) .f32)
    (ht : ∀ (R : Fin 512) (l : Fin 128), Ok l.val (t (ix2 R l))) (h4 : i' ≠ 0 → Mx s4 i') (R : Fin 512) (l : Fin 128) : Ok l.val (mx1 a s4 i' t (ix2 R l)) := by
  match i' with
  | 0 => exact ht R l
  | k + 1 =>
    refine Ok.max ?_ (ht R l)
    rw [ldm_apply]
    exact h4 (by omega) _ R l rfl

include hq hF in
theorem full_ok (hi : i < 16) (st : SB Ideal) : ∀ (n : ℕ) (hn : 256 * n ≤ 2048), n ≤ i / 2 →
    (n ≠ 0 → Mx (full a q st i n hn).s4 i) ∧ Sx a (full a q st i n hn).s5 i (256 * n)
  | 0, _, _ => ⟨fun h => absurd rfl h, fun _ _ _ _ h => absurd h (by omega)⟩
  | n + 1, hn, hni => by
    have ih := full_ok hi st n (by omega) (by omega)
    have hA : ∀ (R : Fin 512) (l : Fin 128), scoreA a q n (by omega) (ix2 R l) = sco (inOf a) (128 * i + R.val / 4) (R.val % 4) (256 * n + l.val) := fun R l => by
      have hl := l.isLt
      rw [scoreA_apply a q i hq, sco_le _ (by omega)]
    have hB : ∀ (R : Fin 512) (l : Fin 128), scoreB a q n (by omega) (ix2 R l) = sco (inOf a) (128 * i + R.val / 4) (R.val % 4) (256 * n + 128 + l.val) := fun R l => by
      have hl := l.isLt
      rw [scoreB_apply a q i hq, sco_le _ (by omega)]
    have r := blk_ok a i (full a q st i n (by omega)) n (by omega) (scoreA a q n (by omega)) (scoreB a q n (by omega)) hA hB
      (fun R l => by have hl := l.isLt; have hR := R.isLt; rw [hA]; exact ok_sco _ hF _ _ _ _ (by omega) (by omega) (by omega) (by omega))
      (fun R l => by have hl := l.isLt; have hR := R.isLt; rw [hB]; exact ok_sco _ hF _ _ _ _ (by omega) (by omega) (by omega) (by omega))
      ih.1 ih.2
    exact ⟨fun _ => r.1, r.2⟩

include hq hF in
theorem blocks_ok (hi : i < 16) (st : SB Ideal) : Mx (blocks a q st i hi).s4 i ∧ Sx a (blocks a q st i hi).s5 i (128 * (i + 1)) := by
  have hf := full_ok a q i hq hF hi st (i / 2) (by omega) (le_refl _)
  unfold blocks
  rcases Nat.mod_two_eq_zero_or_one i with e | e
  · rw [show Nat.beq (i % 2) 0 = true by rw [e]; rfl, cond_true]
    have hH : ∀ (R : Fin 512) (l : Fin 128), Ok l.val (scoreH a q i (by omega) (ix2 R l)) := fun R l => by
      have hl := l.isLt
      have hR := R.isLt
      rw [scoreH_apply a q i hq]
      exact ok_sco _ hF _ _ _ _ (by omega) (by omega) (by omega) (by omega)
    constructor
    · intro u R l hu
      exact (congrArg (Ok l.val) (RW_canon i _ _ u R l hu)).mpr (mx1_ok a _ i _ hH (fun h => hf.1 (by omega)) R l)
    · intro u R k hu hk
      by_cases e1 : 128 * i ≤ k.val
      · refine (pc5_hit i _ _ _ _ u R k hu (by omega) (by omega)).trans ?_
        rw [scoreH_apply a q i hq]
        simp only [show 128 * i + (k.val - 128 * i) = k.val by omega]
      · refine (pc5_miss i _ _ _ _ u R k (by omega)).trans ?_
        exact hf.2 u R k hu (by omega)
  · rw [show Nat.beq (i % 2) 0 = false by rw [e]; rfl, cond_false, dif_pos (by omega)]
    have hA : ∀ (R : Fin 512) (l : Fin 128), scoreA a q (i / 2) (by omega) (ix2 R l) = sco (inOf a) (128 * i + R.val / 4) (R.val % 4) (256 * (i / 2) + l.val) := fun R l => by
      have hl := l.isLt
      rw [scoreA_apply a q i hq, sco_le _ (by omega)]
    have hB : ∀ (R : Fin 512) (l : Fin 128), addf (scoreB a q (i / 2) (by omega)) bias (ix2 R l) = sco (inOf a) (128 * i + R.val / 4) (R.val % 4) (256 * (i / 2) + 128 + l.val) := fun R l =>
      scoreBd_apply a q i hq (i / 2) (by omega) (by omega) R l
    have r := blk_ok a i (full a q st i (i / 2) (by omega)) (i / 2) (by omega) (scoreA a q (i / 2) (by omega)) (addf (scoreB a q (i / 2) (by omega)) bias) hA hB
      (fun R l => by have hl := l.isLt; have hR := R.isLt; rw [hA]; exact ok_sco _ hF _ _ _ _ (by omega) (by omega) (by omega) (by omega))
      (fun R l => by have hl := l.isLt; have hR := R.isLt; rw [hB]; exact ok_sco _ hF _ _ _ _ (by omega) (by omega) (by omega) (by omega))
      hf.1 hf.2
    rw [show 128 * (i + 1) = 256 * (i / 2 + 1) by omega]
    exact r
end Score

end Cert.Gqa
-- ==== Proof.Read4.lean ====
module

public import proofs.«01_k».proof.Proof.Read3

@[expose] public section

set_option maxRecDepth 16384

noncomputable section

/-! What a query tile's weights and means leave in the buffers, over the reals. -/

namespace Cert.Gqa

open Cert.KernelIdeal Idealize.ShloMosaic Idealize.ShloMosaic.TcCoe Idealize.SL.Sem

variable (a : Args Ideal)

theorem ldc_apply (s3 : List (View.Piece (Elt Ideal) (T3 2 512 128) .f32)) (i : ℕ) (R : Fin 512) (l : Fin 128) :
    ldc a s3 i (ix2 R l) = View.canon s3 (ix3 (⟨i % 2, slot_lt i⟩ : Fin 2) R l) := by
  refine (scD 512 128 _ _ _).trans ?_
  refine (rd3 _ _ _ _ _ _ _ _ _ _ _ _ _ _).trans ?_
  refine congrArg (View.canon s3) (funext fun k => Fin.ext ?_)
  match k with
    | ⟨0, _⟩ => rfl
    | ⟨1, _⟩ => exact Nat.zero_add _
    | ⟨2, _⟩ => exact Nat.zero_add _

/-- The largest of a row of running maxima. -/
def rowM (m : FVec Ideal (T2 512 128) .f32) (R : Fin 512) : EReal := Finset.fold max ⊥ (fun l : Fin 128 => (m (ix2 R l) : EReal)) Finset.univ

theorem rowM_real (m : FVec Ideal (T2 512 128) .f32) (R : Fin 512) (h : ∀ l : Fin 128, Ok l.val (m (ix2 R l))) : ∃ r : ℝ, rowM m R = (r : EReal) := by
  have h1 : rowM m R ≠ ⊤ := by
    refine ne_of_lt ((Finset.fold_max_lt _).2 ⟨bot_lt_top, fun l _ => lt_of_le_of_ne le_top (h l).1⟩)
  have h2 : rowM m R ≠ ⊥ := by
    have : (m (ix2 R 0) : EReal) ≤ rowM m R := (Finset.le_fold_max _).2 (.inr ⟨0, Finset.mem_univ _, le_refl _⟩)
    exact fun e => (h 0).2 rfl (le_bot_iff.1 (e ▸ this))
  exact ⟨(rowM m R).toReal, (EReal.coe_toReal h1 h2).symm⟩

theorem mcv_apply (c m : FVec Ideal (T2 512 128) .f32) (R : Fin 512) (l : Fin 128) :
    mcv c m (ix2 R l) = rowM m R * c (ix2 R l) - Ideal.ofBits .f32 0x41000000#32 := by
  pointwise [mcv]
  rw [c_bot]; rfl

section W
variable (i : ℕ) (s5 : List (View.Piece (Elt Ideal) (T3 2 512 2048) .f32)) (c mc : FVec Ideal (T2 512 128) .f32) (M : Fin 512 → EReal)
  (h5 : Sx a s5 i (128 * (i + 1)))
  (hc : ∀ (R : Fin 512) (l : Fin 128), c (ix2 R l) = cf (inOf a) (128 * i + R.val / 4) (R.val % 4))
  (hm : ∀ (R : Fin 512) (l : Fin 128), mc (ix2 R l) = M R * cf (inOf a) (128 * i + R.val / 4) (R.val % 4) - Ideal.ofBits .f32 0x41000000#32)

include h5 hc hm

theorem pw_apply (n : ℕ) (h : 128 * n + 128 ≤ 2048) (hn : n ≤ i) (R : Fin 512) (l : Fin 128) :
    pw a s5 c mc i n h (ix2 R l) = pwt (inOf a) (M R) (128 * i + R.val / 4) (R.val % 4) (128 * n + l.val) := by
  have hl := l.isLt
  have e : shapeCast (T2 512 128) (a.a17.view.readCov s5 (R3 (i % 2) 0 (128 * n) 1 512 128 (by omega) (by omega) h).toLoadRect) (scDrop 512 128) (ix2 R l)
      = sco (inOf a) (128 * i + R.val / 4) (R.val % 4) (128 * n + l.val) := by
    refine (scD 512 128 _ _ _).trans ?_
    refine (rd3 _ _ _ _ _ _ _ _ _ _ _ _ _ _).trans ?_
    refine (h5 _ _ _ rfl (by show 128 * n + l.val < _; omega)).trans ?_
    show sco (inOf a) (128 * i + (0 + R.val) / 4) ((0 + R.val) % 4) _ = _
    rw [Nat.zero_add]
  show Ideal.exp2 (shapeCast (T2 512 128) (a.a17.view.readCov s5 (R3 (i % 2) 0 (128 * n) 1 512 128 (by omega) (by omega) h).toLoadRect) (scDrop 512 128) (ix2 R l) * c (ix2 R l) - mc (ix2 R l)) = _
  rw [e, hc, hm, pwt]

theorem acc_sum (R : Fin 512) : ∀ (n : ℕ) (h : 128 * n + 128 ≤ 2048), n ≤ i →
    ∑ l : Fin 128, (acc a s5 c mc i n h (ix2 R l) : EReal)
      = ∑ j ∈ Finset.range (128 * (n + 1)), pwt (inOf a) (M R) (128 * i + R.val / 4) (R.val % 4) j
  | 0, h, hn => by
    rw [show (∑ l : Fin 128, (acc a s5 c mc i 0 h (ix2 R l) : EReal)) = ∑ l : Fin 128, pwt (inOf a) (M R) (128 * i + R.val / 4) (R.val % 4) (128 * 0 + l.val) from
      Finset.sum_congr rfl fun l _ => pw_apply a i s5 c mc M h5 hc hm 0 h hn R l]
    rw [Fin.sum_univ_eq_sum_range fun l => pwt (inOf a) (M R) (128 * i + R.val / 4) (R.val % 4) (128 * 0 + l)]
    simp only [Nat.mul_zero, Nat.zero_add, Nat.mul_one]
  | n + 1, h, hn => by
    have e : ∀ l : Fin 128, (acc a s5 c mc i (n + 1) h (ix2 R l) : EReal) = acc a s5 c mc i n (by omega) (ix2 R l)
        + pwt (inOf a) (M R) (128 * i + R.val / 4) (R.val % 4) (128 * (n + 1) + l.val) := fun l =>
      congrArg (acc a s5 c mc i n (by omega) (ix2 R l) + ·) (pw_apply a i s5 c mc M h5 hc hm (n + 1) h hn R l)
    rw [Finset.sum_congr rfl fun l _ => e l, Finset.sum_add_distrib, acc_sum R n (by omega) (by omega)]
    rw [Fin.sum_univ_eq_sum_range fun l => pwt (inOf a) (M R) (128 * i + R.val / 4) (R.val % 4) (128 * (n + 1) + l)]
    rw [← Finset.sum_range_add, show 128 * (n + 1) + 128 = 128 * (n + 1 + 1) by omega]

theorem hs6_canon (st : List (View.Piece (Elt Ideal) (T3 2 512 2048) .fp8e4m3)) : ∀ (n : ℕ) (h : 128 * n ≤ 2048), n ≤ i + 1 →
    ∀ (u : Fin 2) (R : Fin 512) (j : Fin 2048), u.val = i % 2 → j.val < 128 * n →
      View.canon (hs6 a s5 c mc st i n h) (ix3 u R j) = pwt (inOf a) (M R) (128 * i + R.val / 4) (R.val % 4) j.val
  | 0, _, _, _, _, _, _, hj => absurd hj (by omega)
  | n + 1, h, hn, u, R, j, hu, hj => by
    by_cases e : 128 * n ≤ j.val
    · refine (hit3 _ _ _ _ _ _ _ _ _ _ _ _ 0 R ⟨j.val - 128 * n, by omega⟩ (by show u.val = i % 2 + 0; omega) (Nat.zero_add _).symm (by show j.val = 128 * n + (j.val - 128 * n); omega)).trans ?_
      rw [scA, trunc_apply, pw_apply a i s5 c mc M h5 hc hm n (by omega) (by omega)]
      simp only [show 128 * n + (j.val - 128 * n) = j.val by omega]
    · refine (miss3 _ _ _ _ _ _ _ _ _ _ _ _ fun h => e h.2.2.2.2.1).trans ?_
      exact hs6_canon st n (by omega) (by omega) u R j hu (by omega)
end W

theorem rl_apply (x : FVec Ideal (T2 512 128) .f32) (R : Fin 512) (l : Fin 128) : rl x (ix2 R l) = Ideal.div 1 (∑ j : Fin 128, (x (ix2 R j) : EReal)) := by
  pointwise [rl]

theorem mmPV (nk : ℕ) (x : FVec Ideal (T2 512 nk) .fp8e4m3) (y : FVec Ideal (T2 nk 256) .fp8e4m3) (R : Fin 512) (d : Fin 256) :
    matmul (dotPV nk) none x y (constant (T2 512 256) .f32 0x00000000#32) (ix2 R d) = ∑ j : Fin nk, (x (ix2 R j) : EReal) * y (ix2 j d) := by
  refine (Ideal.matmul_apply₁ _ rfl rfl _ _ _ _).trans ?_
  rw [show (constant (T2 512 256) .f32 0x00000000#32 : FVec Ideal _ _) (ix2 R d) = (0 : EReal) from (show Ideal.ofBits .f32 0x00000000#32 = 0 by simp), zero_add]
  refine Finset.sum_congr rfl fun k _ => congrArg₂ (· * ·) (congrArg x ?_) (congrArg y ?_)
  · funext b
    match b with
    | ⟨0, _⟩ => rfl
    | ⟨1, _⟩ => rfl
  · funext b
    match b with
    | ⟨0, _⟩ => rfl
    | ⟨1, _⟩ => rfl

theorem ov_apply (s6 : List (View.Piece (Elt Ideal) (T3 2 512 2048) .fp8e4m3)) (i nk : ℕ) (h : nk ≤ 2048) (f : ℕ → ℕ → EReal)
    (h6 : ∀ (u : Fin 2) (R : Fin 512) (j : Fin 2048), u.val = i % 2 → j.val < nk → View.canon s6 (ix3 u R j) = f R.val j.val) (R : Fin 512) (d : Fin 256) :
    ov a s6 i nk h (ix2 R d) = ∑ j : Fin nk, f R.val j.val * vc (inOf a) j.val d.val := by
  rw [ov, mmPV]
  refine Finset.sum_congr rfl fun j _ => congrArg₂ (· * ·) ?_ ?_
  · refine (scD 512 nk _ _ _).trans ?_
    refine (rd3 _ _ _ _ _ _ _ _ _ _ _ _ _ _).trans ?_
    refine (h6 _ _ _ rfl (by show 0 + j.val < nk; omega)).trans ?_
    show f (0 + R.val) (0 + j.val) = _
    rw [Nat.zero_add, Nat.zero_add]
  · refine (scD nk 256 _ _ _).trans ?_
    refine (rd3 _ _ _ _ _ _ _ _ _ _ _ _ _ _).trans ?_
    refine (H8_canon a _ _ _ _ _ (by show 0 + j.val < _; omega)).trans ?_
    show vc (inOf a) (0 + j.val) (0 + d.val) = _
    rw [Nat.zero_add, Nat.zero_add]

theorem sto_canon (o : FVec Ideal (T2 512 256) .f32) (r : FVec Ideal (T2 512 128) .f32) (st : List (View.Piece (Elt Ideal) (T4 2 2 512 128) .f32)) (i : ℕ)
    (f : ℕ → ℕ → EReal) (hf : ∀ (R : Fin 512) (d : Fin 256) (l : Fin 128), (o (ix2 R d) * r (ix2 R l) : EReal) = f R.val d.val)
    (u v : Fin 2) (R : Fin 512) (l : Fin 128) (hu : u.val = i % 2) :
    View.canon (sto o r st i) (ix4 u v R l) = f R.val (128 * v.val + l.val) := by
  have hl := l.isLt
  have hv := v.isLt
  by_cases e : v.val = 1
  · refine (hitH _ _ _ _ _ _ _ hu e).trans ?_
    refine (scA2 _ _ _ _ _).trans ?_
    refine Eq.trans ?_ ((hf R ⟨128 + l.val, by omega⟩ l).trans (by rw [e]))
    pointwise
  · refine (missH _ _ _ _ _ _ _ fun h => e h.2).trans ?_
    refine (hitH _ _ _ _ _ _ _ hu (by show v.val = 0; omega)).trans ?_
    refine (scA2 _ _ _ _ _).trans ?_
    refine Eq.trans ?_ ((hf R ⟨l.val, by omega⟩ l).trans (by rw [show v.val = 0 by omega, Nat.mul_zero, Nat.zero_add]))
    pointwise

/-- The pieces of a tile's means: the tile's rows hold them, the others what was there. -/
theorem l3_canon (s7 : List (View.Piece (Elt Ideal) (T4 2 2 512 128) .f32)) (st : List (View.Piece (Elt Ideal) (T3 1 2048 1024) .bf16)) (i : ℕ) (hi : i < 16)
    (f : ℕ → ℕ → EReal) (h7 : ∀ (u v : Fin 2) (R : Fin 512) (l : Fin 128), u.val = i % 2 → View.canon s7 (ix4 u v R l) = f R.val (128 * v.val + l.val)) :
    ∀ (n : ℕ) (hn : n ≤ 4) (u : Fin 1) (t : Fin 2048) (c : Fin 1024),
    View.canon (l3 a s7 st i hi n hn) (ix3 u t c) =
      if 128 * i ≤ t.val ∧ t.val < 128 * i + 128 ∧ c.val < 256 * n then f (c.val / 256 + 4 * (t.val - 128 * i)) (c.val % 256) * vs (inOf a) (c.val % 256)
      else View.canon st (ix3 u t c)
  | 0, _, u, t, c => by rw [if_neg (by omega)]; rfl
  | n + 1, hn, u, t, c => by
    have hu := u.isLt
    have hc := c.isLt
    by_cases e : (128 * i ≤ t.val ∧ t.val < 128 * i + 128) ∧ 256 * n ≤ c.val ∧ c.val < 256 * n + 256
    · rw [if_pos (by omega)]
      refine (hit3 _ _ _ _ _ _ _ _ _ _ _ _ 0 ⟨t.val - 128 * i, by omega⟩ ⟨c.val - 256 * n, by omega⟩ (by show u.val = 0 + 0; omega) (by show t.val = 128 * i + (t.val - 128 * i); omega) (by show c.val = 256 * n + (c.val - 256 * n); omega)).trans ?_
      rw [scA, trunc_apply]
      pointwise
      rw [head_apply a.a19 s7 i n (by omega) f h7, vsc_apply]
      show f (n + 4 * (t.val - 128 * i)) (c.val - 256 * n) * vs (inOf a) (c.val - 256 * n) = _
      rw [show c.val / 256 = n by omega, show c.val % 256 = c.val - 256 * n by omega]
    · refine (miss3 _ _ _ _ _ _ _ _ _ _ _ _ fun h => e ⟨⟨h.2.2.1, h.2.2.2.1⟩, h.2.2.2.2⟩).trans ?_
      refine (l3_canon s7 st i hi f h7 n (by omega) u t c).trans ?_
      by_cases e' : 128 * i ≤ t.val ∧ t.val < 128 * i + 128 ∧ c.val < 256 * n
      · rw [if_pos e', if_pos (by omega)]
      · rw [if_neg e', if_neg (by omega)]

end Cert.Gqa
-- ==== Proof.Read5.lean ====
module

public import proofs.«01_k».proof.Proof.Read4

@[expose] public section

set_option maxRecDepth 16384

noncomputable section

/-! What the whole body leaves in the result blocks, over the reals. -/

namespace Cert.Gqa

open Cert.KernelIdeal Idealize.ShloMosaic Idealize.ShloMosaic.TcCoe Idealize.SL.Sem

variable (a : Args Ideal)

section Step
variable (st : Bufs Ideal) (i : ℕ) (hi : i < 16)

/-- Row `R` of a tile: the query's token and head. -/
abbrev tokOf (i R : ℕ) : ℕ := 128 * i + R / 4

theorem n2_canon (u v : Fin 2) (R : Fin 512) (l : Fin 128) (hu : u.val = i % 2) :
    View.canon (n2 a st i hi) (ix4 u v R l) = qc (inOf a) (128 * i + R.val / 4) (R.val % 4) (128 * v.val + l.val) :=
  hs2_canon a _ i hi 4 _ u v R l hu (by omega)

theorem nq_apply (R : Fin 512) (d : Fin 256) : nq a st i hi (ix2 R d) = qc (inOf a) (128 * i + R.val / 4) (R.val % 4) d.val :=
  q8_apply a _ i (fun R d => qc (inOf a) (128 * i + R / 4) (R % 4) d)
    (fun u R d hu => hs0_canon a _ _ i (fun R d => qc (inOf a) (128 * i + R / 4) (R % 4) d) (fun u v R l hu => n2_canon a st i hi u v R l hu) u R d hu) R d

variable (hF : Fine (inOf a))
include hF

theorem nsb_ok : Mx (nsb a st i hi).s4 i ∧ Sx a (nsb a st i hi).s5 i (128 * (i + 1)) := blocks_ok a _ i (nq_apply a st i hi) hF hi _

omit hF in
theorem nc_apply (R : Fin 512) (l : Fin 128) : nc a st i hi (ix2 R l) = cf (inOf a) (128 * i + R.val / 4) (R.val % 4) := by
  rw [nc, ldc_apply]
  exact hs3_canon a _ i hi 4 _ _ R l rfl (by omega)

/-- The offset of each row. -/
def nM (R : Fin 512) : EReal := rowM (ldm a (nsb a st i hi).s4 i) R

theorem nM_real (R : Fin 512) : ∃ r : ℝ, nM a st i hi R = (r : EReal) :=
  rowM_real _ R fun l => by rw [ldm_apply]; exact (nsb_ok a st i hi hF).1 _ R l rfl

omit hF in
theorem nmc_apply (R : Fin 512) (l : Fin 128) :
    nmc a st i hi (ix2 R l) = nM a st i hi R * cf (inOf a) (128 * i + R.val / 4) (R.val % 4) - Ideal.ofBits .f32 0x41000000#32 := by
  rw [nmc, mcv_apply, nc_apply]; rfl

theorem n6_canon (u : Fin 2) (R : Fin 512) (j : Fin 2048) (hu : u.val = i % 2) (hj : j.val < 128 * (i + 1)) :
    View.canon (n6 a st i hi) (ix3 u R j) = pwt (inOf a) (nM a st i hi R) (128 * i + R.val / 4) (R.val % 4) j.val :=
  hs6_canon a i _ _ _ (nM a st i hi) (nsb_ok a st i hi hF).2 (nc_apply a st i hi) (nmc_apply a st i hi) _ _ _ (le_refl _) u R j hu hj

theorem rl_n (R : Fin 512) (l : Fin 128) :
    ldc a (n3' a st i hi) i (ix2 R l) = Ideal.div 1 (∑ j : Fin (128 * (i + 1)), pwt (inOf a) (nM a st i hi R) (128 * i + R.val / 4) (R.val % 4) j.val) := by
  rw [ldc_apply, n3', RW_canon i _ _ _ R l rfl, rl_apply]
  refine congrArg (Ideal.div 1) ?_
  rw [Fin.sum_univ_eq_sum_range fun j => pwt (inOf a) (nM a st i hi R) (128 * i + R.val / 4) (R.val % 4) j]
  exact acc_sum a i _ _ _ (nM a st i hi) (nsb_ok a st i hi hF).2 (nc_apply a st i hi) (nmc_apply a st i hi) R i (by omega) (le_refl _)

/-- The mean of row `R`. -/
def nF (R d : ℕ) : EReal := if h : R < 512 then
  (∑ j : Fin (128 * (i + 1)), pwt (inOf a) (nM a st i hi ⟨R, h⟩) (128 * i + R / 4) (R % 4) j.val * vc (inOf a) j.val d)
    * Ideal.div 1 (∑ j : Fin (128 * (i + 1)), pwt (inOf a) (nM a st i hi ⟨R, h⟩) (128 * i + R / 4) (R % 4) j.val) else 0

theorem n7_canon (u v : Fin 2) (R : Fin 512) (l : Fin 128) (hu : u.val = i % 2) :
    View.canon (n7 a st i hi) (ix4 u v R l) = nF a st i hi R.val (128 * v.val + l.val) := by
  refine sto_canon _ _ _ i (nF a st i hi) (fun R d l => ?_) u v R l hu
  rw [rl_n a st i hi hF, nF, dif_pos R.isLt]
  refine congrArg (· * _) ?_
  refine (ov_apply a _ i (128 * (i + 1)) (by omega)
    (fun R j => if h : R < 512 then pwt (inOf a) (nM a st i hi ⟨R, h⟩) (128 * i + R / 4) (R % 4) j else 0) (fun u R j hu hj => ?_) R d).trans ?_
  · rw [dif_pos R.isLt]
    exact n6_canon a st i hi hF u R j hu hj
  · simp only [dif_pos R.isLt]

/-- The first result's block at an index: the mean about some real offset. -/
def Res (I : In) (t c : ℕ) (x : EReal) : Prop := ∃ M : ℝ, x = outM I M (128 * (t / 128 + 1)) t (c / 256) (c % 256)

theorem step_l3 (u : Fin 1) (t : Fin 2048) (c : Fin 1024) :
    if 128 * i ≤ t.val ∧ t.val < 128 * i + 128 then Res (inOf a) t.val c.val (View.canon (step a st i hi).l3 (ix3 u t c))
    else View.canon (step a st i hi).l3 (ix3 u t c) = View.canon st.l3 (ix3 u t c) := by
  have hc := c.isLt
  have e := l3_canon a (n7 a st i hi) st.l3 i hi (nF a st i hi) (n7_canon a st i hi hF) 4 (Nat.le_refl _) u t c
  split
  · next h =>
    rw [if_pos (by omega)] at e
    have hR : c.val / 256 + 4 * (t.val - 128 * i) < 512 := by omega
    obtain ⟨M, hM⟩ := nM_real a st i hi hF ⟨_, hR⟩
    refine ⟨M, e.trans ?_⟩
    rw [nF, dif_pos hR, hM, outM]
    rw [show 128 * i + (c.val / 256 + 4 * (t.val - 128 * i)) / 4 = t.val by omega, show (c.val / 256 + 4 * (t.val - 128 * i)) % 4 = c.val / 256 by omega,
      show t.val / 128 = i by omega]
  · next h =>
    rw [if_neg (by omega)] at e
    exact e

omit hF in
theorem step_l4 (u : Fin 1) (t : Fin 2048) (c : Fin 1024) :
    View.canon (step a st i hi).l4 (ix3 u t c) = if 128 * i ≤ t.val ∧ t.val < 128 * i + 128 then qc (inOf a) t.val (c.val / 256) (c.val % 256)
    else View.canon st.l4 (ix3 u t c) := by
  have hc := c.isLt
  refine (l4_canon a (n2 a st i hi) st.l4 i hi (fun R d => qc (inOf a) (128 * i + R / 4) (R % 4) d) (n2_canon a st i hi) 4 (Nat.le_refl _) u t c).trans ?_
  by_cases h : 128 * i ≤ t.val ∧ t.val < 128 * i + 128
  · rw [if_pos h, if_pos (by omega)]
    rw [show 128 * i + (c.val / 256 + 4 * (t.val - 128 * i)) / 4 = t.val by omega, show (c.val / 256 + 4 * (t.val - 128 * i)) % 4 = c.val / 256 by omega]
  · rw [if_neg h, if_neg (by omega)]
end Step

/-! ## The scales' blocks, read before they are written -/

/-- The body reads `old` in the query scales' block wherever the pieces are still those of `z`. -/
def RdQ (z : List (View.Piece (Elt Ideal) (T3 1 2048 32) .f32)) (old : ℕ → ℕ → EReal) : Prop :=
  ∀ (L : List (View.Piece (Elt Ideal) (T3 1 2048 32) .f32)) (i : ℕ) (hi : i < 16),
    (∀ (u : Fin 1) (t : Fin 2048) (c : Fin 32), 128 * i ≤ t.val → View.canon L (ix3 u t c) = View.canon z (ix3 u t c)) →
    ∀ (r : Fin 128) (c : Fin 32), a.rq L (R3 0 (128 * i) 0 1 128 32 (by omega) (by omega) (by omega)).toLoadRect (ix3 (0 : Fin 1) r c) = old (128 * i + r.val) c.val
/-- The same for the key scales' block. -/
def RdK (z : List (View.Piece (Elt Ideal) (T3 1 2048 8) .f32)) (old : ℕ → ℕ → EReal) : Prop :=
  ∀ (L : List (View.Piece (Elt Ideal) (T3 1 2048 8) .f32)) (i : ℕ) (hi : 256 * i + 256 ≤ 2048),
    (∀ (u : Fin 1) (t : Fin 2048) (c : Fin 8), 256 * i ≤ t.val → View.canon L (ix3 u t c) = View.canon z (ix3 u t c)) →
    ∀ (r : Fin 256) (c : Fin 8), a.rk L (R3 0 (256 * i) 0 1 256 8 (by omega) (by omega) (by omega)).toLoadRect (ix3 (0 : Fin 1) r c) = old (256 * i + r.val) c.val

section Scales
variable (g : ℕ) (hg : g < 8) (hkv : a.kv = BitVec.ofNat 32 g)

theorem lane_eq : ∀ (g : Fin 8) (n : Fin 4) (c : Fin 32),
    IntOp.cmpi .eq (BitVec.ofNat 32 c.val) (Scalar.addi (Scalar.muli (BitVec.ofNat 32 g.val) 4#32) (BitVec.ofNat 32 n.val)) = if c.val = 4 * g.val + n.val then 1#1 else 0#1 := by
  decide +kernel
theorem lane_eq' : ∀ (g : Fin 8) (c : Fin 8),
    IntOp.cmpi .eq (BitVec.ofNat 32 c.val) (BitVec.ofNat 32 g.val) = if c.val = g.val then 1#1 else 0#1 := by
  decide +kernel

theorem sel_ite {α : Type} (p : Prop) [Decidable p] (x y : α) : Scalar.select (if p then 1#1 else 0#1) x y = if p then x else y := by
  split <;> rfl

include hkv hg in
theorem qsNew_apply (l5 : List (View.Piece (Elt Ideal) (T3 1 2048 32) .f32)) (i : ℕ) (hi : i < 16) (old : ℕ → ℕ → EReal)
    (ho : ∀ (r : Fin 128) (c : Fin 32), shapeCast (T2 128 32) (a.rq l5 (R3 0 (128 * i) 0 1 128 32 (by omega) (by omega) (by omega)).toLoadRect) (scDrop 128 32) (ix2 r c) = old (128 * i + r.val) c.val) :
    ∀ (n : ℕ) (hn : n ≤ 4) (r : Fin 128) (c : Fin 32), qsNew a l5 i hi n hn (ix2 r c)
      = if 4 * g ≤ c.val ∧ c.val < 4 * g + n then qs (inOf a) (128 * i + r.val) (c.val - 4 * g) else old (128 * i + r.val) c.val
  | 0, _, r, c => by rw [if_neg (by omega)]; exact ho r c
  | n + 1, hn, r, c => by
    rw [qsNew]
    pointwise
    rw [hkv]
    rw [show IntOp.cmpi .eq (BitVec.ofNat 32 c.val) (Scalar.addi (Scalar.muli (BitVec.ofNat 32 g) 4#32) (BitVec.ofNat 32 n)) = _ from lane_eq ⟨g, hg⟩ ⟨n, by omega⟩ c]
    rw [sel_ite, qsNew_apply l5 i hi old ho n (by omega) r c, qsc_apply]
    by_cases e : c.val = 4 * g + n
    · rw [if_pos e, if_pos (by omega), show c.val - 4 * g = n by omega]
    · rw [if_neg e]
      by_cases e' : 4 * g ≤ c.val ∧ c.val < 4 * g + n
      · rw [if_pos e', if_pos (by omega)]
      · rw [if_neg e', if_neg (by omega)]

include hkv hg in
theorem tiles_l5 (z : List (View.Piece (Elt Ideal) (T3 1 2048 32) .f32)) (old : ℕ → ℕ → EReal) (hr : RdQ a z old) :
    ∀ (n : ℕ) (hn : n ≤ 16) (u : Fin 1) (t : Fin 2048) (c : Fin 32), View.canon (tiles a z n hn).l5 (ix3 u t c)
      = if t.val < 128 * n then (if 4 * g ≤ c.val ∧ c.val < 4 * g + 4 then qs (inOf a) t.val (c.val - 4 * g) else old t.val c.val) else View.canon z (ix3 u t c)
  | 0, _, u, t, c => by rw [if_neg (by omega)]; rfl
  | n + 1, hn, u, t, c => by
    have ht := t.isLt
    have hu := u.isLt
    have ih := tiles_l5 z old hr n (by omega)
    by_cases e : 128 * n ≤ t.val ∧ t.val < 128 * n + 128
    · rw [if_pos (by omega)]
      refine (hit3 _ _ _ _ _ _ _ _ _ _ _ _ 0 ⟨t.val - 128 * n, by omega⟩ c (by show u.val = 0 + 0; omega) (by show t.val = 128 * n + (t.val - 128 * n); omega) (Nat.zero_add _).symm).trans ?_
      rw [scA]
      refine (qsNew_apply a g hg hkv _ n (by omega) old (fun r c => ?_) 4 (Nat.le_refl _) _ c).trans ?_
      · refine (scD 128 32 _ _ _).trans ?_
        refine hr _ n (by omega) (fun u t c h => ?_) r c
        rw [ih, if_neg (by omega)]
      · show (if _ then qs (inOf a) (128 * n + (t.val - 128 * n)) _ else old (128 * n + (t.val - 128 * n)) _) = _
        rw [show 128 * n + (t.val - 128 * n) = t.val by omega]
    · refine (miss3 _ _ _ _ _ _ _ _ _ _ _ _ fun h => e ⟨h.2.2.1, h.2.2.2.1⟩).trans ?_
      rw [ih]
      by_cases e' : t.val < 128 * n
      · rw [if_pos e', if_pos (show t.val < 128 * (n + 1) by omega)]
      · rw [if_neg e', if_neg (show ¬ t.val < 128 * (n + 1) by omega)]

include hkv hg in
theorem H7_canon (z : List (View.Piece (Elt Ideal) (T3 1 2048 8) .f32)) (old : ℕ → ℕ → EReal) (hr : RdK a z old) :
    ∀ (n : ℕ) (hn : 256 * n ≤ 2048) (u : Fin 1) (t : Fin 2048) (c : Fin 8), View.canon (H7 a z n hn) (ix3 u t c)
      = if t.val < 256 * n then (if c.val = g then ks (inOf a) t.val else old t.val c.val) else View.canon z (ix3 u t c)
  | 0, _, u, t, c => by rw [if_neg (by omega)]; rfl
  | n + 1, hn, u, t, c => by
    have ht := t.isLt
    have hu := u.isLt
    have ih := H7_canon z old hr n (by omega)
    by_cases e : 256 * n ≤ t.val ∧ t.val < 256 * n + 256
    · rw [if_pos (by omega)]
      refine (hit3 _ _ _ _ _ _ _ _ _ _ _ _ 0 ⟨t.val - 256 * n, by omega⟩ c (by show u.val = 0 + 0; omega) (by show t.val = 256 * n + (t.val - 256 * n); omega) (Nat.zero_add _).symm).trans ?_
      rw [scA]
      have ho : shapeCast (T2 256 8) (a.rk (H7 a z n (by omega)) (R3 0 (256 * n) 0 1 256 8 (by omega) (by omega) (by omega)).toLoadRect) (scDrop 256 8)
          (ix2 (⟨t.val - 256 * n, by omega⟩ : Fin 256) c) = old t.val c.val := by
        refine (scD 256 8 _ _ _).trans ?_
        refine (hr _ n (by omega) (fun u t c h => ?_) _ c).trans ?_
        · rw [ih, if_neg (by omega)]
        · show old (256 * n + (t.val - 256 * n)) _ = _
          rw [show 256 * n + (t.val - 256 * n) = t.val by omega]
      have hs : ∀ (o : FVec Ideal (T2 256 8) .f32) (r : Fin 256), select (cmpi .eq (iota .tc (T2 256 8) 32 [1] (iotaOk 256 8 1)) (broadcast (T2 256 8) a.kv))
          (broadcastTo (T2 256 8) (shapeCast (T2 256 1) (ksc a n (by omega)) (scSame _)) (bcCol 256 8)) o (ix2 r c)
          = if c.val = g then ks (inOf a) (256 * n + r.val) else o (ix2 r c) := fun o r => by
        pointwise
        rw [hkv, show IntOp.cmpi .eq (BitVec.ofNat 32 c.val) (BitVec.ofNat 32 g) = _ from lane_eq' ⟨g, hg⟩ c, sel_ite, ksc_apply]
      refine (hs _ _).trans ?_
      rw [ho]
      simp only [show 256 * n + (t.val - 256 * n) = t.val by omega]
    · refine (miss3 _ _ _ _ _ _ _ _ _ _ _ _ fun h => e ⟨h.2.2.1, h.2.2.2.1⟩).trans ?_
      rw [ih]
      by_cases e' : t.val < 256 * n
      · rw [if_pos e', if_pos (show t.val < 256 * (n + 1) by omega)]
      · rw [if_neg e', if_neg (show ¬ t.val < 256 * (n + 1) by omega)]
end Scales

theorem tiles_l4 (z : List (View.Piece (Elt Ideal) (T3 1 2048 32) .f32)) :
    ∀ (n : ℕ) (hn : n ≤ 16) (u : Fin 1) (t : Fin 2048) (c : Fin 1024), t.val < 128 * n →
      View.canon (tiles a z n hn).l4 (ix3 u t c) = qc (inOf a) t.val (c.val / 256) (c.val % 256)
  | 0, _, _, _, _, h => absurd h (by omega)
  | n + 1, hn, u, t, c, h => by
    rw [tiles, step_l4]
    split
    · rfl
    · exact tiles_l4 z n (by omega) u t c (by omega)

theorem tiles_l3 (hF : Fine (inOf a)) (z : List (View.Piece (Elt Ideal) (T3 1 2048 32) .f32)) :
    ∀ (n : ℕ) (hn : n ≤ 16) (u : Fin 1) (t : Fin 2048) (c : Fin 1024), t.val < 128 * n →
      Res (inOf a) t.val c.val (View.canon (tiles a z n hn).l3 (ix3 u t c))
  | 0, _, _, _, _, h => absurd h (by omega)
  | n + 1, hn, u, t, c, h => by
    rw [tiles]
    have e := step_l3 a (tiles a z n (by omega)) n (by omega) hF u t c
    split at e
    · exact e
    · rw [e]
      exact tiles_l3 hF z n (by omega) u t c (by omega)

end Cert.Gqa
-- ==== Proof.Outs.lean ====
module

public import proofs.«01_k».proof.Proof.Bridge
public import proofs.«01_k».proof.Proof.Read5
public import proofs.«01_k».proof.Proof.Gen.KernelIdeal.Value

@[expose] public section

set_option maxRecDepth 65536
set_option maxHeartbeats 1000000

noncomputable section

/-! What the body leaves in every output's block, and what the arrays hold after the grid. -/

namespace Cert.Gqa

open Cert.KernelIdeal Cert.KernelIdeal.Gen Idealize.ShloMosaic Idealize.ShloMosaic.TcCoe Idealize.SL.Sem

/-- What a point leaves in the seven blocks, over what the scales' blocks held before. -/
structure Outs (I : In) (g : ℕ) (old5 old7 : ℕ → ℕ → EReal)
    (o3 : Vec Ideal S1x2048x1024 .bf16) (o4 : Vec Ideal S1x2048x1024 .fp8e4m3) (o5 : Vec Ideal S1x2048x32 .f32) (o6 : Vec Ideal S1x2048x256 .fp8e4m3) (o7 : Vec Ideal S1x2048x8 .f32) (o8 : Vec Ideal S1x2048x256 .fp8e4m3) (o9 : Vec Ideal S1x1x1x256 .f32) : Prop where
  w3 : ∀ (u : Fin 1) (r : Fin 2048) (cc : Fin 1024), Res I r.val cc.val (o3 (ix3 u r cc))
  w4 : ∀ (u : Fin 1) (r : Fin 2048) (cc : Fin 1024), o4 (ix3 u r cc) = qc I r.val (cc.val / 256) (cc.val % 256)
  w5 : ∀ (u : Fin 1) (r : Fin 2048) (cc : Fin 32), o5 (ix3 u r cc) = if 4 * g ≤ cc.val ∧ cc.val < 4 * g + 4 then qs I r.val (cc.val - 4 * g) else old5 r.val cc.val
  w6 : ∀ (u : Fin 1) (r : Fin 2048) (cc : Fin 256), o6 (ix3 u r cc) = kc I r.val cc.val
  w7 : ∀ (u : Fin 1) (r : Fin 2048) (cc : Fin 8), o7 (ix3 u r cc) = if cc.val = g then ks I r.val else old7 r.val cc.val
  w8 : ∀ (u : Fin 1) (r : Fin 2048) (cc : Fin 256), o8 (ix3 u r cc) = vc I r.val cc.val
  w9 : ∀ (u v w : Fin 1) (d : Fin 256), o9 (ix4 u v w d) = vs I d.val

/-- Three blocks as functions of tokens, heads and lanes. -/
def inX (x0 : Vec Ideal S1x2048x1024 .bf16) (x1 : Vec Ideal S1x2048x256 .bf16) (x2 : Vec Ideal S1x2048x256 .bf16) : In where
  X t h d := if hh : t < 2048 ∧ h < 4 ∧ d < 256 then x0 (ix3 (0 : Fin 1) (⟨t, hh.1⟩ : Fin 2048) (⟨256 * h + d, by omega⟩ : Fin 1024)) else 0
  K j d := if hh : j < 2048 ∧ d < 256 then x1 (ix3 (0 : Fin 1) (⟨j, hh.1⟩ : Fin 2048) (⟨d, hh.2⟩ : Fin 256)) else 0
  V j d := if hh : j < 2048 ∧ d < 256 then x2 (ix3 (0 : Fin 1) (⟨j, hh.1⟩ : Fin 2048) (⟨d, hh.2⟩ : Fin 256)) else 0

/-- A block of scales as a function of tokens and lanes. -/
def old32 (x : Vec Ideal S1x2048x32 .f32) (t c : ℕ) : EReal :=
  if hh : t < 2048 ∧ c < 32 then x (ix3 (0 : Fin 1) (⟨t, hh.1⟩ : Fin 2048) (⟨c, hh.2⟩ : Fin 32)) else 0
def old8 (x : Vec Ideal S1x2048x8 .f32) (t c : ℕ) : EReal :=
  if hh : t < 2048 ∧ c < 8 then x (ix3 (0 : Fin 1) (⟨t, hh.1⟩ : Fin 2048) (⟨c, hh.2⟩ : Fin 8)) else 0

theorem z5_canon (y : (T3 1 2048 32).Idx) : View.canon (z5 (F := Ideal)) y = (0 : EReal) := by
  have h0 : (y 0).val < 1 := (y 0).isLt
  have h1 : (y 1).val < 2048 := (y 1).isLt
  have h2 : (y 2).val < 32 := (y 2).isLt
  refine (hit3 0 0 0 _ _ _ (by omega) (by omega) (by omega) _ [] y ⟨(y 0).val, h0⟩ ⟨(y 1).val, h1⟩ ⟨(y 2).val, h2⟩ (Nat.zero_add _).symm (Nat.zero_add _).symm (Nat.zero_add _).symm).trans ?_
  exact Ideal.ofBits_zero .f32
theorem z7_canon (y : (T3 1 2048 8).Idx) : View.canon (z7 (F := Ideal)) y = (0 : EReal) := by
  have h0 : (y 0).val < 1 := (y 0).isLt
  have h1 : (y 1).val < 2048 := (y 1).isLt
  have h2 : (y 2).val < 8 := (y 2).isLt
  refine (hit3 0 0 0 _ _ _ (by omega) (by omega) (by omega) _ [] y ⟨(y 0).val, h0⟩ ⟨(y 1).val, h1⟩ ⟨(y 2).val, h2⟩ (Nat.zero_add _).symm (Nat.zero_add _).symm (Nat.zero_add _).symm).trans ?_
  exact Ideal.ofBits_zero .f32

section Point
variable (c : Dev nD) (i : grid0.Coords)
  (arg2 : Memref sig .tc .vmem S1x2048x1024 .bf16) (harg2 : arg2.IsWhole) (arg3 : Memref sig .tc .vmem S1x2048x256 .bf16) (harg3 : arg3.IsWhole)
  (arg4 : Memref sig .tc .vmem S1x2048x256 .bf16) (harg4 : arg4.IsWhole) (arg5 : Memref sig .tc .vmem S1x2048x1024 .bf16) (harg5 : arg5.IsWhole)
  (arg6 : Memref sig .tc .vmem S1x2048x1024 .fp8e4m3) (harg6 : arg6.IsWhole) (arg7 : Memref sig .tc .vmem S1x2048x32 .f32) (harg7 : arg7.IsWhole)
  (arg8 : Memref sig .tc .vmem S1x2048x256 .fp8e4m3) (harg8 : arg8.IsWhole) (arg9 : Memref sig .tc .vmem S1x2048x8 .f32) (harg9 : arg9.IsWhole)
  (arg10 : Memref sig .tc .vmem S1x2048x256 .fp8e4m3) (harg10 : arg10.IsWhole) (arg11 : Memref sig .tc .vmem S1x1x1x256 .f32) (harg11 : arg11.IsWhole)
  (arg12 : Memref sig .tc .vmem S2x512x256 .fp8e4m3) (harg12 : arg12.IsWhole) (arg13 : Memref sig .tc .vmem S8x2048 .f32) (harg13 : arg13.IsWhole)
  (arg14 : Memref sig .tc .vmem S2x2x512x128 .f32) (harg14 : arg14.IsWhole) (arg15 : Memref sig .tc .vmem S2x512x128 .f32) (harg15 : arg15.IsWhole)
  (arg16 : Memref sig .tc .vmem S2x512x128 .f32) (harg16 : arg16.IsWhole) (arg17 : Memref sig .tc .vmem S2x512x2048 .f32) (harg17 : arg17.IsWhole)
  (arg18 : Memref sig .tc .vmem S2x512x2048 .fp8e4m3) (harg18 : arg18.IsWhole) (arg19 : Memref sig .tc .vmem S2x2x512x128 .f32) (harg19 : arg19.IsWhole)
  (x0 : Vec Ideal S1x2048x1024 .bf16) (x1 : Vec Ideal S1x2048x256 .bf16) (x2 : Vec Ideal S1x2048x256 .bf16)

theorem rdA5 : RdQ (argsA i arg2 harg2 arg3 harg3 arg4 harg4 arg7 arg8 arg9 arg10 arg12 arg13 arg14 arg15 arg16 arg17 arg18 arg19 x0 x1 x2) z5 (fun _ _ => 0) := by
  intro L j hj hL r cc
  show arg7.view.readCov L _ _ = _
  rw [rd3, hL _ _ _ (Nat.le_add_right _ _), z5_canon]

theorem rdA7 : RdK (argsA i arg2 harg2 arg3 harg3 arg4 harg4 arg7 arg8 arg9 arg10 arg12 arg13 arg14 arg15 arg16 arg17 arg18 arg19 x0 x1 x2) z7 (fun _ _ => 0) := by
  intro L j hj hL r cc
  show arg9.view.readCov L _ _ = _
  rw [rd3, hL _ _ _ (Nat.le_add_right _ _), z7_canon]

theorem rdB5 (xo5 : Vec Ideal S1x2048x32 .f32) (xo7 : Vec Ideal S1x2048x8 .f32) : RdQ (argsB i arg2 harg2 arg3 harg3 arg4 harg4 arg7 harg7 arg8 arg9 harg9 arg10 arg12 arg13 arg14 arg15 arg16 arg17 arg18 arg19 x0 x1 x2 xo5 xo7) [] (old32 xo5) := by
  intro L j hj hL r cc
  have hr := r.isLt
  show View.readAt (Elt Ideal) arg7.view _ (harg7.unread xo5) _ = _
  rw [ld3]
  refine Eq.trans ?_ (dif_pos ⟨by omega, cc.isLt⟩).symm
  refine congrArg xo5 (funext fun k => Fin.ext ?_)
  match k with
    | ⟨0, _⟩ => rfl
    | ⟨1, _⟩ => rfl
    | ⟨2, _⟩ => exact Nat.zero_add _

theorem rdB7 (xo5 : Vec Ideal S1x2048x32 .f32) (xo7 : Vec Ideal S1x2048x8 .f32) : RdK (argsB i arg2 harg2 arg3 harg3 arg4 harg4 arg7 harg7 arg8 arg9 harg9 arg10 arg12 arg13 arg14 arg15 arg16 arg17 arg18 arg19 x0 x1 x2 xo5 xo7) [] (old8 xo7) := by
  intro L j hj hL r cc
  have hr := r.isLt
  show View.readAt (Elt Ideal) arg9.view _ (harg9.unread xo7) _ = _
  rw [ld3]
  refine Eq.trans ?_ (dif_pos ⟨by omega, cc.isLt⟩).symm
  refine congrArg xo7 (funext fun k => Fin.ext ?_)
  match k with
    | ⟨0, _⟩ => rfl
    | ⟨1, _⟩ => rfl
    | ⟨2, _⟩ => exact Nat.zero_add _

theorem outA_3 (hc0 : cond0_0 i) (hF : Fine (inOf (argsA i arg2 harg2 arg3 harg3 arg4 harg4 arg7 arg8 arg9 arg10 arg12 arg13 arg14 arg15 arg16 arg17 arg18 arg19 x0 x1 x2))) (u : Fin 1) (r : Fin 2048) (cc : Fin 1024) :
    Res (inOf (argsA i arg2 harg2 arg3 harg3 arg4 harg4 arg7 arg8 arg9 arg10 arg12 arg13 arg14 arg15 arg16 arg17 arg18 arg19 x0 x1 x2)) r.val cc.val (out0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix3 u r cc)) := by
  rw [out0_A_3, View.read_writes_junk_eq_canon, runA_L3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact tiles_l3 (argsA i arg2 harg2 arg3 harg3 arg4 harg4 arg7 arg8 arg9 arg10 arg12 arg13 arg14 arg15 arg16 arg17 arg18 arg19 x0 x1 x2) hF _ 16 _ u r cc (by have := r.isLt; omega)

theorem outA_4 (hc0 : cond0_0 i) (u : Fin 1) (r : Fin 2048) (cc : Fin 1024) :
    out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix3 u r cc) = qc (inOf (argsA i arg2 harg2 arg3 harg3 arg4 harg4 arg7 arg8 arg9 arg10 arg12 arg13 arg14 arg15 arg16 arg17 arg18 arg19 x0 x1 x2)) r.val (cc.val / 256) (cc.val % 256) := by
  rw [out0_A_4, View.read_writes_junk_eq_canon, runA_L4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact tiles_l4 (argsA i arg2 harg2 arg3 harg3 arg4 harg4 arg7 arg8 arg9 arg10 arg12 arg13 arg14 arg15 arg16 arg17 arg18 arg19 x0 x1 x2) _ 16 _ u r cc (by have := r.isLt; omega)

theorem outA_5 (hc0 : cond0_0 i) (g : ℕ) (hg : g < 8) (hkv : BitVec.ofNat 32 (i 1).val = BitVec.ofNat 32 g) (u : Fin 1) (r : Fin 2048) (cc : Fin 32) :
    out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix3 u r cc) = if 4 * g ≤ cc.val ∧ cc.val < 4 * g + 4 then qs (inOf (argsA i arg2 harg2 arg3 harg3 arg4 harg4 arg7 arg8 arg9 arg10 arg12 arg13 arg14 arg15 arg16 arg17 arg18 arg19 x0 x1 x2)) r.val (cc.val - 4 * g) else (0 : EReal) := by
  rw [out0_A_5, View.read_writes_junk_eq_canon, runA_L5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact (tiles_l5 (argsA i arg2 harg2 arg3 harg3 arg4 harg4 arg7 arg8 arg9 arg10 arg12 arg13 arg14 arg15 arg16 arg17 arg18 arg19 x0 x1 x2) g hg hkv z5 _ (rdA5 i arg2 harg2 arg3 harg3 arg4 harg4 arg7 arg8 arg9 arg10 arg12 arg13 arg14 arg15 arg16 arg17 arg18 arg19 x0 x1 x2) 16 _ u r cc).trans (if_pos (by have := r.isLt; omega))

theorem outA_6 (hc0 : cond0_0 i) (u : Fin 1) (r : Fin 2048) (cc : Fin 256) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix3 u r cc) = kc (inOf (argsA i arg2 harg2 arg3 harg3 arg4 harg4 arg7 arg8 arg9 arg10 arg12 arg13 arg14 arg15 arg16 arg17 arg18 arg19 x0 x1 x2)) r.val cc.val := by
  rw [out0_A_6, View.read_writes_junk_eq_canon, runA_L6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact H6_canon (argsA i arg2 harg2 arg3 harg3 arg4 harg4 arg7 arg8 arg9 arg10 arg12 arg13 arg14 arg15 arg16 arg17 arg18 arg19 x0 x1 x2) 8 _ u r cc (by have := r.isLt; omega)

theorem outA_7 (hc0 : cond0_0 i) (g : ℕ) (hg : g < 8) (hkv : BitVec.ofNat 32 (i 1).val = BitVec.ofNat 32 g) (u : Fin 1) (r : Fin 2048) (cc : Fin 8) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix3 u r cc) = if cc.val = g then ks (inOf (argsA i arg2 harg2 arg3 harg3 arg4 harg4 arg7 arg8 arg9 arg10 arg12 arg13 arg14 arg15 arg16 arg17 arg18 arg19 x0 x1 x2)) r.val else (0 : EReal) := by
  rw [out0_A_7, View.read_writes_junk_eq_canon, runA_L7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact (H7_canon (argsA i arg2 harg2 arg3 harg3 arg4 harg4 arg7 arg8 arg9 arg10 arg12 arg13 arg14 arg15 arg16 arg17 arg18 arg19 x0 x1 x2) g hg hkv z7 _ (rdA7 i arg2 harg2 arg3 harg3 arg4 harg4 arg7 arg8 arg9 arg10 arg12 arg13 arg14 arg15 arg16 arg17 arg18 arg19 x0 x1 x2) 8 _ u r cc).trans (if_pos (by have := r.isLt; omega))

theorem outA_8 (hc0 : cond0_0 i) (u : Fin 1) (r : Fin 2048) (cc : Fin 256) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix3 u r cc) = vc (inOf (argsA i arg2 harg2 arg3 harg3 arg4 harg4 arg7 arg8 arg9 arg10 arg12 arg13 arg14 arg15 arg16 arg17 arg18 arg19 x0 x1 x2)) r.val cc.val := by
  rw [out0_A_8, View.read_writes_junk_eq_canon, runA_L8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact H8_canon (argsA i arg2 harg2 arg3 harg3 arg4 harg4 arg7 arg8 arg9 arg10 arg12 arg13 arg14 arg15 arg16 arg17 arg18 arg19 x0 x1 x2) 8 _ u r cc (by have := r.isLt; omega)

theorem outA_9 (hc0 : cond0_0 i) (u v w : Fin 1) (d : Fin 256) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 (ix4 u v w d) = vs (inOf (argsA i arg2 harg2 arg3 harg3 arg4 harg4 arg7 arg8 arg9 arg10 arg12 arg13 arg14 arg15 arg16 arg17 arg18 arg19 x0 x1 x2)) d.val := by
  rw [out0_A_9, View.read_writes_junk_eq_canon, runA_L9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0]
  exact H9_canon (argsA i arg2 harg2 arg3 harg3 arg4 harg4 arg7 arg8 arg9 arg10 arg12 arg13 arg14 arg15 arg16 arg17 arg18 arg19 x0 x1 x2) u v w d

theorem outB_3 (hc0 : ¬cond0_0 i) (xo5 : Vec Ideal S1x2048x32 .f32) (xo7 : Vec Ideal S1x2048x8 .f32) (hF : Fine (inOf (argsB i arg2 harg2 arg3 harg3 arg4 harg4 arg7 harg7 arg8 arg9 harg9 arg10 arg12 arg13 arg14 arg15 arg16 arg17 arg18 arg19 x0 x1 x2 xo5 xo7))) (u : Fin 1) (r : Fin 2048) (cc : Fin 1024) :
    Res (inOf (argsB i arg2 harg2 arg3 harg3 arg4 harg4 arg7 harg7 arg8 arg9 harg9 arg10 arg12 arg13 arg14 arg15 arg16 arg17 arg18 arg19 x0 x1 x2 xo5 xo7)) r.val cc.val (out0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix3 u r cc)) := by
  rw [out0_B_3, View.read_writes_junk_eq_canon, runB_L3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact tiles_l3 (argsB i arg2 harg2 arg3 harg3 arg4 harg4 arg7 harg7 arg8 arg9 harg9 arg10 arg12 arg13 arg14 arg15 arg16 arg17 arg18 arg19 x0 x1 x2 xo5 xo7) hF _ 16 _ u r cc (by have := r.isLt; omega)

theorem outB_4 (hc0 : ¬cond0_0 i) (xo5 : Vec Ideal S1x2048x32 .f32) (xo7 : Vec Ideal S1x2048x8 .f32) (u : Fin 1) (r : Fin 2048) (cc : Fin 1024) :
    out0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix3 u r cc) = qc (inOf (argsB i arg2 harg2 arg3 harg3 arg4 harg4 arg7 harg7 arg8 arg9 harg9 arg10 arg12 arg13 arg14 arg15 arg16 arg17 arg18 arg19 x0 x1 x2 xo5 xo7)) r.val (cc.val / 256) (cc.val % 256) := by
  rw [out0_B_4, View.read_writes_junk_eq_canon, runB_L4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact tiles_l4 (argsB i arg2 harg2 arg3 harg3 arg4 harg4 arg7 harg7 arg8 arg9 harg9 arg10 arg12 arg13 arg14 arg15 arg16 arg17 arg18 arg19 x0 x1 x2 xo5 xo7) _ 16 _ u r cc (by have := r.isLt; omega)

theorem outB_5 (hc0 : ¬cond0_0 i) (xo5 : Vec Ideal S1x2048x32 .f32) (xo7 : Vec Ideal S1x2048x8 .f32) (g : ℕ) (hg : g < 8) (hkv : BitVec.ofNat 32 (i 1).val = BitVec.ofNat 32 g) (u : Fin 1) (r : Fin 2048) (cc : Fin 32) :
    out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix3 u r cc) = if 4 * g ≤ cc.val ∧ cc.val < 4 * g + 4 then qs (inOf (argsB i arg2 harg2 arg3 harg3 arg4 harg4 arg7 harg7 arg8 arg9 harg9 arg10 arg12 arg13 arg14 arg15 arg16 arg17 arg18 arg19 x0 x1 x2 xo5 xo7)) r.val (cc.val - 4 * g) else old32 xo5 r.val cc.val := by
  rw [out0_B_5, View.read_writes_junk_eq_canon, runB_L5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact (tiles_l5 (argsB i arg2 harg2 arg3 harg3 arg4 harg4 arg7 harg7 arg8 arg9 harg9 arg10 arg12 arg13 arg14 arg15 arg16 arg17 arg18 arg19 x0 x1 x2 xo5 xo7) g hg hkv [] _ (rdB5 i arg2 harg2 arg3 harg3 arg4 harg4 arg7 harg7 arg8 arg9 harg9 arg10 arg12 arg13 arg14 arg15 arg16 arg17 arg18 arg19 x0 x1 x2 xo5 xo7) 16 _ u r cc).trans (if_pos (by have := r.isLt; omega))

theorem outB_6 (hc0 : ¬cond0_0 i) (xo5 : Vec Ideal S1x2048x32 .f32) (xo7 : Vec Ideal S1x2048x8 .f32) (u : Fin 1) (r : Fin 2048) (cc : Fin 256) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix3 u r cc) = kc (inOf (argsB i arg2 harg2 arg3 harg3 arg4 harg4 arg7 harg7 arg8 arg9 harg9 arg10 arg12 arg13 arg14 arg15 arg16 arg17 arg18 arg19 x0 x1 x2 xo5 xo7)) r.val cc.val := by
  rw [out0_B_6, View.read_writes_junk_eq_canon, runB_L6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact H6_canon (argsB i arg2 harg2 arg3 harg3 arg4 harg4 arg7 harg7 arg8 arg9 harg9 arg10 arg12 arg13 arg14 arg15 arg16 arg17 arg18 arg19 x0 x1 x2 xo5 xo7) 8 _ u r cc (by have := r.isLt; omega)

theorem outB_7 (hc0 : ¬cond0_0 i) (xo5 : Vec Ideal S1x2048x32 .f32) (xo7 : Vec Ideal S1x2048x8 .f32) (g : ℕ) (hg : g < 8) (hkv : BitVec.ofNat 32 (i 1).val = BitVec.ofNat 32 g) (u : Fin 1) (r : Fin 2048) (cc : Fin 8) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix3 u r cc) = if cc.val = g then ks (inOf (argsB i arg2 harg2 arg3 harg3 arg4 harg4 arg7 harg7 arg8 arg9 harg9 arg10 arg12 arg13 arg14 arg15 arg16 arg17 arg18 arg19 x0 x1 x2 xo5 xo7)) r.val else old8 xo7 r.val cc.val := by
  rw [out0_B_7, View.read_writes_junk_eq_canon, runB_L7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact (H7_canon (argsB i arg2 harg2 arg3 harg3 arg4 harg4 arg7 harg7 arg8 arg9 harg9 arg10 arg12 arg13 arg14 arg15 arg16 arg17 arg18 arg19 x0 x1 x2 xo5 xo7) g hg hkv [] _ (rdB7 i arg2 harg2 arg3 harg3 arg4 harg4 arg7 harg7 arg8 arg9 harg9 arg10 arg12 arg13 arg14 arg15 arg16 arg17 arg18 arg19 x0 x1 x2 xo5 xo7) 8 _ u r cc).trans (if_pos (by have := r.isLt; omega))

theorem outB_8 (hc0 : ¬cond0_0 i) (xo5 : Vec Ideal S1x2048x32 .f32) (xo7 : Vec Ideal S1x2048x8 .f32) (u : Fin 1) (r : Fin 2048) (cc : Fin 256) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix3 u r cc) = vc (inOf (argsB i arg2 harg2 arg3 harg3 arg4 harg4 arg7 harg7 arg8 arg9 harg9 arg10 arg12 arg13 arg14 arg15 arg16 arg17 arg18 arg19 x0 x1 x2 xo5 xo7)) r.val cc.val := by
  rw [out0_B_8, View.read_writes_junk_eq_canon, runB_L8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact H8_canon (argsB i arg2 harg2 arg3 harg3 arg4 harg4 arg7 harg7 arg8 arg9 harg9 arg10 arg12 arg13 arg14 arg15 arg16 arg17 arg18 arg19 x0 x1 x2 xo5 xo7) 8 _ u r cc (by have := r.isLt; omega)

theorem outB_9 (hc0 : ¬cond0_0 i) (xo5 : Vec Ideal S1x2048x32 .f32) (xo7 : Vec Ideal S1x2048x8 .f32) (u v w : Fin 1) (d : Fin 256) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7 (ix4 u v w d) = vs (inOf (argsB i arg2 harg2 arg3 harg3 arg4 harg4 arg7 harg7 arg8 arg9 harg9 arg10 arg12 arg13 arg14 arg15 arg16 arg17 arg18 arg19 x0 x1 x2 xo5 xo7)) d.val := by
  rw [out0_B_9, View.read_writes_junk_eq_canon, runB_L9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7]
  exact H9_canon (argsB i arg2 harg2 arg3 harg3 arg4 harg4 arg7 harg7 arg8 arg9 harg9 arg10 arg12 arg13 arg14 arg15 arg16 arg17 arg18 arg19 x0 x1 x2 xo5 xo7) u v w d

variable (g : ℕ) (hg : g < 8) (hkv : BitVec.ofNat 32 (i 1).val = BitVec.ofNat 32 g)

include hg hkv in
theorem outsA (hc0 : cond0_0 i) (hF : Fine (inOf (argsA i arg2 harg2 arg3 harg3 arg4 harg4 arg7 arg8 arg9 arg10 arg12 arg13 arg14 arg15 arg16 arg17 arg18 arg19 x0 x1 x2))) :
    Outs (inOf (argsA i arg2 harg2 arg3 harg3 arg4 harg4 arg7 arg8 arg9 arg10 arg12 arg13 arg14 arg15 arg16 arg17 arg18 arg19 x0 x1 x2)) g (fun _ _ => 0) (fun _ _ => 0) (out0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) := by
  exact ⟨outA_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 hF, outA_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0, outA_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 g hg hkv, outA_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0, outA_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 g hg hkv, outA_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0, outA_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0⟩

include hg hkv in
theorem outsB (hc0 : ¬cond0_0 i) (xo5 : Vec Ideal S1x2048x32 .f32) (xo7 : Vec Ideal S1x2048x8 .f32) (hF : Fine (inOf (argsB i arg2 harg2 arg3 harg3 arg4 harg4 arg7 harg7 arg8 arg9 harg9 arg10 arg12 arg13 arg14 arg15 arg16 arg17 arg18 arg19 x0 x1 x2 xo5 xo7))) :
    Outs (inOf (argsB i arg2 harg2 arg3 harg3 arg4 harg4 arg7 harg7 arg8 arg9 harg9 arg10 arg12 arg13 arg14 arg15 arg16 arg17 arg18 arg19 x0 x1 x2 xo5 xo7)) g (old32 xo5) (old8 xo7) (out0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) := by
  exact ⟨outB_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7 hF, outB_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7, outB_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7 g hg hkv, outB_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7, outB_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7 g hg hkv, outB_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7, outB_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 hc0 xo5 xo7⟩

include hg hkv in
theorem outsA' (hc0 : cond0_0 i) (hF : Fine (inX x0 x1 x2)) :
    Outs (inX x0 x1 x2) g (fun _ _ => 0) (fun _ _ => 0) (out0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) (out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2) := by
  have e : inOf (argsA i arg2 harg2 arg3 harg3 arg4 harg4 arg7 arg8 arg9 arg10 arg12 arg13 arg14 arg15 arg16 arg17 arg18 arg19 x0 x1 x2) = inX x0 x1 x2 := rfl
  rw [← e] at hF ⊢
  exact outsA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 g hg hkv hc0 hF

include hg hkv in
theorem outsB' (hc0 : ¬cond0_0 i) (xo5 : Vec Ideal S1x2048x32 .f32) (xo7 : Vec Ideal S1x2048x8 .f32) (hF : Fine (inX x0 x1 x2)) :
    Outs (inX x0 x1 x2) g (old32 xo5) (old8 xo7) (out0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) (out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 xo5 xo7) := by
  have e : inOf (argsB i arg2 harg2 arg3 harg3 arg4 harg4 arg7 harg7 arg8 arg9 harg9 arg10 arg12 arg13 arg14 arg15 arg16 arg17 arg18 arg19 x0 x1 x2 xo5 xo7) = inX x0 x1 x2 := rfl
  rw [← e] at hF ⊢
  exact outsB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 g hg hkv hc0 xo5 xo7 hF

end Point

end Cert.Gqa
-- ==== Proof.Grid.lean ====
module

public import proofs.«01_k».proof.Proof.Outs

@[expose] public section

set_option maxRecDepth 65536
set_option maxHeartbeats 1000000

noncomputable section

/-! What the output arrays hold after the grid. -/

namespace Cert.Gqa

open Cert.KernelIdeal Cert.KernelIdeal.Gen Idealize.ShloMosaic Idealize.ShloMosaic.TcCoe Idealize.SL.Sem

theorem ofTuple {I J : In} (hI : I = J) {g : ℕ} {f5 f7 : ℕ → ℕ → EReal}
    {o : Vec Ideal S1x2048x1024 .bf16 × Vec Ideal S1x2048x1024 .fp8e4m3 × Vec Ideal S1x2048x32 .f32 × Vec Ideal S1x2048x256 .fp8e4m3 × Vec Ideal S1x2048x8 .f32 × Vec Ideal S1x2048x256 .fp8e4m3 × Vec Ideal S1x1x1x256 .f32} {p3 p4 p5 p6 p7 p8 p9} (e : o = (p3, p4, p5, p6, p7, p8, p9)) (H : (Fine J → Fine I) → Outs I g f5 f7 p3 p4 p5 p6 p7 p8 p9) :
    Outs J g f5 f7 o.1 o.2.1 o.2.2.1 o.2.2.2.1 o.2.2.2.2.1 o.2.2.2.2.2.1 o.2.2.2.2.2.2 := by
  subst hI
  subst e
  exact H id

variable (m : (ℓ : Loc nD τ sig) → Buf (Elt Ideal) ℓ) (c : Dev nD)

/-- The three argument arrays. -/
def arr0 : Vec Ideal (T3 8 2048 8192) .bf16 := m ((c : Thread nD τ).loc main_arg0)
def arr1 : Vec Ideal (T3 8 2048 2048) .bf16 := m ((c : Thread nD τ).loc main_arg1)
def arr2 : Vec Ideal (T3 8 2048 2048) .bf16 := m ((c : Thread nD τ).loc main_arg2)

/-- What batch row `b` and key head `g` are given, as functions of tokens, heads and lanes. -/
def inA (A0 : Vec Ideal (T3 8 2048 8192) .bf16) (A1 A2 : Vec Ideal (T3 8 2048 2048) .bf16) (b g : ℕ) : In where
  X t h d := if hh : (b < 8 ∧ g < 8) ∧ t < 2048 ∧ h < 4 ∧ d < 256 then A0 (ix3 (⟨b, hh.1.1⟩ : Fin 8) (⟨t, hh.2.1⟩ : Fin 2048) (⟨1024 * g + (256 * h + d), by omega⟩ : Fin 8192)) else 0
  K j d := if hh : (b < 8 ∧ g < 8) ∧ j < 2048 ∧ d < 256 then A1 (ix3 (⟨b, hh.1.1⟩ : Fin 8) (⟨j, hh.2.1⟩ : Fin 2048) (⟨256 * g + d, by omega⟩ : Fin 2048)) else 0
  V j d := if hh : (b < 8 ∧ g < 8) ∧ j < 2048 ∧ d < 256 then A2 (ix3 (⟨b, hh.1.1⟩ : Fin 8) (⟨j, hh.2.1⟩ : Fin 2048) (⟨256 * g + d, by omega⟩ : Fin 2048)) else 0

def inG (b g : ℕ) : In := inA (arr0 m c) (arr1 m c) (arr2 m c) b g

theorem lt64 (t : Fin cfg0.N) : t.val < 64 := Nat.lt_of_lt_of_eq t.isLt N_0

theorem crd (t : Fin cfg0.N) : (grid0.coords t 1).val = t.val % 8 := by
  have e1 : (grid0.coords t 1).val = t.val / 1 % 8 := Pipeline.Grid.coords_val t 1 (by decide) rfl
  rw [e1, Nat.div_one]

theorem ix_0 : ∀ t : Fin grid0.N, win0_0.index t (0 : Fin 3) = t.val / 8 ∧ win0_0.index t (1 : Fin 3) = 0 ∧ win0_0.index t (2 : Fin 3) = t.val % 8 := by
  decide +kernel
theorem emb_0 (t : Fin cfg0.N) (u : Fin 1) (r : Fin 2048) (cc : Fin 1024) :
    ((cfg0.win 0).blk t).view.emb (ix3 u r cc) = (ix3 (⟨t.val / 8, by have := lt64 t; omega⟩ : Fin 8) r (⟨1024 * (t.val % 8) + cc.val, by have := lt64 t; have := cc.isLt; omega⟩ : Fin 8192) : (T3 8 2048 8192).Idx) := by
  obtain ⟨h0, h1, h2⟩ := ix_0 t
  have hu : u.val = 0 := by have := u.isLt; omega
  refine funext fun k => Fin.ext ?_
  match k with
    | ⟨0, _⟩ => refine (win0_0.rect_emb_val t (ix3 u r cc) (0 : Fin 3)).trans ?_; show win0_0.index t (0 : Fin 3) * 1 + u.val = t.val / 8; rw [h0]; omega
    | ⟨1, _⟩ => refine (win0_0.rect_emb_val t (ix3 u r cc) (1 : Fin 3)).trans ?_; show win0_0.index t (1 : Fin 3) * 2048 + r.val = r.val; rw [h1]; omega
    | ⟨2, _⟩ => refine (win0_0.rect_emb_val t (ix3 u r cc) (2 : Fin 3)).trans ?_; show win0_0.index t (2 : Fin 3) * 1024 + cc.val = 1024 * (t.val % 8) + cc.val; rw [h2]; omega

theorem ix_1 : ∀ t : Fin grid0.N, win0_1.index t (0 : Fin 3) = t.val / 8 ∧ win0_1.index t (1 : Fin 3) = 0 ∧ win0_1.index t (2 : Fin 3) = t.val % 8 := by
  decide +kernel
theorem emb_1 (t : Fin cfg0.N) (u : Fin 1) (r : Fin 2048) (cc : Fin 256) :
    ((cfg0.win 1).blk t).view.emb (ix3 u r cc) = (ix3 (⟨t.val / 8, by have := lt64 t; omega⟩ : Fin 8) r (⟨256 * (t.val % 8) + cc.val, by have := lt64 t; have := cc.isLt; omega⟩ : Fin 2048) : (T3 8 2048 2048).Idx) := by
  obtain ⟨h0, h1, h2⟩ := ix_1 t
  have hu : u.val = 0 := by have := u.isLt; omega
  refine funext fun k => Fin.ext ?_
  match k with
    | ⟨0, _⟩ => refine (win0_1.rect_emb_val t (ix3 u r cc) (0 : Fin 3)).trans ?_; show win0_1.index t (0 : Fin 3) * 1 + u.val = t.val / 8; rw [h0]; omega
    | ⟨1, _⟩ => refine (win0_1.rect_emb_val t (ix3 u r cc) (1 : Fin 3)).trans ?_; show win0_1.index t (1 : Fin 3) * 2048 + r.val = r.val; rw [h1]; omega
    | ⟨2, _⟩ => refine (win0_1.rect_emb_val t (ix3 u r cc) (2 : Fin 3)).trans ?_; show win0_1.index t (2 : Fin 3) * 256 + cc.val = 256 * (t.val % 8) + cc.val; rw [h2]; omega

theorem ix_2 : ∀ t : Fin grid0.N, win0_2.index t (0 : Fin 3) = t.val / 8 ∧ win0_2.index t (1 : Fin 3) = 0 ∧ win0_2.index t (2 : Fin 3) = t.val % 8 := by
  decide +kernel
theorem emb_2 (t : Fin cfg0.N) (u : Fin 1) (r : Fin 2048) (cc : Fin 256) :
    ((cfg0.win 2).blk t).view.emb (ix3 u r cc) = (ix3 (⟨t.val / 8, by have := lt64 t; omega⟩ : Fin 8) r (⟨256 * (t.val % 8) + cc.val, by have := lt64 t; have := cc.isLt; omega⟩ : Fin 2048) : (T3 8 2048 2048).Idx) := by
  obtain ⟨h0, h1, h2⟩ := ix_2 t
  have hu : u.val = 0 := by have := u.isLt; omega
  refine funext fun k => Fin.ext ?_
  match k with
    | ⟨0, _⟩ => refine (win0_2.rect_emb_val t (ix3 u r cc) (0 : Fin 3)).trans ?_; show win0_2.index t (0 : Fin 3) * 1 + u.val = t.val / 8; rw [h0]; omega
    | ⟨1, _⟩ => refine (win0_2.rect_emb_val t (ix3 u r cc) (1 : Fin 3)).trans ?_; show win0_2.index t (1 : Fin 3) * 2048 + r.val = r.val; rw [h1]; omega
    | ⟨2, _⟩ => refine (win0_2.rect_emb_val t (ix3 u r cc) (2 : Fin 3)).trans ?_; show win0_2.index t (2 : Fin 3) * 256 + cc.val = 256 * (t.val % 8) + cc.val; rw [h2]; omega

theorem ix_3 : ∀ t : Fin grid0.N, win0_3.index t (0 : Fin 3) = t.val / 8 ∧ win0_3.index t (1 : Fin 3) = 0 ∧ win0_3.index t (2 : Fin 3) = t.val % 8 := by
  decide +kernel
theorem emb_3 (t : Fin cfg0.N) (u : Fin 1) (r : Fin 2048) (cc : Fin 1024) :
    ((cfg0.win 3).blk t).view.emb (ix3 u r cc) = (ix3 (⟨t.val / 8, by have := lt64 t; omega⟩ : Fin 8) r (⟨1024 * (t.val % 8) + cc.val, by have := lt64 t; have := cc.isLt; omega⟩ : Fin 8192) : (T3 8 2048 8192).Idx) := by
  obtain ⟨h0, h1, h2⟩ := ix_3 t
  have hu : u.val = 0 := by have := u.isLt; omega
  refine funext fun k => Fin.ext ?_
  match k with
    | ⟨0, _⟩ => refine (win0_3.rect_emb_val t (ix3 u r cc) (0 : Fin 3)).trans ?_; show win0_3.index t (0 : Fin 3) * 1 + u.val = t.val / 8; rw [h0]; omega
    | ⟨1, _⟩ => refine (win0_3.rect_emb_val t (ix3 u r cc) (1 : Fin 3)).trans ?_; show win0_3.index t (1 : Fin 3) * 2048 + r.val = r.val; rw [h1]; omega
    | ⟨2, _⟩ => refine (win0_3.rect_emb_val t (ix3 u r cc) (2 : Fin 3)).trans ?_; show win0_3.index t (2 : Fin 3) * 1024 + cc.val = 1024 * (t.val % 8) + cc.val; rw [h2]; omega

theorem ix_4 : ∀ t : Fin grid0.N, win0_4.index t (0 : Fin 3) = t.val / 8 ∧ win0_4.index t (1 : Fin 3) = 0 ∧ win0_4.index t (2 : Fin 3) = t.val % 8 := by
  decide +kernel
theorem emb_4 (t : Fin cfg0.N) (u : Fin 1) (r : Fin 2048) (cc : Fin 1024) :
    ((cfg0.win 4).blk t).view.emb (ix3 u r cc) = (ix3 (⟨t.val / 8, by have := lt64 t; omega⟩ : Fin 8) r (⟨1024 * (t.val % 8) + cc.val, by have := lt64 t; have := cc.isLt; omega⟩ : Fin 8192) : (T3 8 2048 8192).Idx) := by
  obtain ⟨h0, h1, h2⟩ := ix_4 t
  have hu : u.val = 0 := by have := u.isLt; omega
  refine funext fun k => Fin.ext ?_
  match k with
    | ⟨0, _⟩ => refine (win0_4.rect_emb_val t (ix3 u r cc) (0 : Fin 3)).trans ?_; show win0_4.index t (0 : Fin 3) * 1 + u.val = t.val / 8; rw [h0]; omega
    | ⟨1, _⟩ => refine (win0_4.rect_emb_val t (ix3 u r cc) (1 : Fin 3)).trans ?_; show win0_4.index t (1 : Fin 3) * 2048 + r.val = r.val; rw [h1]; omega
    | ⟨2, _⟩ => refine (win0_4.rect_emb_val t (ix3 u r cc) (2 : Fin 3)).trans ?_; show win0_4.index t (2 : Fin 3) * 1024 + cc.val = 1024 * (t.val % 8) + cc.val; rw [h2]; omega

theorem ix_5 : ∀ t : Fin grid0.N, win0_5.index t (0 : Fin 3) = t.val / 8 ∧ win0_5.index t (1 : Fin 3) = 0 ∧ win0_5.index t (2 : Fin 3) = 0 := by
  decide +kernel
theorem emb_5 (t : Fin cfg0.N) (u : Fin 1) (r : Fin 2048) (cc : Fin 32) :
    ((cfg0.win 5).blk t).view.emb (ix3 u r cc) = (ix3 (⟨t.val / 8, by have := lt64 t; omega⟩ : Fin 8) r (⟨cc.val, cc.isLt⟩ : Fin 32) : (T3 8 2048 32).Idx) := by
  obtain ⟨h0, h1, h2⟩ := ix_5 t
  have hu : u.val = 0 := by have := u.isLt; omega
  refine funext fun k => Fin.ext ?_
  match k with
    | ⟨0, _⟩ => refine (win0_5.rect_emb_val t (ix3 u r cc) (0 : Fin 3)).trans ?_; show win0_5.index t (0 : Fin 3) * 1 + u.val = t.val / 8; rw [h0]; omega
    | ⟨1, _⟩ => refine (win0_5.rect_emb_val t (ix3 u r cc) (1 : Fin 3)).trans ?_; show win0_5.index t (1 : Fin 3) * 2048 + r.val = r.val; rw [h1]; omega
    | ⟨2, _⟩ => refine (win0_5.rect_emb_val t (ix3 u r cc) (2 : Fin 3)).trans ?_; show win0_5.index t (2 : Fin 3) * 32 + cc.val = cc.val; rw [h2]; omega

theorem ix_6 : ∀ t : Fin grid0.N, win0_6.index t (0 : Fin 3) = t.val / 8 ∧ win0_6.index t (1 : Fin 3) = 0 ∧ win0_6.index t (2 : Fin 3) = t.val % 8 := by
  decide +kernel
theorem emb_6 (t : Fin cfg0.N) (u : Fin 1) (r : Fin 2048) (cc : Fin 256) :
    ((cfg0.win 6).blk t).view.emb (ix3 u r cc) = (ix3 (⟨t.val / 8, by have := lt64 t; omega⟩ : Fin 8) r (⟨256 * (t.val % 8) + cc.val, by have := lt64 t; have := cc.isLt; omega⟩ : Fin 2048) : (T3 8 2048 2048).Idx) := by
  obtain ⟨h0, h1, h2⟩ := ix_6 t
  have hu : u.val = 0 := by have := u.isLt; omega
  refine funext fun k => Fin.ext ?_
  match k with
    | ⟨0, _⟩ => refine (win0_6.rect_emb_val t (ix3 u r cc) (0 : Fin 3)).trans ?_; show win0_6.index t (0 : Fin 3) * 1 + u.val = t.val / 8; rw [h0]; omega
    | ⟨1, _⟩ => refine (win0_6.rect_emb_val t (ix3 u r cc) (1 : Fin 3)).trans ?_; show win0_6.index t (1 : Fin 3) * 2048 + r.val = r.val; rw [h1]; omega
    | ⟨2, _⟩ => refine (win0_6.rect_emb_val t (ix3 u r cc) (2 : Fin 3)).trans ?_; show win0_6.index t (2 : Fin 3) * 256 + cc.val = 256 * (t.val % 8) + cc.val; rw [h2]; omega

theorem ix_7 : ∀ t : Fin grid0.N, win0_7.index t (0 : Fin 3) = t.val / 8 ∧ win0_7.index t (1 : Fin 3) = 0 ∧ win0_7.index t (2 : Fin 3) = 0 := by
  decide +kernel
theorem emb_7 (t : Fin cfg0.N) (u : Fin 1) (r : Fin 2048) (cc : Fin 8) :
    ((cfg0.win 7).blk t).view.emb (ix3 u r cc) = (ix3 (⟨t.val / 8, by have := lt64 t; omega⟩ : Fin 8) r (⟨cc.val, cc.isLt⟩ : Fin 8) : (T3 8 2048 8).Idx) := by
  obtain ⟨h0, h1, h2⟩ := ix_7 t
  have hu : u.val = 0 := by have := u.isLt; omega
  refine funext fun k => Fin.ext ?_
  match k with
    | ⟨0, _⟩ => refine (win0_7.rect_emb_val t (ix3 u r cc) (0 : Fin 3)).trans ?_; show win0_7.index t (0 : Fin 3) * 1 + u.val = t.val / 8; rw [h0]; omega
    | ⟨1, _⟩ => refine (win0_7.rect_emb_val t (ix3 u r cc) (1 : Fin 3)).trans ?_; show win0_7.index t (1 : Fin 3) * 2048 + r.val = r.val; rw [h1]; omega
    | ⟨2, _⟩ => refine (win0_7.rect_emb_val t (ix3 u r cc) (2 : Fin 3)).trans ?_; show win0_7.index t (2 : Fin 3) * 8 + cc.val = cc.val; rw [h2]; omega

theorem ix_8 : ∀ t : Fin grid0.N, win0_8.index t (0 : Fin 3) = t.val / 8 ∧ win0_8.index t (1 : Fin 3) = 0 ∧ win0_8.index t (2 : Fin 3) = t.val % 8 := by
  decide +kernel
theorem emb_8 (t : Fin cfg0.N) (u : Fin 1) (r : Fin 2048) (cc : Fin 256) :
    ((cfg0.win 8).blk t).view.emb (ix3 u r cc) = (ix3 (⟨t.val / 8, by have := lt64 t; omega⟩ : Fin 8) r (⟨256 * (t.val % 8) + cc.val, by have := lt64 t; have := cc.isLt; omega⟩ : Fin 2048) : (T3 8 2048 2048).Idx) := by
  obtain ⟨h0, h1, h2⟩ := ix_8 t
  have hu : u.val = 0 := by have := u.isLt; omega
  refine funext fun k => Fin.ext ?_
  match k with
    | ⟨0, _⟩ => refine (win0_8.rect_emb_val t (ix3 u r cc) (0 : Fin 3)).trans ?_; show win0_8.index t (0 : Fin 3) * 1 + u.val = t.val / 8; rw [h0]; omega
    | ⟨1, _⟩ => refine (win0_8.rect_emb_val t (ix3 u r cc) (1 : Fin 3)).trans ?_; show win0_8.index t (1 : Fin 3) * 2048 + r.val = r.val; rw [h1]; omega
    | ⟨2, _⟩ => refine (win0_8.rect_emb_val t (ix3 u r cc) (2 : Fin 3)).trans ?_; show win0_8.index t (2 : Fin 3) * 256 + cc.val = 256 * (t.val % 8) + cc.val; rw [h2]; omega

theorem ix_9 : ∀ t : Fin grid0.N, win0_9.index t (0 : Fin 4) = t.val / 8 ∧ win0_9.index t (1 : Fin 4) = t.val % 8 ∧ win0_9.index t (2 : Fin 4) = 0 ∧ win0_9.index t (3 : Fin 4) = 0 := by
  decide +kernel
theorem emb_9 (t : Fin cfg0.N) (u v w : Fin 1) (d : Fin 256) :
    ((cfg0.win 9).blk t).view.emb (ix4 u v w d) = (ix4 (⟨t.val / 8, by have := lt64 t; omega⟩ : Fin 8) (⟨t.val % 8, Nat.mod_lt _ (by omega)⟩ : Fin 8) w d : (T4 8 8 1 256).Idx) := by
  obtain ⟨h0, h1, h2, h3⟩ := ix_9 t
  have hu : u.val = 0 := by have := u.isLt; omega
  have hv : v.val = 0 := by have := v.isLt; omega
  refine funext fun k => Fin.ext ?_
  match k with
    | ⟨0, _⟩ => refine (win0_9.rect_emb_val t (ix4 u v w d) (0 : Fin 4)).trans ?_; show win0_9.index t (0 : Fin 4) * 1 + u.val = t.val / 8; rw [h0]; omega
    | ⟨1, _⟩ => refine (win0_9.rect_emb_val t (ix4 u v w d) (1 : Fin 4)).trans ?_; show win0_9.index t (1 : Fin 4) * 1 + v.val = t.val % 8; rw [h1]; omega
    | ⟨2, _⟩ => refine (win0_9.rect_emb_val t (ix4 u v w d) (2 : Fin 4)).trans ?_; show win0_9.index t (2 : Fin 4) * 1 + w.val = w.val; rw [h2]; omega
    | ⟨3, _⟩ => refine (win0_9.rect_emb_val t (ix4 u v w d) (3 : Fin 4)).trans ?_; show win0_9.index t (3 : Fin 4) * 256 + d.val = d.val; rw [h3]; omega

theorem iblk_0 (t : Fin cfg0.N) (u : Fin 1) (r : Fin 2048) (cc : Fin 1024) :
    (iblk m c 0 t : Vec Ideal (T3 1 2048 1024) .bf16) (ix3 u r cc) = arr0 m c (ix3 (⟨t.val / 8, by have := lt64 t; omega⟩ : Fin 8) r (⟨1024 * (t.val % 8) + cc.val, by have := lt64 t; have := cc.isLt; omega⟩ : Fin 8192)) := by
  rw [← emb_0]
  rfl

theorem iblk_1 (t : Fin cfg0.N) (u : Fin 1) (r : Fin 2048) (cc : Fin 256) :
    (iblk m c 1 t : Vec Ideal (T3 1 2048 256) .bf16) (ix3 u r cc) = arr1 m c (ix3 (⟨t.val / 8, by have := lt64 t; omega⟩ : Fin 8) r (⟨256 * (t.val % 8) + cc.val, by have := lt64 t; have := cc.isLt; omega⟩ : Fin 2048)) := by
  rw [← emb_1]
  rfl

theorem iblk_2 (t : Fin cfg0.N) (u : Fin 1) (r : Fin 2048) (cc : Fin 256) :
    (iblk m c 2 t : Vec Ideal (T3 1 2048 256) .bf16) (ix3 u r cc) = arr2 m c (ix3 (⟨t.val / 8, by have := lt64 t; omega⟩ : Fin 8) r (⟨256 * (t.val % 8) + cc.val, by have := lt64 t; have := cc.isLt; omega⟩ : Fin 2048)) := by
  rw [← emb_2]
  rfl

theorem in_at (t : Fin cfg0.N) : inX (iblk m c 0 t) (iblk m c 1 t) (iblk m c 2 t) = inG m c (t.val / 8) (t.val % 8) := by
  have ht := lt64 t
  have hX : (inX (iblk m c 0 t) (iblk m c 1 t) (iblk m c 2 t)).X = (inG m c (t.val / 8) (t.val % 8)).X := by
    refine funext fun a => funext fun b => funext fun d => ?_
    by_cases hh : a < 2048 ∧ b < 4 ∧ d < 256
    · refine (dif_pos hh).trans (Eq.trans ?_ (dif_pos ⟨⟨by omega, by omega⟩, hh⟩).symm)
      exact iblk_0 m c t _ _ _
    · refine (dif_neg hh).trans (Eq.symm ?_)
      exact dif_neg fun h => hh h.2
  have hK : (inX (iblk m c 0 t) (iblk m c 1 t) (iblk m c 2 t)).K = (inG m c (t.val / 8) (t.val % 8)).K := by
    refine funext fun a => funext fun b => ?_
    by_cases hh : a < 2048 ∧ b < 256
    · refine (dif_pos hh).trans (Eq.trans ?_ (dif_pos ⟨⟨by omega, by omega⟩, hh⟩).symm)
      exact iblk_1 m c t _ _ _
    · refine (dif_neg hh).trans (Eq.symm ?_)
      exact dif_neg fun h => hh h.2
  have hV : (inX (iblk m c 0 t) (iblk m c 1 t) (iblk m c 2 t)).V = (inG m c (t.val / 8) (t.val % 8)).V := by
    refine funext fun a => funext fun b => ?_
    by_cases hh : a < 2048 ∧ b < 256
    · refine (dif_pos hh).trans (Eq.trans ?_ (dif_pos ⟨⟨by omega, by omega⟩, hh⟩).symm)
      exact iblk_2 m c t _ _ _
    · refine (dif_neg hh).trans (Eq.symm ?_)
      exact dif_neg fun h => hh h.2
  show In.mk _ _ _ = In.mk _ _ _
  exact congr (congr (congrArg In.mk hX) hK) hV

variable (hF : ∀ b g, Fine (inG m c b g))
include hF

theorem at_A (t : Fin cfg0.N) (h0 : t.val % 8 = 0) :
    Outs (inG m c (t.val / 8) (t.val % 8)) (t.val % 8) (fun _ _ => 0) (fun _ _ => 0) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2 := by
  refine ofTuple (in_at m c t) (outsAt0_A m c t h0) fun hf => ?_
  exact outsA' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (t.val % 8) (Nat.mod_lt _ (by omega)) (congrArg (BitVec.ofNat 32) (crd t)) ((hcond0_0 t).mpr h0) (hf (hF _ _))

theorem at_B (t : Fin cfg0.N) (h0 : ¬ t.val % 8 = 0) :
    Outs (inG m c (t.val / 8) (t.val % 8)) (t.val % 8) (old32 (outsAt0 m c (t.val - 1) (Nat.lt_of_le_of_lt (Nat.sub_le _ _) t.isLt)).2.2.1) (old8 (outsAt0 m c (t.val - 1) (Nat.lt_of_le_of_lt (Nat.sub_le _ _) t.isLt)).2.2.2.2.1) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.1 (outsAt0 m c t.val t.isLt).2.2.2.2.2.2 := by
  refine ofTuple (in_at m c t) (outsAt0_B m c t h0) fun hf => ?_
  exact outsB' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (t.val % 8) (Nat.mod_lt _ (by omega)) (congrArg (BitVec.ofNat 32) (crd t)) (fun h => h0 ((hcond0_0 t).mp h)) _ _ (hf (hF _ _))

/-- The scales' blocks after a point hold the scales of the heads so far. -/
theorem acc_at (n : ℕ) (hn : n < cfg0.N) :
    (∀ (u : Fin 1) (r : Fin 2048) (cc : Fin 32), (outsAt0 m c n hn).2.2.1 (ix3 u r cc) = if cc.val < 4 * (n % 8 + 1) then qs (inG m c (n / 8) (cc.val / 4)) r.val (cc.val % 4) else 0)
    ∧ (∀ (u : Fin 1) (r : Fin 2048) (cc : Fin 8), (outsAt0 m c n hn).2.2.2.2.1 (ix3 u r cc) = if cc.val < n % 8 + 1 then ks (inG m c (n / 8) cc.val) r.val else 0) := by
  induction n using Nat.strong_induction_on with
  | _ n ih =>
  by_cases h0 : n % 8 = 0
  · have H := at_A m c hF ⟨n, hn⟩ h0
    constructor
    · intro u r cc
      refine (H.w5 u r cc).trans ?_
      show (if 4 * (n % 8) ≤ cc.val ∧ cc.val < 4 * (n % 8) + 4 then qs (inG m c (n / 8) (n % 8)) r.val (cc.val - 4 * (n % 8)) else (0 : EReal)) = _
      by_cases h : cc.val < 4 * (n % 8 + 1)
      · rw [if_pos h, if_pos ⟨by omega, by omega⟩, show cc.val / 4 = n % 8 by omega, show cc.val % 4 = cc.val - 4 * (n % 8) by omega]
      · rw [if_neg h, if_neg (by omega)]
    · intro u r cc
      refine (H.w7 u r cc).trans ?_
      show (if cc.val = n % 8 then ks (inG m c (n / 8) (n % 8)) r.val else (0 : EReal)) = _
      by_cases h : cc.val < n % 8 + 1
      · rw [if_pos h, if_pos (by omega), show cc.val = n % 8 by omega]
      · rw [if_neg h, if_neg (by omega)]
  · have H := at_B m c hF ⟨n, hn⟩ h0
    have I := ih (n - 1) (by omega) (Nat.lt_of_le_of_lt (Nat.sub_le _ _) hn)
    rw [show (n - 1) / 8 = n / 8 by omega, show (n - 1) % 8 + 1 = n % 8 by omega] at I
    constructor
    · intro u r cc
      refine (H.w5 u r cc).trans ?_
      show (if 4 * (n % 8) ≤ cc.val ∧ cc.val < 4 * (n % 8) + 4 then qs (inG m c (n / 8) (n % 8)) r.val (cc.val - 4 * (n % 8)) else old32 (outsAt0 m c (n - 1) _).2.2.1 r.val cc.val) = _
      by_cases h : 4 * (n % 8) ≤ cc.val ∧ cc.val < 4 * (n % 8) + 4
      · rw [if_pos h, if_pos (by omega), show cc.val / 4 = n % 8 by omega, show cc.val % 4 = cc.val - 4 * (n % 8) by omega]
      · rw [if_neg h]
        refine ((dif_pos ⟨r.isLt, cc.isLt⟩).trans (I.1 0 r cc)).trans ?_
        by_cases h' : cc.val < 4 * (n % 8)
        · rw [if_pos h', if_pos (by omega)]
        · rw [if_neg h', if_neg (by omega)]
    · intro u r cc
      refine (H.w7 u r cc).trans ?_
      show (if cc.val = n % 8 then ks (inG m c (n / 8) (n % 8)) r.val else old8 (outsAt0 m c (n - 1) _).2.2.2.2.1 r.val cc.val) = _
      by_cases h : cc.val = n % 8
      · rw [if_pos h, if_pos (by omega), show cc.val = n % 8 by omega]
      · rw [if_neg h]
        refine ((dif_pos ⟨r.isLt, cc.isLt⟩).trans (I.2 0 r cc)).trans ?_
        by_cases h' : cc.val < n % 8
        · rw [if_pos h', if_pos (by omega)]
        · rw [if_neg h', if_neg (by omega)]

/-- The point of batch row `b` and key head `g`. -/
def pt (b g : Fin 8) : Fin cfg0.N := ⟨8 * b.val + g.val, by rw [show cfg0.N = 64 from N_0]; have := b.isLt; have := g.isLt; omega⟩

theorem fin_3 (b g : Fin 8) (r : Fin 2048) (cc : Fin 1024) :
    (Res (inG m c b.val g.val) r.val cc.val) ((dats m 0 c).arrAt 3 cfg0.N (ix3 b r (⟨1024 * g.val + cc.val, by have := g.isLt; have := cc.isLt; omega⟩ : Fin 8192) : (T3 8 2048 8192).Idx)) := by
  have hb := b.isLt
  have hg := g.isLt
  have hd : (pt b g).val / 8 = b.val := by show (8 * b.val + g.val) / 8 = _; omega
  have hm : (pt b g).val % 8 = g.val := by show (8 * b.val + g.val) % 8 = _; omega
  have key : ∀ (h1 : (pt b g).val / 8 < 8) (h2 : 1024 * ((pt b g).val % 8) + cc.val < 8192),
      (dats m 0 c).arrAt 3 cfg0.N (ix3 (⟨(pt b g).val / 8, h1⟩ : Fin 8) r (⟨1024 * ((pt b g).val % 8) + cc.val, h2⟩ : Fin 8192) : (T3 8 2048 8192).Idx) = (outsAt0 m c (pt b g).val (pt b g).isLt).1 (ix3 (0 : Fin 1) r cc) := by
    intro h1 h2
    rw [← emb_3 (pt b g) (0 : Fin 1) r cc]
    have e := congrFun (Value.blocks3 m c (pt b g) (flush0_3 (pt b g))) (ix3 (0 : Fin 1) r cc)
    rw [Value.flushed3 m c (pt b g)] at e
    exact e
  have H : (Res (inG m c b.val g.val) r.val cc.val) ((outsAt0 m c (pt b g).val (pt b g).isLt).1 (ix3 (0 : Fin 1) r cc)) := by
    by_cases h0 : (pt b g).val % 8 = 0
    · have H := (at_A m c hF (pt b g) h0).w3 0 r cc
      rw [hd, hm] at H
      exact H
    · have H := (at_B m c hF (pt b g) h0).w3 0 r cc
      rw [hd, hm] at H
      exact H
  rw [← key (by omega) (by omega)] at H
  refine Eq.mp ?_ H
  refine congrArg (Res (inG m c b.val g.val) r.val cc.val) (congrArg ((dats m 0 c).arrAt 3 cfg0.N) ?_)
  refine funext fun k => Fin.ext ?_
  match k with
    | ⟨0, _⟩ => exact hd
    | ⟨1, _⟩ => rfl
    | ⟨2, _⟩ => show 1024 * ((pt b g).val % 8) + cc.val = 1024 * g.val + cc.val; rw [hm]

theorem fin_4 (b g : Fin 8) (r : Fin 2048) (cc : Fin 1024) :
    (fun z : EReal => z = qc (inG m c b.val g.val) r.val (cc.val / 256) (cc.val % 256)) ((dats m 0 c).arrAt 4 cfg0.N (ix3 b r (⟨1024 * g.val + cc.val, by have := g.isLt; have := cc.isLt; omega⟩ : Fin 8192) : (T3 8 2048 8192).Idx)) := by
  have hb := b.isLt
  have hg := g.isLt
  have hd : (pt b g).val / 8 = b.val := by show (8 * b.val + g.val) / 8 = _; omega
  have hm : (pt b g).val % 8 = g.val := by show (8 * b.val + g.val) % 8 = _; omega
  have key : ∀ (h1 : (pt b g).val / 8 < 8) (h2 : 1024 * ((pt b g).val % 8) + cc.val < 8192),
      (dats m 0 c).arrAt 4 cfg0.N (ix3 (⟨(pt b g).val / 8, h1⟩ : Fin 8) r (⟨1024 * ((pt b g).val % 8) + cc.val, h2⟩ : Fin 8192) : (T3 8 2048 8192).Idx) = (outsAt0 m c (pt b g).val (pt b g).isLt).2.1 (ix3 (0 : Fin 1) r cc) := by
    intro h1 h2
    rw [← emb_4 (pt b g) (0 : Fin 1) r cc]
    have e := congrFun (Value.blocks4 m c (pt b g) (flush0_4 (pt b g))) (ix3 (0 : Fin 1) r cc)
    rw [Value.flushed4 m c (pt b g)] at e
    exact e
  have H : (fun z : EReal => z = qc (inG m c b.val g.val) r.val (cc.val / 256) (cc.val % 256)) ((outsAt0 m c (pt b g).val (pt b g).isLt).2.1 (ix3 (0 : Fin 1) r cc)) := by
    by_cases h0 : (pt b g).val % 8 = 0
    · have H := (at_A m c hF (pt b g) h0).w4 0 r cc
      rw [hd, hm] at H
      exact H
    · have H := (at_B m c hF (pt b g) h0).w4 0 r cc
      rw [hd, hm] at H
      exact H
  rw [← key (by omega) (by omega)] at H
  refine Eq.mp ?_ H
  refine congrArg (fun z : EReal => z = qc (inG m c b.val g.val) r.val (cc.val / 256) (cc.val % 256)) (congrArg ((dats m 0 c).arrAt 4 cfg0.N) ?_)
  refine funext fun k => Fin.ext ?_
  match k with
    | ⟨0, _⟩ => exact hd
    | ⟨1, _⟩ => rfl
    | ⟨2, _⟩ => show 1024 * ((pt b g).val % 8) + cc.val = 1024 * g.val + cc.val; rw [hm]

theorem fin_6 (b g : Fin 8) (r : Fin 2048) (cc : Fin 256) :
    (fun z : EReal => z = kc (inG m c b.val g.val) r.val cc.val) ((dats m 0 c).arrAt 6 cfg0.N (ix3 b r (⟨256 * g.val + cc.val, by have := g.isLt; have := cc.isLt; omega⟩ : Fin 2048) : (T3 8 2048 2048).Idx)) := by
  have hb := b.isLt
  have hg := g.isLt
  have hd : (pt b g).val / 8 = b.val := by show (8 * b.val + g.val) / 8 = _; omega
  have hm : (pt b g).val % 8 = g.val := by show (8 * b.val + g.val) % 8 = _; omega
  have key : ∀ (h1 : (pt b g).val / 8 < 8) (h2 : 256 * ((pt b g).val % 8) + cc.val < 2048),
      (dats m 0 c).arrAt 6 cfg0.N (ix3 (⟨(pt b g).val / 8, h1⟩ : Fin 8) r (⟨256 * ((pt b g).val % 8) + cc.val, h2⟩ : Fin 2048) : (T3 8 2048 2048).Idx) = (outsAt0 m c (pt b g).val (pt b g).isLt).2.2.2.1 (ix3 (0 : Fin 1) r cc) := by
    intro h1 h2
    rw [← emb_6 (pt b g) (0 : Fin 1) r cc]
    have e := congrFun (Value.blocks6 m c (pt b g) (flush0_6 (pt b g))) (ix3 (0 : Fin 1) r cc)
    rw [Value.flushed6 m c (pt b g)] at e
    exact e
  have H : (fun z : EReal => z = kc (inG m c b.val g.val) r.val cc.val) ((outsAt0 m c (pt b g).val (pt b g).isLt).2.2.2.1 (ix3 (0 : Fin 1) r cc)) := by
    by_cases h0 : (pt b g).val % 8 = 0
    · have H := (at_A m c hF (pt b g) h0).w6 0 r cc
      rw [hd, hm] at H
      exact H
    · have H := (at_B m c hF (pt b g) h0).w6 0 r cc
      rw [hd, hm] at H
      exact H
  rw [← key (by omega) (by omega)] at H
  refine Eq.mp ?_ H
  refine congrArg (fun z : EReal => z = kc (inG m c b.val g.val) r.val cc.val) (congrArg ((dats m 0 c).arrAt 6 cfg0.N) ?_)
  refine funext fun k => Fin.ext ?_
  match k with
    | ⟨0, _⟩ => exact hd
    | ⟨1, _⟩ => rfl
    | ⟨2, _⟩ => show 256 * ((pt b g).val % 8) + cc.val = 256 * g.val + cc.val; rw [hm]

theorem fin_8 (b g : Fin 8) (r : Fin 2048) (cc : Fin 256) :
    (fun z : EReal => z = vc (inG m c b.val g.val) r.val cc.val) ((dats m 0 c).arrAt 8 cfg0.N (ix3 b r (⟨256 * g.val + cc.val, by have := g.isLt; have := cc.isLt; omega⟩ : Fin 2048) : (T3 8 2048 2048).Idx)) := by
  have hb := b.isLt
  have hg := g.isLt
  have hd : (pt b g).val / 8 = b.val := by show (8 * b.val + g.val) / 8 = _; omega
  have hm : (pt b g).val % 8 = g.val := by show (8 * b.val + g.val) % 8 = _; omega
  have key : ∀ (h1 : (pt b g).val / 8 < 8) (h2 : 256 * ((pt b g).val % 8) + cc.val < 2048),
      (dats m 0 c).arrAt 8 cfg0.N (ix3 (⟨(pt b g).val / 8, h1⟩ : Fin 8) r (⟨256 * ((pt b g).val % 8) + cc.val, h2⟩ : Fin 2048) : (T3 8 2048 2048).Idx) = (outsAt0 m c (pt b g).val (pt b g).isLt).2.2.2.2.2.1 (ix3 (0 : Fin 1) r cc) := by
    intro h1 h2
    rw [← emb_8 (pt b g) (0 : Fin 1) r cc]
    have e := congrFun (Value.blocks8 m c (pt b g) (flush0_8 (pt b g))) (ix3 (0 : Fin 1) r cc)
    rw [Value.flushed8 m c (pt b g)] at e
    exact e
  have H : (fun z : EReal => z = vc (inG m c b.val g.val) r.val cc.val) ((outsAt0 m c (pt b g).val (pt b g).isLt).2.2.2.2.2.1 (ix3 (0 : Fin 1) r cc)) := by
    by_cases h0 : (pt b g).val % 8 = 0
    · have H := (at_A m c hF (pt b g) h0).w8 0 r cc
      rw [hd, hm] at H
      exact H
    · have H := (at_B m c hF (pt b g) h0).w8 0 r cc
      rw [hd, hm] at H
      exact H
  rw [← key (by omega) (by omega)] at H
  refine Eq.mp ?_ H
  refine congrArg (fun z : EReal => z = vc (inG m c b.val g.val) r.val cc.val) (congrArg ((dats m 0 c).arrAt 8 cfg0.N) ?_)
  refine funext fun k => Fin.ext ?_
  match k with
    | ⟨0, _⟩ => exact hd
    | ⟨1, _⟩ => rfl
    | ⟨2, _⟩ => show 256 * ((pt b g).val % 8) + cc.val = 256 * g.val + cc.val; rw [hm]

theorem fin_9 (b g : Fin 8) (w : Fin 1) (d : Fin 256) :
    (dats m 0 c).arrAt 9 cfg0.N (ix4 b g w d : (T4 8 8 1 256).Idx) = vs (inG m c b.val g.val) d.val := by
  have hb := b.isLt
  have hg := g.isLt
  have hd : (pt b g).val / 8 = b.val := by show (8 * b.val + g.val) / 8 = _; omega
  have hm : (pt b g).val % 8 = g.val := by show (8 * b.val + g.val) % 8 = _; omega
  have key : ∀ (h1 : (pt b g).val / 8 < 8) (h2 : (pt b g).val % 8 < 8),
      (dats m 0 c).arrAt 9 cfg0.N (ix4 (⟨(pt b g).val / 8, h1⟩ : Fin 8) (⟨(pt b g).val % 8, h2⟩ : Fin 8) w d : (T4 8 8 1 256).Idx) = (outsAt0 m c (pt b g).val (pt b g).isLt).2.2.2.2.2.2 (ix4 (0 : Fin 1) (0 : Fin 1) w d) := by
    intro h1 h2
    rw [← emb_9 (pt b g) (0 : Fin 1) (0 : Fin 1) w d]
    have e := congrFun (Value.blocks9 m c (pt b g) (flush0_9 (pt b g))) (ix4 (0 : Fin 1) (0 : Fin 1) w d)
    rw [Value.flushed9 m c (pt b g)] at e
    exact e
  have H : (outsAt0 m c (pt b g).val (pt b g).isLt).2.2.2.2.2.2 (ix4 (0 : Fin 1) (0 : Fin 1) w d) = vs (inG m c b.val g.val) d.val := by
    by_cases h0 : (pt b g).val % 8 = 0
    · have H := (at_A m c hF (pt b g) h0).w9 0 0 w d
      rw [hd, hm] at H
      exact H
    · have H := (at_B m c hF (pt b g) h0).w9 0 0 w d
      rw [hd, hm] at H
      exact H
  rw [← key (by omega) (by omega)] at H
  refine Eq.trans (congrArg ((dats m 0 c).arrAt 9 cfg0.N) ?_) H
  refine funext fun k => Fin.ext ?_
  match k with
    | ⟨0, _⟩ => exact hd.symm
    | ⟨1, _⟩ => exact hm.symm
    | ⟨2, _⟩ => rfl
    | ⟨3, _⟩ => rfl

omit hF in
theorem dj_5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have h1 : t.val % 8 = 7 := (flush0_5 t).mp hf
    have h2 : t'.val % 8 = 7 := (flush0_5 t').mp hf'
    have h3 : win0_5.index t (0 : Fin 3) = win0_5.index t' (0 : Fin 3) := congrFun h (0 : Fin 3)
    rw [(ix_5 t).1, (ix_5 t').1] at h3
    omega))
omit hF in
theorem dj_7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (Fin.ext (by
    have h1 : t.val % 8 = 7 := (flush0_7 t).mp hf
    have h2 : t'.val % 8 = 7 := (flush0_7 t').mp hf'
    have h3 : win0_7.index t (0 : Fin 3) = win0_7.index t' (0 : Fin 3) := congrFun h (0 : Fin 3)
    rw [(ix_7 t).1, (ix_7 t').1] at h3
    omega))

theorem fin_5 (b : Fin 8) (r : Fin 2048) (cc : Fin 32) :
    (dats m 0 c).arrAt 5 cfg0.N (ix3 b r cc : (T3 8 2048 32).Idx) = qs (inG m c b.val (cc.val / 4)) r.val (cc.val % 4) := by
  have hb := b.isLt
  have hc := cc.isLt
  have hd : (pt b 7).val / 8 = b.val := by show (8 * b.val + 7) / 8 = _; omega
  have hm : (pt b 7).val % 8 = 7 := by show (8 * b.val + 7) % 8 = _; omega
  have key : ∀ (h1 : (pt b 7).val / 8 < 8),
      (dats m 0 c).arrAt 5 cfg0.N (ix3 (⟨(pt b 7).val / 8, h1⟩ : Fin 8) r (⟨cc.val, cc.isLt⟩ : Fin 32) : (T3 8 2048 32).Idx) = (outsAt0 m c (pt b 7).val (pt b 7).isLt).2.2.1 (ix3 (0 : Fin 1) r cc) := by
    intro h1
    rw [← emb_5 (pt b 7) (0 : Fin 1) r cc]
    have hf : (cfg0.win 5).flush (pt b 7) = true := (flush0_5 (pt b 7)).mpr hm
    have e := congrFun ((dats m 0 c).read_blk_arrAt_eq_flushed 5 dj_5 cfg0.N (pt b 7) (pt b 7).isLt hf) (ix3 (0 : Fin 1) r cc)
    rw [Value.flushed5 m c (pt b 7)] at e
    exact e
  have H := (acc_at m c hF (pt b 7).val (pt b 7).isLt).1 0 r cc
  rw [hd, hm, if_pos (by omega), ← key (by omega)] at H
  refine Eq.trans (congrArg ((dats m 0 c).arrAt 5 cfg0.N) ?_) H
  refine funext fun k => Fin.ext ?_
  match k with
    | ⟨0, _⟩ => exact hd.symm
    | ⟨1, _⟩ => rfl
    | ⟨2, _⟩ => rfl

theorem fin_7 (b : Fin 8) (r : Fin 2048) (cc : Fin 8) :
    (dats m 0 c).arrAt 7 cfg0.N (ix3 b r cc : (T3 8 2048 8).Idx) = ks (inG m c b.val cc.val) r.val := by
  have hb := b.isLt
  have hc := cc.isLt
  have hd : (pt b 7).val / 8 = b.val := by show (8 * b.val + 7) / 8 = _; omega
  have hm : (pt b 7).val % 8 = 7 := by show (8 * b.val + 7) % 8 = _; omega
  have key : ∀ (h1 : (pt b 7).val / 8 < 8),
      (dats m 0 c).arrAt 7 cfg0.N (ix3 (⟨(pt b 7).val / 8, h1⟩ : Fin 8) r (⟨cc.val, cc.isLt⟩ : Fin 8) : (T3 8 2048 8).Idx) = (outsAt0 m c (pt b 7).val (pt b 7).isLt).2.2.2.2.1 (ix3 (0 : Fin 1) r cc) := by
    intro h1
    rw [← emb_7 (pt b 7) (0 : Fin 1) r cc]
    have hf : (cfg0.win 7).flush (pt b 7) = true := (flush0_7 (pt b 7)).mpr hm
    have e := congrFun ((dats m 0 c).read_blk_arrAt_eq_flushed 7 dj_7 cfg0.N (pt b 7) (pt b 7).isLt hf) (ix3 (0 : Fin 1) r cc)
    rw [Value.flushed7 m c (pt b 7)] at e
    exact e
  have H := (acc_at m c hF (pt b 7).val (pt b 7).isLt).2 0 r cc
  rw [hd, hm, if_pos (by omega), ← key (by omega)] at H
  refine Eq.trans (congrArg ((dats m 0 c).arrAt 7 cfg0.N) ?_) H
  refine funext fun k => Fin.ext ?_
  match k with
    | ⟨0, _⟩ => exact hd.symm
    | ⟨1, _⟩ => rfl
    | ⟨2, _⟩ => rfl

end Cert.Gqa
-- ==== Proof.Attn.lean ====
module

public import proofs.«01_k».proof.Proof.Spec

@[expose] public section

set_option maxRecDepth 16384

noncomputable section

/-! The weighted mean does not depend on the offset of the exponents. -/

namespace Cert.Gqa

open Idealize.ShloMosaic

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem one_div_coe (b : ℝ) (hb : b ≠ 0) : Ideal.div 1 (b : EReal) = ((1 / b : ℝ) : EReal) := div_coe 1 b hb

theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm

theorem ab_coe (y : ℝ) : ab (y : EReal) = ((|y| : ℝ) : EReal) := by
  rw [ab, ← EReal.coe_neg, max_coe]
  rfl

theorem sum_coe {ι : Type} (s : Finset ι) (f : ι → ℝ) : ∑ i ∈ s, (f i : EReal) = ((∑ i ∈ s, f i : ℝ) : EReal) := by
  classical
  refine Finset.induction_on s ?_ ?_
  · simp
  · intro a s ha ih
    rw [Finset.sum_insert ha, Finset.sum_insert ha, ih, EReal.coe_add]

/-- A real that is zero or lies between two bounds. -/
def Bw (a : EReal) : Prop :=
  ∃ r : ℝ, a = (r : EReal) ∧ (r = 0 ∨ (2 : ℝ) ^ (-118 : ℤ) ≤ r) ∧ r ≤ (2 - 2 ^ (-7 : ℤ)) * 2 ^ (127 : ℤ)

theorem Bw_zero : Bw 0 := ⟨0, rfl, Or.inl rfl, by norm_num⟩

theorem ab_bot : ab ⊥ = ⊤ := by rw [ab, EReal.neg_bot]; exact max_eq_right le_top
theorem ab_top : ab ⊤ = ⊤ := by rw [ab]; exact max_eq_left le_top

/-- A largest element of a finite family. -/
theorem fold_max_mem (n : ℕ) (hn : 0 < n) (f : Fin n → EReal) :
    (∃ i, Finset.fold max ⊥ f Finset.univ = f i) ∧ ∀ i, f i ≤ Finset.fold max ⊥ f Finset.univ := by
  have e : Finset.fold max ⊥ f Finset.univ = Finset.univ.sup f := rfl
  rw [e]
  haveI : Nonempty (Fin n) := ⟨⟨0, hn⟩⟩
  obtain ⟨i, _, hi⟩ := Finset.exists_mem_eq_sup Finset.univ Finset.univ_nonempty f
  exact ⟨⟨i, hi⟩, fun i => Finset.le_sup (Finset.mem_univ i)⟩

/-- The entries of a family whose largest magnitude is a real are reals. -/
theorem real_of_am (n : ℕ) (f : ℕ → EReal) (ha : Bw (am n f)) (d : ℕ) (hd : d < n) :
    ∃ y : ℝ, f d = (y : EReal) ∧ ((|y| : ℝ) : EReal) ≤ am n f := by
  have hle : ab (f d) ≤ am n f := (fold_max_mem n (by omega) (fun d : Fin n => ab (f d.val))).2 ⟨d, hd⟩
  obtain ⟨r, hr, _, _⟩ := ha
  have ht : am n f ≠ ⊤ := by rw [hr]; exact EReal.coe_ne_top r
  generalize f d = x at *
  induction x using EReal.rec with
  | bot => rw [ab_bot] at hle; exact absurd (top_le_iff.1 hle) ht
  | top => rw [ab_top] at hle; exact absurd (top_le_iff.1 hle) ht
  | coe y => rw [ab_coe] at hle; exact ⟨y, rfl, hle⟩

theorem am_nonneg (n : ℕ) (hn : 0 < n) (f : ℕ → EReal) (r : ℝ) (hr : am n f = (r : EReal)) : 0 ≤ r := by
  obtain ⟨⟨i, hi⟩, _⟩ := fold_max_mem n hn (fun d : Fin n => ab (f d.val))
  have h : (0 : EReal) ≤ ab (f i.val) := by
    rw [ab]
    rcases le_total 0 (f i.val) with h | h
    · exact le_max_of_le_left h
    · exact le_max_of_le_right (by rw [EReal.neg_nonneg]; exact h)
  have e : am n f = ab (f i.val) := hi
  rw [← e, hr] at h
  exact_mod_cast h

theorem sc_pack (n : ℕ) (hn : 0 < n) (f : ℕ → EReal) (ha : Bw (am n f)) :
    ∃ s : ℝ, 0 < s ∧ sck (am n f) = (s : EReal) ∧ scr (am n f) = (s : EReal) ∧ ∀ d, d < n → ∃ y : ℝ, f d = (y : EReal) ∧ |y| ≤ s * 448 := by
  have hreal := real_of_am n f ha
  obtain ⟨r, ea, h1, h2⟩ := ha
  have h0 := am_nonneg n hn f r ea
  obtain ⟨e, s, hs, es, hb⟩ := scale_spec r h1 h2
  refine ⟨s, hs, by rw [ea, es], by rw [ea, ← e, es], fun d hd => ?_⟩
  obtain ⟨y, hy, hle⟩ := hreal d hd
  refine ⟨y, hy, le_trans ?_ hb⟩
  rw [ea] at hle
  exact EReal.coe_le_coe_iff.1 hle

theorem code_eq (y s : ℝ) (hs : 0 < s) (h : |y| ≤ s * 448) :
    min ((448 : ℝ) : EReal) (max ((-448 : ℝ) : EReal) (Ideal.div (y : EReal) (s : EReal))) = (y : EReal) * Ideal.div 1 (s : EReal)
      ∧ (y : EReal) * Ideal.div 1 (s : EReal) = ((y / s : ℝ) : EReal) := by
  have hb := abs_le.1 h
  have e : (y : EReal) * Ideal.div 1 (s : EReal) = ((y / s : ℝ) : EReal) := by
    rw [one_div_coe s hs.ne', ← EReal.coe_mul, mul_one_div]
  refine ⟨?_, e⟩
  rw [e, div_coe y s hs.ne', max_coe, min_coe]
  refine congrArg _ ?_
  rw [max_eq_right, min_eq_right]
  · rw [div_le_iff₀ hs]; linarith [hb.2]
  · rw [le_div_iff₀ hs]; linarith [hb.1]

/-- The weight of a key, without an offset. -/
def eE (raw kk : ℕ → ℝ) (q : ℝ) (t j : ℕ) : ℝ := if j ≤ t then Real.exp (raw j * kk j * q / 16) else 0

theorem pk_eq (t : ℕ) (raw kk : ℕ → ℝ) (q M : ℝ) (hq : 0 < q) (j : ℕ) :
    Ideal.exp2 (((raw j : EReal) * (kk j : EReal) + (if j ≤ t then 0 else ⊥)) * ((q : EReal) * (((1 / 16) * (Real.log 2)⁻¹ : ℝ) : EReal))
      - ((M : EReal) * ((q : EReal) * (((1 / 16) * (Real.log 2)⁻¹ : ℝ) : EReal)) - Ideal.ofBits .f32 0x41000000#32))
      = ((256 * Real.exp (-(M * q / 16)) * eE raw kk q t j : ℝ) : EReal) := by
  have hl : 0 < Real.log 2 := Real.log_pos (by norm_num)
  have hc : 0 < q * ((1 / 16) * (Real.log 2)⁻¹) := by positivity
  rw [c_8, ← EReal.coe_mul, ← EReal.coe_mul, ← EReal.coe_mul, ← EReal.coe_sub, eE]
  by_cases h : j ≤ t
  · rw [if_pos h, if_pos h, add_zero, ← EReal.coe_mul, ← EReal.coe_sub]
    show ((Real.rpow 2 _ : ℝ) : EReal) = _
    refine congrArg _ ?_
    show (2 : ℝ) ^ (_ : ℝ) = _
    rw [Real.rpow_def_of_pos (by norm_num)]
    have h8 : (256 : ℝ) = Real.exp (8 * Real.log 2) := by
      rw [show (8 : ℝ) * Real.log 2 = Real.log (2 ^ 8) by rw [Real.log_pow]; norm_num, Real.exp_log (by norm_num)]; norm_num
    rw [h8, ← Real.exp_add, ← Real.exp_add]
    refine congrArg _ ?_
    field_simp
    ring
  · rw [if_neg h, if_neg h, EReal.add_bot, EReal.bot_mul_coe_of_pos hc, EReal.bot_sub, mul_zero]
    rfl

theorem attn_core (n S t : ℕ) (ht : t < n) (hn : n ≤ S) (raw kk v : ℕ → ℝ) (q w M : ℝ) (hq : 0 < q)
    (pk pr sr : ℕ → EReal) (m : EReal)
    (hpk : ∀ j, pk j = Ideal.exp2 (((raw j : EReal) * (kk j : EReal) + (if j ≤ t then 0 else ⊥)) * ((q : EReal) * (((1 / 16) * (Real.log 2)⁻¹ : ℝ) : EReal))
      - ((M : EReal) * ((q : EReal) * (((1 / 16) * (Real.log 2)⁻¹ : ℝ) : EReal)) - Ideal.ofBits .f32 0x41000000#32)))
    (hsr : ∀ j, sr j = if j ≤ t then (raw j : EReal) * ((q : EReal) * ((1 / 16 : ℝ) : EReal)) * (kk j : EReal) else ⊥)
    (hm : m = Finset.fold max ⊥ (fun j : Fin S => sr j.val) Finset.univ)
    (hpr : ∀ j, pr j = Ideal.exp (sr j - m)) :
    (∑ j : Fin n, pk j.val * (v j.val : EReal)) * Ideal.div 1 (∑ j : Fin n, pk j.val) * (w : EReal)
      = Ideal.div ((∑ j : Fin S, min ((448 : ℝ) : EReal) (max 0 (pr j.val * ((256 : ℝ) : EReal))) * (v j.val : EReal)) * (w : EReal))
          (((256 : ℝ) : EReal) * ∑ j : Fin S, pr j.val) := by
  obtain ⟨⟨i, hi⟩, hle⟩ := fold_max_mem S (by omega) (fun j : Fin S => sr j.val)
  rw [← hm] at hi hle
  have hsr' : ∀ j, j ≤ t → sr j = ((raw j * kk j * q / 16 : ℝ) : EReal) := fun j hj => by
    rw [hsr, if_pos hj, ← EReal.coe_mul, ← EReal.coe_mul, ← EReal.coe_mul]
    refine congrArg _ ?_
    ring
  have hit : i.val ≤ t := by
    by_contra h
    have h1 := hle ⟨t, by omega⟩
    rw [hi] at h1
    simp only [hsr' t le_rfl, hsr i.val, if_neg h] at h1
    exact absurd (le_bot_iff.1 h1) (EReal.coe_ne_bot _)
  obtain ⟨μ, hμ⟩ : ∃ μ : ℝ, m = (μ : EReal) := ⟨_, hi.trans (hsr' i.val hit)⟩
  have hpr' : ∀ j, pr j = ((Real.exp (-μ) * eE raw kk q t j : ℝ) : EReal) := fun j => by
    rw [hpr, hμ, eE]
    by_cases h : j ≤ t
    · rw [hsr' j h, if_pos h, ← EReal.coe_sub]
      show ((Real.exp _ : ℝ) : EReal) = _
      rw [← Real.exp_add]
      refine congrArg (fun z : ℝ => ((Real.exp z : ℝ) : EReal)) ?_
      ring
    · rw [hsr, if_neg h, if_neg h, EReal.bot_sub, mul_zero]
      rfl
  have hE0 : ∀ j, 0 ≤ eE raw kk q t j := fun j => by
    rw [eE]; split
    · exact (Real.exp_pos _).le
    · exact le_rfl
  have hp1 : ∀ j : Fin S, Real.exp (-μ) * eE raw kk q t j.val ≤ 1 := fun j => by
    rw [eE]
    by_cases h : j.val ≤ t
    · rw [if_pos h, ← Real.exp_add, Real.exp_le_one_iff]
      have h1 := hle j
      simp only [hsr' j.val h, hμ] at h1
      have := EReal.coe_le_coe_iff.1 h1
      linarith
    · rw [if_neg h]; norm_num
  have hcl : ∀ j : Fin S, min ((448 : ℝ) : EReal) (max 0 (pr j.val * ((256 : ℝ) : EReal))) = ((256 * Real.exp (-μ) * eE raw kk q t j.val : ℝ) : EReal) := fun j => by
    rw [hpr', ← EReal.coe_mul, ← EReal.coe_zero, max_coe, min_coe]
    refine congrArg _ ?_
    have h0 : 0 ≤ Real.exp (-μ) * eE raw kk q t j.val := mul_nonneg (Real.exp_pos _).le (hE0 _)
    rw [max_eq_right (by positivity), min_eq_right (by linarith [hp1 j])]
    ring
  have hK : ∀ j, pk j = ((256 * Real.exp (-(M * q / 16)) * eE raw kk q t j : ℝ) : EReal) := fun j =>
    (hpk j).trans (pk_eq t raw kk q M hq j)
  have hrange : ∀ g : ℕ → ℝ, ∑ j : Fin n, eE raw kk q t j.val * g j.val = ∑ j : Fin S, eE raw kk q t j.val * g j.val := fun g => by
    rw [Fin.sum_univ_eq_sum_range (fun j => eE raw kk q t j * g j) n, Fin.sum_univ_eq_sum_range (fun j => eE raw kk q t j * g j) S]
    refine Finset.sum_subset (fun j hj => Finset.mem_range.2 ((Finset.mem_range.1 hj).trans_le hn)) fun j _ hj => ?_
    have : ¬ j ≤ t := fun h => hj (Finset.mem_range.2 (by omega))
    rw [eE, if_neg this, zero_mul]
  have hL : 0 < ∑ j : Fin S, eE raw kk q t j.val :=
    Finset.sum_pos' (fun j _ => hE0 _) ⟨⟨t, by omega⟩, Finset.mem_univ _, by
      show 0 < eE raw kk q t t
      rw [eE, if_pos le_rfl]; exact Real.exp_pos _⟩
  have hL' : ∑ j : Fin n, eE raw kk q t j.val = ∑ j : Fin S, eE raw kk q t j.val := by
    have := hrange fun _ => 1
    simpa using this
  simp only [hcl]
  simp only [hK, hpr', ← EReal.coe_mul, sum_coe]
  have e1 : ∀ (c : ℝ) (N : ℕ), ∑ j : Fin N, c * eE raw kk q t j.val = c * ∑ j : Fin N, eE raw kk q t j.val := fun c N => (Finset.mul_sum _ _ _).symm
  have e2 : ∀ (c : ℝ) (N : ℕ), ∑ j : Fin N, c * eE raw kk q t j.val * v j.val = c * ∑ j : Fin N, eE raw kk q t j.val * v j.val := fun c N => by
    rw [Finset.mul_sum]; exact Finset.sum_congr rfl fun j _ => by ring
  rw [e1, e1, e2, e2, hrange, hL']
  have ha := Real.exp_pos (-(M * q / 16))
  have hb := Real.exp_pos (-μ)
  rw [one_div_coe _ (by positivity), div_coe _ _ (by positivity), ← EReal.coe_mul, ← EReal.coe_mul]
  refine congrArg _ ?_
  generalize (∑ j : Fin S, eE raw kk q t j.val) = L at *
  generalize (∑ j : Fin S, eE raw kk q t j.val * v j.val) = A at *
  generalize Real.exp (-(M * q / 16)) = a at *
  generalize Real.exp (-μ) = b at *
  field_simp

/-! ## The same over the two programs' inputs -/

/-- Every row of queries and of keys and every lane of values has a largest magnitude that is zero or within the bounds. -/
def Good (I : In) : Prop := ((∀ t h, Bw (am 256 (I.X t h))) ∧ (∀ j, Bw (am 256 (I.K j))) ∧ ∀ d, Bw (am 2048 fun j => I.V j d))
  ∧ (∀ t h d, ∃ y : ℝ, I.X t h d = (y : EReal)) ∧ (∀ j d, ∃ y : ℝ, I.K j d = (y : EReal)) ∧ ∀ j d, ∃ y : ℝ, I.V j d = (y : EReal)

/-- The reference's score. -/
def srR (I : In) (t h j : ℕ) : EReal :=
  if j ≤ t then (∑ d : Fin 256, qc I t h d.val * kc I j d.val) * (qs I t h * ((1 / 16 : ℝ) : EReal)) * ks I j else ⊥
/-- The reference's weight. -/
def prR (I : In) (t h j : ℕ) : EReal := Ideal.exp (srR I t h j - Finset.fold max ⊥ (fun j : Fin 2048 => srR I t h j.val) Finset.univ)
/-- The reference's output. -/
def outR (I : In) (t h d : ℕ) : EReal :=
  Ideal.div ((∑ j : Fin 2048, min ((448 : ℝ) : EReal) (max 0 (prR I t h j.val * ((256 : ℝ) : EReal))) * vc I j.val d) * vs I d)
    (((256 : ℝ) : EReal) * ∑ j : Fin 2048, prR I t h j.val)

variable {I : In} (hG : Good I)
include hG

theorem qs_real (t h : ℕ) : ∃ s : ℝ, 0 < s ∧ qs I t h = (s : EReal) := by
  obtain ⟨s, hs, e, _, _⟩ := sc_pack 256 (by norm_num) (I.X t h) (hG.1.1 t h)
  exact ⟨s, hs, e⟩
theorem ks_real (j : ℕ) : ∃ s : ℝ, 0 < s ∧ ks I j = (s : EReal) := by
  obtain ⟨s, hs, e, _, _⟩ := sc_pack 256 (by norm_num) (I.K j) (hG.1.2.1 j)
  exact ⟨s, hs, e⟩
theorem vs_real (d : ℕ) : ∃ s : ℝ, 0 < s ∧ vs I d = (s : EReal) := by
  obtain ⟨s, hs, e, _, _⟩ := sc_pack 2048 (by norm_num) (fun j => I.V j d) (hG.1.2.2 d)
  exact ⟨s, hs, e⟩
theorem qc_real (t h d : ℕ) : ∃ y : ℝ, qc I t h d = (y : EReal) := by
  obtain ⟨s, hs, e⟩ := qs_real hG t h
  obtain ⟨x, hx⟩ := hG.2.1 t h d
  exact ⟨x * (1 / s), by rw [qc, e, hx, one_div_coe s hs.ne', ← EReal.coe_mul]⟩
theorem kc_real (j d : ℕ) : ∃ y : ℝ, kc I j d = (y : EReal) := by
  obtain ⟨s, hs, e⟩ := ks_real hG j
  obtain ⟨x, hx⟩ := hG.2.2.1 j d
  exact ⟨x * (1 / s), by rw [kc, e, hx, one_div_coe s hs.ne', ← EReal.coe_mul]⟩
theorem vc_real (j d : ℕ) : ∃ y : ℝ, vc I j d = (y : EReal) := by
  obtain ⟨s, hs, e⟩ := vs_real hG d
  obtain ⟨x, hx⟩ := hG.2.2.2 j d
  exact ⟨x * (1 / s), by rw [vc, e, hx, one_div_coe s hs.ne', ← EReal.coe_mul]⟩
theorem raw_real (t h j : ℕ) : ∃ y : ℝ, (∑ d : Fin 256, qc I t h d.val * kc I j d.val) = (y : EReal) := by
  choose f hf using qc_real hG t h
  choose g hg using kc_real hG j
  exact ⟨∑ d : Fin 256, f d.val * g d.val, by simp only [hf, hg, ← EReal.coe_mul, sum_coe]⟩

/-- The kernel's output, about any offset, is the reference's. -/
theorem out_eq (M : ℝ) (n t h d : ℕ) (ht : t < n) (hn : n ≤ 2048) : outM I (M : EReal) n t h d = outR I t h d := by
  obtain ⟨q, hq, eq⟩ := qs_real hG t h
  choose kk hk0 hk using ks_real hG
  obtain ⟨w, hw, ew⟩ := vs_real hG d
  choose v hv using fun j => vc_real hG j d
  choose raw hr using raw_real hG t h
  have h := attn_core n 2048 t ht hn raw kk v q w M hq (pwt I (M : EReal) t h) (prR I t h) (srR I t h) _
    (fun j => by rw [pwt, sco, cf, eq, hk, hr]) (fun j => by rw [srR, eq, hk, hr]) rfl (fun j => rfl)
  simp only [← hv, ← ew] at h
  exact h

/-- The reference's scales are the kernel's. -/
theorem scr_q (t h : ℕ) : scr (am 256 (I.X t h)) = qs I t h := by
  obtain ⟨s, hs, e, e', _⟩ := sc_pack 256 (by norm_num) (I.X t h) (hG.1.1 t h)
  rw [qs, e, e']
theorem scr_k (j : ℕ) : scr (am 256 (I.K j)) = ks I j := by
  obtain ⟨s, hs, e, e', _⟩ := sc_pack 256 (by norm_num) (I.K j) (hG.1.2.1 j)
  rw [ks, e, e']
theorem scr_v (d : ℕ) : scr (am 2048 fun j => I.V j d) = vs I d := by
  obtain ⟨s, hs, e, e', _⟩ := sc_pack 2048 (by norm_num) (fun j => I.V j d) (hG.1.2.2 d)
  rw [vs, e, e']

/-- The reference's codes are the kernel's. -/
theorem clip_q (t h d : ℕ) (hd : d < 256) :
    min ((448 : ℝ) : EReal) (max ((-448 : ℝ) : EReal) (Ideal.div (I.X t h d) (qs I t h))) = qc I t h d := by
  obtain ⟨s, hs, e, _, hb⟩ := sc_pack 256 (by norm_num) (I.X t h) (hG.1.1 t h)
  obtain ⟨y, hy, hle⟩ := hb d hd
  rw [qc, qs, e, hy]; exact (code_eq y s hs hle).1
theorem clip_k (j d : ℕ) (hd : d < 256) :
    min ((448 : ℝ) : EReal) (max ((-448 : ℝ) : EReal) (Ideal.div (I.K j d) (ks I j))) = kc I j d := by
  obtain ⟨s, hs, e, _, hb⟩ := sc_pack 256 (by norm_num) (I.K j) (hG.1.2.1 j)
  obtain ⟨y, hy, hle⟩ := hb d hd
  rw [kc, ks, e, hy]; exact (code_eq y s hs hle).1
theorem clip_v (j d : ℕ) (hj : j < 2048) :
    min ((448 : ℝ) : EReal) (max ((-448 : ℝ) : EReal) (Ideal.div (I.V j d) (vs I d))) = vc I j d := by
  obtain ⟨s, hs, e, _, hb⟩ := sc_pack 2048 (by norm_num) (fun j => I.V j d) (hG.1.2.2 d)
  obtain ⟨y, hy, hle⟩ := hb j hj
  rw [vc, vs, e, hy]; exact (code_eq y s hs hle).1

end Cert.Gqa
-- ==== Proof.Ref.lean ====
module

public import proofs.«01_k».proof.Proof.Grid
public import proofs.«01_k».proof.Proof.Attn
public import proofs.«01_k».proof.Proof.Gen.ReferenceIdeal.Run
public import proofs.«01_k».proof.Proof.Gen.ReferenceIdeal.Read
public import Idealize.ShloMosaic.Lib.ValueIdxRank6

@[expose] public section

set_option maxRecDepth 16384
set_option maxHeartbeats 1000000

noncomputable section

/-! The reference's results at an index. -/

namespace Cert.Gqa

open Cert.ReferenceIdeal Cert.ReferenceIdeal.Gen Cert.ReferenceIdeal.Read Idealize.ShloMosaic Idealize.ShloMosaic.TcCoe Idealize.SL.Sem

instance : Std.Commutative (FloatOps.maximumf (F := Ideal) (φ := .f32)) := inferInstanceAs (Std.Commutative (max : EReal → EReal → EReal))
instance : Std.Associative (FloatOps.maximumf (F := Ideal) (φ := .f32)) := inferInstanceAs (Std.Associative (max : EReal → EReal → EReal))
instance : Std.Commutative (FloatOps.minimumf (F := Ideal) (φ := .f32)) := inferInstanceAs (Std.Commutative (min : EReal → EReal → EReal))
instance : Std.Associative (FloatOps.minimumf (F := Ideal) (φ := .f32)) := inferInstanceAs (Std.Associative (min : EReal → EReal → EReal))

theorem red_max {s t u : Shape} {a : Fin s.rank} (x : FVec Ideal s .f32) (init : FVec Ideal u .f32) (h' : s.ReducesTo [a] t) (h : s.Reduces [a] t)
    (hu : 0 < u.numel) (j : t.Idx) (f : Fin (s.size a) → EReal) (hf : ∀ k, x (h.lift j k) = f k) (hi : init (Shape.Idx.first hu) = (⊥ : EReal)) :
    Host.reduce FloatOps.maximumf x init h' hu j = Finset.fold max ⊥ f Finset.univ := by
  rw [Host.reduce_eq_fold_single FloatOps.maximumf x init h' h hu j, hi]
  exact congrArg (fun z => Finset.fold max (⊥ : EReal) z Finset.univ) (funext hf)

theorem red_min {s t u : Shape} {a : Fin s.rank} (x : FVec Ideal s .f32) (init : FVec Ideal u .f32) (h' : s.ReducesTo [a] t) (h : s.Reduces [a] t)
    (hu : 0 < u.numel) (j : t.Idx) (f : Fin (s.size a) → EReal) (hf : ∀ k, x (h.lift j k) = f k) (hi : init (Shape.Idx.first hu) = (⊤ : EReal)) :
    Host.reduce FloatOps.minimumf x init h' hu j = Finset.fold min ⊤ f Finset.univ := by
  rw [Host.reduce_eq_fold_single FloatOps.minimumf x init h' h hu j, hi]
  exact congrArg (fun z => Finset.fold min (⊤ : EReal) z Finset.univ) (funext hf)

theorem pw_int : ∀ e : Fin 254, (IntOp.addi 4294967170#32 (BitVec.ofNat 32 e.val)).toInt = (e.val : ℤ) - 126 := by decide

theorem pw_val (e : Fin 254) :
    FloatOps.hostPowf (F := Ideal) (φ := .f32) (FloatOps.ofBits .f32 0x40000000#32) (FloatOps.sitofp .f32 (IntOp.addi 4294967170#32 (BitVec.ofNat 32 e.val))) = rpw e.val := by
  show Ideal.pow (Ideal.ofBits .f32 0x40000000#32) (((((IntOp.addi 4294967170#32 (BitVec.ofNat 32 e.val)).toInt : ℤ) : ℝ) : ℝ) : EReal) = _
  rw [c_2, pw_int, rpw]
  show ((Real.rpow 2 _ : ℝ) : EReal) = _
  refine congrArg _ ?_
  show (2 : ℝ) ^ (_ : ℝ) = _
  rw [Real.rpow_intCast]

theorem sel_if (p : Prop) [Decidable p] (a b : EReal) : Scalar.select (BitVec.ofBool (decide p)) a b = if p then a else b := by
  by_cases h : p
  · simp [Scalar.select, h]
  · simp [Scalar.select, h]

/-- The choice of a scale. -/
theorem sel_scale (a : EReal) (mn : EReal) (f : Fin 254 → EReal) (hm : mn = Finset.fold min ⊤ f Finset.univ)
    (hf : ∀ e, f e = if Ideal.div a ((448 : ℝ) : EReal) < rpw e.val then rpw e.val else ⊤) :
    Scalar.select (FloatOps.cmpf (F := Ideal) (φ := .f32) .oeq a (FloatOps.ofBits .f32 0x00000000#32)) (FloatOps.ofBits (F := Ideal) .f32 0x3F800000#32) mn = scr a := by
  show Scalar.select (BitVec.ofBool (decide (a = Ideal.ofBits .f32 0x00000000#32))) (Ideal.ofBits .f32 0x3F800000#32) mn = _
  rw [sel_if, Ideal.ofBits_zero_f32, Ideal.ofBits_one_f32, scr, hm, show f = _ from funext hf]

theorem sel_pow (a p q r : EReal) (e : Fin 254) (hp : p = rpw e.val) (hq : q = rpw e.val) (hr : r = FloatOps.ofBits (F := Ideal) .f32 0x7F800000#32) :
    Scalar.select (FloatOps.cmpf (F := Ideal) (φ := .f32) .olt (FloatOps.hostDivf (F := Ideal) (φ := .f32) a (FloatOps.ofBits .f32 0x43E00000#32)) p) q r
      = if Ideal.div a ((448 : ℝ) : EReal) < rpw e.val then rpw e.val else ⊤ := by
  subst hp hq hr
  show Scalar.select (BitVec.ofBool (decide (Ideal.div a (Ideal.ofBits .f32 0x43E00000#32) < rpw e.val))) (rpw e.val) (Ideal.ofBits .f32 0x7F800000#32) = _
  rw [sel_if, c_448, c_top]

variable (x0 : (⟨S8x2048x8192, .bf16⟩ : BufTy).Contents (Elt Ideal)) (x1 x2 : (⟨S8x2048x2048, .bf16⟩ : BufTy).Contents (Elt Ideal))

theorem inA_X (b : Fin 8) (t : Fin 2048) (g : Fin 8) (h : Fin 4) (d : Fin 256) :
    (inA x0 x1 x2 b.val g.val).X t.val h.val d.val = x0 (ix3 b t ⟨1024 * g.val + (256 * h.val + d.val), by omega⟩) :=
  dif_pos ⟨⟨b.isLt, g.isLt⟩, t.isLt, h.isLt, d.isLt⟩
theorem inA_K (b : Fin 8) (t : Fin 2048) (g : Fin 8) (d : Fin 256) :
    (inA x0 x1 x2 b.val g.val).K t.val d.val = x1 (ix3 b t ⟨256 * g.val + d.val, by omega⟩) :=
  dif_pos ⟨⟨b.isLt, g.isLt⟩, t.isLt, d.isLt⟩
theorem inA_V (b : Fin 8) (t : Fin 2048) (g : Fin 8) (d : Fin 256) :
    (inA x0 x1 x2 b.val g.val).V t.val d.val = x2 (ix3 b t ⟨256 * g.val + d.val, by omega⟩) :=
  dif_pos ⟨⟨b.isLt, g.isLt⟩, t.isLt, d.isLt⟩

theorem pw_v10 (e : Fin 254) : val_main_v10 (F := Ideal) (ix1 e) = rpw e.val := by
  rw [val_main_v10_apply, val_main_v5_apply, val_main_cst_0_apply, val_main_v9_apply, val_main_v8_apply, val_main_v7_apply, val_main_c_apply, val_main_v6_apply]
  exact pw_val e
theorem pw_v36 (e : Fin 254) : val_main_v36 (F := Ideal) (ix1 e) = rpw e.val := by
  rw [val_main_v36_apply, val_main_v31_apply, val_main_cst_9_apply, val_main_v35_apply, val_main_v34_apply, val_main_v33_apply, val_main_c_10_apply, val_main_v32_apply]
  exact pw_val e
theorem pw_v62 (e : Fin 254) : val_main_v62 (F := Ideal) (ix1 e) = rpw e.val := by
  rw [val_main_v62_apply, val_main_v57_apply, val_main_cst_19_apply, val_main_v61_apply, val_main_v60_apply, val_main_v59_apply, val_main_c_20_apply, val_main_v58_apply]
  exact pw_val e

/-! ### The queries -/

theorem at_v1 (b : Fin 8) (t : Fin 2048) (g : Fin 8) (h : Fin 4) (d : Fin 256) :
    val_main_v1 (F := Ideal) x0 (ix5 b t g h d) = (inA x0 x1 x2 b.val g.val).X t.val h.val d.val := by
  rw [inA_X]
  refine (val_main_v0_apply x0 _).trans (congrArg x0 (funext fun a => Fin.ext ?_))
  have h0 := b.isLt; have h1 := t.isLt; have h2 := g.isLt; have h3 := h.isLt; have h4 := d.isLt
  match a with
  | ⟨0, _⟩ => show ((((b.val * 2048 + t.val) * 8 + g.val) * 4 + h.val) * 256 + d.val) / (2048 * 8192) = b.val; omega
  | ⟨1, _⟩ => show ((((b.val * 2048 + t.val) * 8 + g.val) * 4 + h.val) * 256 + d.val) / 8192 % 2048 = t.val; omega
  | ⟨2, _⟩ => show ((((b.val * 2048 + t.val) * 8 + g.val) * 4 + h.val) * 256 + d.val) % 8192 = 1024 * g.val + (256 * h.val + d.val); omega

theorem at_v3 (b : Fin 8) (t : Fin 2048) (g : Fin 8) (h : Fin 4) :
    val_main_v3 (F := Ideal) x0 (ix4 b t g h) = am 256 ((inA x0 x1 x2 b.val g.val).X t.val h.val) := by
  unfold val_main_v3
  refine red_max _ _ _ (by decide : S8x2048x8x4x256.Reduces [4] S8x2048x8x4) _ _ (fun d : Fin 256 => ab ((inA x0 x1 x2 b.val g.val).X t.val h.val d.val)) (fun d : Fin 256 => ?_) c_bot
  refine Eq.trans (congrArg (val_main_v2 (F := Ideal) x0) (?_ : _ = ix5 b t g h d)) (congrArg ab (at_v1 x0 x1 x2 b t g h d))
  exact funext fun a => Fin.ext (by match a with | ⟨0, _⟩ => rfl | ⟨1, _⟩ => rfl | ⟨2, _⟩ => rfl | ⟨3, _⟩ => rfl | ⟨4, _⟩ => rfl)

theorem at_v4 (b : Fin 8) (t : Fin 2048) (g : Fin 8) (h : Fin 4) : val_main_v4 (F := Ideal) x0 (ix5 b t g h (0 : Fin 1)) = val_main_v3 (F := Ideal) x0 (ix4 b t g h) :=
  (val_main_v4_apply (F := Ideal) x0 (ix5 b t g h (0 : Fin 1))).trans (congrArg (val_main_v3 (F := Ideal) x0) (funext fun a => match a with | ⟨0, _⟩ => rfl | ⟨1, _⟩ => rfl | ⟨2, _⟩ => rfl | ⟨3, _⟩ => rfl))
theorem at_v11 (b : Fin 8) (t : Fin 2048) (g : Fin 8) (h : Fin 4) : val_main_v11 (F := Ideal) x0 (ix6 b t g h (0 : Fin 1) (0 : Fin 1)) = val_main_v4 (F := Ideal) x0 (ix5 b t g h (0 : Fin 1)) :=
  (val_main_v11_apply (F := Ideal) x0 (ix6 b t g h (0 : Fin 1) (0 : Fin 1))).trans (congrArg (val_main_v4 (F := Ideal) x0) (funext fun a => match a with | ⟨0, _⟩ => rfl | ⟨1, _⟩ => rfl | ⟨2, _⟩ => rfl | ⟨3, _⟩ => rfl | ⟨4, _⟩ => rfl))
theorem at_v15 (b : Fin 8) (t : Fin 2048) (g : Fin 8) (h : Fin 4) (e : Fin 254) : val_main_v15 (F := Ideal) x0 (ix6 b t g h (0 : Fin 1) e) = val_main_v13 (F := Ideal) x0 (ix6 b t g h (0 : Fin 1) (0 : Fin 1)) :=
  (val_main_v15_apply (F := Ideal) x0 (ix6 b t g h (0 : Fin 1) e)).trans (congrArg (val_main_v13 (F := Ideal) x0) (funext fun a => match a with | ⟨0, _⟩ => rfl | ⟨1, _⟩ => rfl | ⟨2, _⟩ => rfl | ⟨3, _⟩ => rfl | ⟨4, _⟩ => rfl | ⟨5, _⟩ => rfl))
theorem at_v16 (b : Fin 8) (t : Fin 2048) (g : Fin 8) (h : Fin 4) (e : Fin 254) : val_main_v16 (F := Ideal)  (ix6 b t g h (0 : Fin 1) e) = val_main_v14 (F := Ideal)  (ix6 (0 : Fin 1) (0 : Fin 1) (0 : Fin 1) (0 : Fin 1) (0 : Fin 1) e) :=
  (val_main_v16_apply (F := Ideal)  (ix6 b t g h (0 : Fin 1) e)).trans (congrArg (val_main_v14 (F := Ideal) ) (funext fun a => match a with | ⟨0, _⟩ => rfl | ⟨1, _⟩ => rfl | ⟨2, _⟩ => rfl | ⟨3, _⟩ => rfl | ⟨4, _⟩ => rfl | ⟨5, _⟩ => rfl))
theorem at_v14 (e : Fin 254) : val_main_v14 (F := Ideal)  (ix6 (0 : Fin 1) (0 : Fin 1) (0 : Fin 1) (0 : Fin 1) (0 : Fin 1) e) = val_main_v10 (F := Ideal)  (ix1 e) :=
  (val_main_v14_apply (F := Ideal)  (ix6 (0 : Fin 1) (0 : Fin 1) (0 : Fin 1) (0 : Fin 1) (0 : Fin 1) e)).trans (congrArg (val_main_v10 (F := Ideal) ) (funext fun a => match a with | ⟨0, _⟩ => rfl))
theorem at_call0_v1 (b : Fin 8) (t : Fin 2048) (g : Fin 8) (h : Fin 4) (e : Fin 254) : val_main_call0_v1 (F := Ideal)  (ix6 b t g h (0 : Fin 1) e) = val_main_v10 (F := Ideal)  (ix1 e) :=
  (val_main_call0_v1_apply (F := Ideal)  (ix6 b t g h (0 : Fin 1) e)).trans (congrArg (val_main_v10 (F := Ideal) ) (funext fun a => match a with | ⟨0, _⟩ => rfl))

theorem at_v18 (b : Fin 8) (t : Fin 2048) (g : Fin 8) (h : Fin 4) (e : Fin 254) :
    val_main_v18 (F := Ideal) x0 (ix6 b t g h (0 : Fin 1) e)
      = if Ideal.div (am 256 ((inA x0 x1 x2 b.val g.val).X t.val h.val)) ((448 : ℝ) : EReal) < rpw e.val then rpw e.val else ⊤ := by
  rw [val_main_v18_apply, val_main_v17_apply, at_v15, val_main_v13_apply, at_v11, at_v4, at_v3 x0 x1 x2, val_main_v12_apply, val_main_cst_1_apply]
  refine sel_pow _ _ _ _ e ?_ ?_ ?_
  · rw [at_v16, at_v14, pw_v10]
  · rw [at_call0_v1, pw_v10]
  · rw [val_main_call0_v2_apply, val_main_call0_v0_apply, val_main_cst_2_apply]

theorem at_v22 (b : Fin 8) (t : Fin 2048) (g : Fin 8) (h : Fin 4) :
    val_main_v22 (F := Ideal) x0 (ix5 b t g h (0 : Fin 1)) = scr (am 256 ((inA x0 x1 x2 b.val g.val).X t.val h.val)) := by
  rw [val_main_v22_apply, val_main_v20_apply, at_v4, at_v3 x0 x1 x2, val_main_v19_apply, val_main_cst_3_apply, val_main_call1_v1_apply, val_main_call1_v0_apply, val_main_cst_5_apply]
  refine sel_scale _ _ _ ?_ (fun e => rfl)
  unfold val_main_v21
  refine red_min _ _ _ (by decide) _ _ _ (fun e : Fin 254 => ?_) c_top
  refine Eq.trans (congrArg (val_main_v18 (F := Ideal) x0) (?_ : _ = ix6 b t g h (0 : Fin 1) e)) (at_v18 x0 x1 x2 b t g h e)
  exact funext fun a => Fin.ext (by match a with | ⟨0, _⟩ => rfl | ⟨1, _⟩ => rfl | ⟨2, _⟩ => rfl | ⟨3, _⟩ => rfl | ⟨4, _⟩ => rfl | ⟨5, _⟩ => rfl)

theorem at_v23 (b : Fin 8) (t : Fin 2048) (g : Fin 8) (h : Fin 4) (d : Fin 256) : val_main_v23 (F := Ideal) x0 (ix5 b t g h d) = val_main_v22 (F := Ideal) x0 (ix5 b t g h (0 : Fin 1)) :=
  (val_main_v23_apply (F := Ideal) x0 (ix5 b t g h d)).trans (congrArg (val_main_v22 (F := Ideal) x0) (funext fun a => match a with | ⟨0, _⟩ => rfl | ⟨1, _⟩ => rfl | ⟨2, _⟩ => rfl | ⟨3, _⟩ => rfl | ⟨4, _⟩ => rfl))

theorem at_v25 (b : Fin 8) (t : Fin 2048) (g : Fin 8) (h : Fin 4) (d : Fin 256) :
    val_main_v25 (F := Ideal) x0 (ix5 b t g h d) = min ((448 : ℝ) : EReal) (max ((-448 : ℝ) : EReal)
      (Ideal.div ((inA x0 x1 x2 b.val g.val).X t.val h.val d.val) (scr (am 256 ((inA x0 x1 x2 b.val g.val).X t.val h.val))))) := by
  rw [val_main_v25_apply, val_main_call2_v4_apply, val_main_call2_v3_apply, val_main_cst_7_apply, val_main_call2_v2_apply, val_main_call2_v1_apply, val_main_call2_v0_apply,
    val_main_cst_6_apply, val_main_v24_apply, at_v1 x0 x1 x2, at_v23, at_v22 x0 x1 x2, ← c_448, ← c_neg448]
  rfl

/-! ### The keys -/

theorem at_v27 (b : Fin 8) (t : Fin 2048) (g : Fin 8) (d : Fin 256) :
    val_main_v27 (F := Ideal) x1 (ix4 b t g d) = (inA x0 x1 x2 b.val g.val).K t.val d.val := by
  rw [inA_K]
  refine (val_main_v26_apply x1 _).trans (congrArg x1 (funext fun a => Fin.ext ?_))
  have h0 := b.isLt; have h1 := t.isLt; have h2 := g.isLt; have h4 := d.isLt
  match a with
  | ⟨0, _⟩ => show (((b.val * 2048 + t.val) * 8 + g.val) * 256 + d.val) / (2048 * 2048) = b.val; omega
  | ⟨1, _⟩ => show (((b.val * 2048 + t.val) * 8 + g.val) * 256 + d.val) / 2048 % 2048 = t.val; omega
  | ⟨2, _⟩ => show (((b.val * 2048 + t.val) * 8 + g.val) * 256 + d.val) % 2048 = 256 * g.val + d.val; omega

theorem at_v29 (b : Fin 8) (t : Fin 2048) (g : Fin 8) :
    val_main_v29 (F := Ideal) x1 (ix3 b t g) = am 256 ((inA x0 x1 x2 b.val g.val).K t.val) := by
  unfold val_main_v29
  refine red_max _ _ _ (by decide : S8x2048x8x256.Reduces [3] S8x2048x8) _ _ (fun d : Fin 256 => ab ((inA x0 x1 x2 b.val g.val).K t.val d.val)) (fun d : Fin 256 => ?_) c_bot
  refine Eq.trans (congrArg (val_main_v28 (F := Ideal) x1) (?_ : _ = ix4 b t g d)) (congrArg ab (at_v27 x0 x1 x2 b t g d))
  exact funext fun a => Fin.ext (by match a with | ⟨0, _⟩ => rfl | ⟨1, _⟩ => rfl | ⟨2, _⟩ => rfl | ⟨3, _⟩ => rfl)

theorem at_v30 (b : Fin 8) (t : Fin 2048) (g : Fin 8) : val_main_v30 (F := Ideal) x1 (ix4 b t g (0 : Fin 1)) = val_main_v29 (F := Ideal) x1 (ix3 b t g) :=
  (val_main_v30_apply (F := Ideal) x1 (ix4 b t g (0 : Fin 1))).trans (congrArg (val_main_v29 (F := Ideal) x1) (funext fun a => match a with | ⟨0, _⟩ => rfl | ⟨1, _⟩ => rfl | ⟨2, _⟩ => rfl))
theorem at_v37 (b : Fin 8) (t : Fin 2048) (g : Fin 8) : val_main_v37 (F := Ideal) x1 (ix5 b t g (0 : Fin 1) (0 : Fin 1)) = val_main_v30 (F := Ideal) x1 (ix4 b t g (0 : Fin 1)) :=
  (val_main_v37_apply (F := Ideal) x1 (ix5 b t g (0 : Fin 1) (0 : Fin 1))).trans (congrArg (val_main_v30 (F := Ideal) x1) (funext fun a => match a with | ⟨0, _⟩ => rfl | ⟨1, _⟩ => rfl | ⟨2, _⟩ => rfl | ⟨3, _⟩ => rfl))
theorem at_v41 (b : Fin 8) (t : Fin 2048) (g : Fin 8) (e : Fin 254) : val_main_v41 (F := Ideal) x1 (ix5 b t g (0 : Fin 1) e) = val_main_v39 (F := Ideal) x1 (ix5 b t g (0 : Fin 1) (0 : Fin 1)) :=
  (val_main_v41_apply (F := Ideal) x1 (ix5 b t g (0 : Fin 1) e)).trans (congrArg (val_main_v39 (F := Ideal) x1) (funext fun a => match a with | ⟨0, _⟩ => rfl | ⟨1, _⟩ => rfl | ⟨2, _⟩ => rfl | ⟨3, _⟩ => rfl | ⟨4, _⟩ => rfl))
theorem at_v42 (b : Fin 8) (t : Fin 2048) (g : Fin 8) (e : Fin 254) : val_main_v42 (F := Ideal)  (ix5 b t g (0 : Fin 1) e) = val_main_v40 (F := Ideal)  (ix5 (0 : Fin 1) (0 : Fin 1) (0 : Fin 1) (0 : Fin 1) e) :=
  (val_main_v42_apply (F := Ideal)  (ix5 b t g (0 : Fin 1) e)).trans (congrArg (val_main_v40 (F := Ideal) ) (funext fun a => match a with | ⟨0, _⟩ => rfl | ⟨1, _⟩ => rfl | ⟨2, _⟩ => rfl | ⟨3, _⟩ => rfl | ⟨4, _⟩ => rfl))
theorem at_v40 (e : Fin 254) : val_main_v40 (F := Ideal)  (ix5 (0 : Fin 1) (0 : Fin 1) (0 : Fin 1) (0 : Fin 1) e) = val_main_v36 (F := Ideal)  (ix1 e) :=
  (val_main_v40_apply (F := Ideal)  (ix5 (0 : Fin 1) (0 : Fin 1) (0 : Fin 1) (0 : Fin 1) e)).trans (congrArg (val_main_v36 (F := Ideal) ) (funext fun a => match a with | ⟨0, _⟩ => rfl))
theorem at_call3_v1 (b : Fin 8) (t : Fin 2048) (g : Fin 8) (e : Fin 254) : val_main_call3_v1 (F := Ideal)  (ix5 b t g (0 : Fin 1) e) = val_main_v36 (F := Ideal)  (ix1 e) :=
  (val_main_call3_v1_apply (F := Ideal)  (ix5 b t g (0 : Fin 1) e)).trans (congrArg (val_main_v36 (F := Ideal) ) (funext fun a => match a with | ⟨0, _⟩ => rfl))

theorem at_v44 (b : Fin 8) (t : Fin 2048) (g : Fin 8) (e : Fin 254) :
    val_main_v44 (F := Ideal) x1 (ix5 b t g (0 : Fin 1) e)
      = if Ideal.div (am 256 ((inA x0 x1 x2 b.val g.val).K t.val)) ((448 : ℝ) : EReal) < rpw e.val then rpw e.val else ⊤ := by
  rw [val_main_v44_apply, val_main_v43_apply, at_v41, val_main_v39_apply, at_v37, at_v30, at_v29 x0 x1 x2, val_main_v38_apply, val_main_cst_11_apply]
  refine sel_pow _ _ _ _ e ?_ ?_ ?_
  · rw [at_v42, at_v40, pw_v36]
  · rw [at_call3_v1, pw_v36]
  · rw [val_main_call3_v2_apply, val_main_call3_v0_apply, val_main_cst_12_apply]

theorem at_v48 (b : Fin 8) (t : Fin 2048) (g : Fin 8) :
    val_main_v48 (F := Ideal) x1 (ix4 b t g (0 : Fin 1)) = scr (am 256 ((inA x0 x1 x2 b.val g.val).K t.val)) := by
  rw [val_main_v48_apply, val_main_v46_apply, at_v30, at_v29 x0 x1 x2, val_main_v45_apply, val_main_cst_13_apply, val_main_call4_v1_apply, val_main_call4_v0_apply, val_main_cst_15_apply]
  refine sel_scale _ _ _ ?_ (fun e => rfl)
  unfold val_main_v47
  refine red_min _ _ _ (by decide) _ _ _ (fun e : Fin 254 => ?_) c_top
  refine Eq.trans (congrArg (val_main_v44 (F := Ideal) x1) (?_ : _ = ix5 b t g (0 : Fin 1) e)) (at_v44 x0 x1 x2 b t g e)
  exact funext fun a => Fin.ext (by match a with | ⟨0, _⟩ => rfl | ⟨1, _⟩ => rfl | ⟨2, _⟩ => rfl | ⟨3, _⟩ => rfl | ⟨4, _⟩ => rfl)

theorem at_v49 (b : Fin 8) (t : Fin 2048) (g : Fin 8) (d : Fin 256) : val_main_v49 (F := Ideal) x1 (ix4 b t g d) = val_main_v48 (F := Ideal) x1 (ix4 b t g (0 : Fin 1)) :=
  (val_main_v49_apply (F := Ideal) x1 (ix4 b t g d)).trans (congrArg (val_main_v48 (F := Ideal) x1) (funext fun a => match a with | ⟨0, _⟩ => rfl | ⟨1, _⟩ => rfl | ⟨2, _⟩ => rfl | ⟨3, _⟩ => rfl))

theorem at_v51 (b : Fin 8) (t : Fin 2048) (g : Fin 8) (d : Fin 256) :
    val_main_v51 (F := Ideal) x1 (ix4 b t g d) = min ((448 : ℝ) : EReal) (max ((-448 : ℝ) : EReal)
      (Ideal.div ((inA x0 x1 x2 b.val g.val).K t.val d.val) (scr (am 256 ((inA x0 x1 x2 b.val g.val).K t.val))))) := by
  rw [val_main_v51_apply, val_main_call5_v4_apply, val_main_call5_v3_apply, val_main_cst_17_apply, val_main_call5_v2_apply, val_main_call5_v1_apply, val_main_call5_v0_apply,
    val_main_cst_16_apply, val_main_v50_apply, at_v27 x0 x1 x2, at_v49, at_v48 x0 x1 x2, ← c_448, ← c_neg448]
  rfl

/-! ### The values -/

theorem at_v53 (b : Fin 8) (t : Fin 2048) (g : Fin 8) (d : Fin 256) :
    val_main_v53 (F := Ideal) x2 (ix4 b t g d) = (inA x0 x1 x2 b.val g.val).V t.val d.val := by
  rw [inA_V]
  refine (val_main_v52_apply x2 _).trans (congrArg x2 (funext fun a => Fin.ext ?_))
  have h0 := b.isLt; have h1 := t.isLt; have h2 := g.isLt; have h4 := d.isLt
  match a with
  | ⟨0, _⟩ => show (((b.val * 2048 + t.val) * 8 + g.val) * 256 + d.val) / (2048 * 2048) = b.val; omega
  | ⟨1, _⟩ => show (((b.val * 2048 + t.val) * 8 + g.val) * 256 + d.val) / 2048 % 2048 = t.val; omega
  | ⟨2, _⟩ => show (((b.val * 2048 + t.val) * 8 + g.val) * 256 + d.val) % 2048 = 256 * g.val + d.val; omega

theorem at_v55 (b : Fin 8) (g : Fin 8) (d : Fin 256) :
    val_main_v55 (F := Ideal) x2 (ix3 b g d) = am 2048 (fun j => (inA x0 x1 x2 b.val g.val).V j d.val) := by
  unfold val_main_v55
  refine red_max _ _ _ (by decide : S8x2048x8x256.Reduces [1] S8x8x256) _ _ (fun t : Fin 2048 => ab ((inA x0 x1 x2 b.val g.val).V t.val d.val)) (fun t : Fin 2048 => ?_) c_bot
  refine Eq.trans (congrArg (val_main_v54 (F := Ideal) x2) (?_ : _ = ix4 b t g d)) (congrArg ab (at_v53 x0 x1 x2 b t g d))
  exact funext fun a => Fin.ext (by match a with | ⟨0, _⟩ => rfl | ⟨1, _⟩ => rfl | ⟨2, _⟩ => rfl | ⟨3, _⟩ => rfl)

theorem at_v56 (b : Fin 8) (g : Fin 8) (d : Fin 256) : val_main_v56 (F := Ideal) x2 (ix4 b (0 : Fin 1) g d) = val_main_v55 (F := Ideal) x2 (ix3 b g d) :=
  (val_main_v56_apply (F := Ideal) x2 (ix4 b (0 : Fin 1) g d)).trans (congrArg (val_main_v55 (F := Ideal) x2) (funext fun a => match a with | ⟨0, _⟩ => rfl | ⟨1, _⟩ => rfl | ⟨2, _⟩ => rfl))
theorem at_v63 (b : Fin 8) (g : Fin 8) (d : Fin 256) : val_main_v63 (F := Ideal) x2 (ix5 b (0 : Fin 1) g d (0 : Fin 1)) = val_main_v56 (F := Ideal) x2 (ix4 b (0 : Fin 1) g d) :=
  (val_main_v63_apply (F := Ideal) x2 (ix5 b (0 : Fin 1) g d (0 : Fin 1))).trans (congrArg (val_main_v56 (F := Ideal) x2) (funext fun a => match a with | ⟨0, _⟩ => rfl | ⟨1, _⟩ => rfl | ⟨2, _⟩ => rfl | ⟨3, _⟩ => rfl))
theorem at_v67 (b : Fin 8) (g : Fin 8) (d : Fin 256) (e : Fin 254) : val_main_v67 (F := Ideal) x2 (ix5 b (0 : Fin 1) g d e) = val_main_v65 (F := Ideal) x2 (ix5 b (0 : Fin 1) g d (0 : Fin 1)) :=
  (val_main_v67_apply (F := Ideal) x2 (ix5 b (0 : Fin 1) g d e)).trans (congrArg (val_main_v65 (F := Ideal) x2) (funext fun a => match a with | ⟨0, _⟩ => rfl | ⟨1, _⟩ => rfl | ⟨2, _⟩ => rfl | ⟨3, _⟩ => rfl | ⟨4, _⟩ => rfl))
theorem at_v68 (b : Fin 8) (g : Fin 8) (d : Fin 256) (e : Fin 254) : val_main_v68 (F := Ideal)  (ix5 b (0 : Fin 1) g d e) = val_main_v66 (F := Ideal)  (ix5 (0 : Fin 1) (0 : Fin 1) (0 : Fin 1) (0 : Fin 1) e) :=
  (val_main_v68_apply (F := Ideal)  (ix5 b (0 : Fin 1) g d e)).trans (congrArg (val_main_v66 (F := Ideal) ) (funext fun a => match a with | ⟨0, _⟩ => rfl | ⟨1, _⟩ => rfl | ⟨2, _⟩ => rfl | ⟨3, _⟩ => rfl | ⟨4, _⟩ => rfl))
theorem at_v66 (e : Fin 254) : val_main_v66 (F := Ideal)  (ix5 (0 : Fin 1) (0 : Fin 1) (0 : Fin 1) (0 : Fin 1) e) = val_main_v62 (F := Ideal)  (ix1 e) :=
  (val_main_v66_apply (F := Ideal)  (ix5 (0 : Fin 1) (0 : Fin 1) (0 : Fin 1) (0 : Fin 1) e)).trans (congrArg (val_main_v62 (F := Ideal) ) (funext fun a => match a with | ⟨0, _⟩ => rfl))
theorem at_call6_v1 (b : Fin 8) (g : Fin 8) (d : Fin 256) (e : Fin 254) : val_main_call6_v1 (F := Ideal)  (ix5 b (0 : Fin 1) g d e) = val_main_v62 (F := Ideal)  (ix1 e) :=
  (val_main_call6_v1_apply (F := Ideal)  (ix5 b (0 : Fin 1) g d e)).trans (congrArg (val_main_v62 (F := Ideal) ) (funext fun a => match a with | ⟨0, _⟩ => rfl))

theorem at_v70 (b : Fin 8) (g : Fin 8) (d : Fin 256) (e : Fin 254) :
    val_main_v70 (F := Ideal) x2 (ix5 b (0 : Fin 1) g d e)
      = if Ideal.div (am 2048 (fun j => (inA x0 x1 x2 b.val g.val).V j d.val)) ((448 : ℝ) : EReal) < rpw e.val then rpw e.val else ⊤ := by
  rw [val_main_v70_apply, val_main_v69_apply, at_v67, val_main_v65_apply, at_v63, at_v56, at_v55 x0 x1 x2, val_main_v64_apply, val_main_cst_21_apply]
  refine sel_pow _ _ _ _ e ?_ ?_ ?_
  · rw [at_v68, at_v66, pw_v62]
  · rw [at_call6_v1, pw_v62]
  · rw [val_main_call6_v2_apply, val_main_call6_v0_apply, val_main_cst_22_apply]

theorem at_v74 (b : Fin 8) (g : Fin 8) (d : Fin 256) :
    val_main_v74 (F := Ideal) x2 (ix4 b (0 : Fin 1) g d) = scr (am 2048 (fun j => (inA x0 x1 x2 b.val g.val).V j d.val)) := by
  rw [val_main_v74_apply, val_main_v72_apply, at_v56, at_v55 x0 x1 x2, val_main_v71_apply, val_main_cst_23_apply, val_main_call7_v1_apply, val_main_call7_v0_apply, val_main_cst_25_apply]
  refine sel_scale _ _ _ ?_ (fun e => rfl)
  unfold val_main_v73
  refine red_min _ _ _ (by decide) _ _ _ (fun e : Fin 254 => ?_) c_top
  refine Eq.trans (congrArg (val_main_v70 (F := Ideal) x2) (?_ : _ = ix5 b (0 : Fin 1) g d e)) (at_v70 x0 x1 x2 b g d e)
  exact funext fun a => Fin.ext (by match a with | ⟨0, _⟩ => rfl | ⟨1, _⟩ => rfl | ⟨2, _⟩ => rfl | ⟨3, _⟩ => rfl | ⟨4, _⟩ => rfl)

theorem at_v75 (b : Fin 8) (t : Fin 2048) (g : Fin 8) (d : Fin 256) : val_main_v75 (F := Ideal) x2 (ix4 b t g d) = val_main_v74 (F := Ideal) x2 (ix4 b (0 : Fin 1) g d) :=
  (val_main_v75_apply (F := Ideal) x2 (ix4 b t g d)).trans (congrArg (val_main_v74 (F := Ideal) x2) (funext fun a => match a with | ⟨0, _⟩ => rfl | ⟨1, _⟩ => rfl | ⟨2, _⟩ => rfl | ⟨3, _⟩ => rfl))

theorem at_v77 (b : Fin 8) (t : Fin 2048) (g : Fin 8) (d : Fin 256) :
    val_main_v77 (F := Ideal) x2 (ix4 b t g d) = min ((448 : ℝ) : EReal) (max ((-448 : ℝ) : EReal)
      (Ideal.div ((inA x0 x1 x2 b.val g.val).V t.val d.val) (scr (am 2048 (fun j => (inA x0 x1 x2 b.val g.val).V j d.val))))) := by
  rw [val_main_v77_apply, val_main_call8_v4_apply, val_main_call8_v3_apply, val_main_cst_27_apply, val_main_call8_v2_apply, val_main_call8_v1_apply, val_main_call8_v0_apply,
    val_main_cst_26_apply, val_main_v76_apply, at_v53 x0 x1 x2, at_v75, at_v74 x0 x1 x2, ← c_448, ← c_neg448]
  rfl

end Cert.Gqa
-- ==== Proof.Ref2.lean ====
module

public import proofs.«01_k».proof.Proof.Ref
public import Idealize.ShloMosaic.Lib.WordCmp

@[expose] public section

set_option maxRecDepth 16384
set_option maxHeartbeats 1000000

noncomputable section

/-! The reference's results are the specification's. -/

namespace Cert.Gqa

open Cert.ReferenceIdeal Cert.ReferenceIdeal.Gen Cert.ReferenceIdeal.Read Idealize.ShloMosaic Idealize.ShloMosaic.TcCoe Idealize.SL.Sem

variable (x0 : (⟨S8x2048x8192, .bf16⟩ : BufTy).Contents (Elt Ideal)) (x1 x2 : (⟨S8x2048x2048, .bf16⟩ : BufTy).Contents (Elt Ideal))

theorem at_v79 (b : Fin 8) (g : Fin 8) (t : Fin 2048) (h : Fin 4) : val_main_v79 (F := Ideal) x0 (ix5 b g t h (0 : Fin 1)) = val_main_v22 (F := Ideal) x0 (ix5 b t g h (0 : Fin 1)) :=
  (val_main_v79_apply (F := Ideal) x0 (ix5 b g t h (0 : Fin 1))).trans (congrArg (val_main_v22 (F := Ideal) x0) (funext fun a => match a with | ⟨0, _⟩ => rfl | ⟨1, _⟩ => rfl | ⟨2, _⟩ => rfl | ⟨3, _⟩ => rfl | ⟨4, _⟩ => rfl))
theorem at_v82 (b : Fin 8) (g : Fin 8) (t : Fin 2048) (h : Fin 4) (j : Fin 2048) : val_main_v82 (F := Ideal) x0 (ix5 b g t h j) = val_main_v81 (F := Ideal) x0 (ix5 b g t h (0 : Fin 1)) :=
  (val_main_v82_apply (F := Ideal) x0 (ix5 b g t h j)).trans (congrArg (val_main_v81 (F := Ideal) x0) (funext fun a => match a with | ⟨0, _⟩ => rfl | ⟨1, _⟩ => rfl | ⟨2, _⟩ => rfl | ⟨3, _⟩ => rfl | ⟨4, _⟩ => rfl))
theorem at_v84 (b : Fin 8) (g : Fin 8) (j : Fin 2048) : val_main_v84 (F := Ideal) x1 (ix4 b g (0 : Fin 1) j) = val_main_v48 (F := Ideal) x1 (ix4 b j g (0 : Fin 1)) :=
  (val_main_v84_apply (F := Ideal) x1 (ix4 b g (0 : Fin 1) j)).trans (congrArg (val_main_v48 (F := Ideal) x1) (funext fun a => match a with | ⟨0, _⟩ => rfl | ⟨1, _⟩ => rfl | ⟨2, _⟩ => rfl | ⟨3, _⟩ => rfl))
theorem at_v85 (b : Fin 8) (g : Fin 8) (j : Fin 2048) : val_main_v85 (F := Ideal) x1 (ix5 b g (0 : Fin 1) (0 : Fin 1) j) = val_main_v84 (F := Ideal) x1 (ix4 b g (0 : Fin 1) j) :=
  (val_main_v85_apply (F := Ideal) x1 (ix5 b g (0 : Fin 1) (0 : Fin 1) j)).trans (congrArg (val_main_v84 (F := Ideal) x1) (funext fun a => match a with | ⟨0, _⟩ => rfl | ⟨1, _⟩ => rfl | ⟨2, _⟩ => rfl | ⟨3, _⟩ => rfl))
theorem at_v86 (b : Fin 8) (g : Fin 8) (t : Fin 2048) (h : Fin 4) (j : Fin 2048) : val_main_v86 (F := Ideal) x1 (ix5 b g t h j) = val_main_v85 (F := Ideal) x1 (ix5 b g (0 : Fin 1) (0 : Fin 1) j) :=
  (val_main_v86_apply (F := Ideal) x1 (ix5 b g t h j)).trans (congrArg (val_main_v85 (F := Ideal) x1) (funext fun a => match a with | ⟨0, _⟩ => rfl | ⟨1, _⟩ => rfl | ⟨2, _⟩ => rfl | ⟨3, _⟩ => rfl | ⟨4, _⟩ => rfl))
theorem at_v89 (j : Fin 2048) : val_main_v89 (F := Ideal)  (ix2 (0 : Fin 1) j) = val_main_v88 (F := Ideal)  (ix1 j) :=
  (val_main_v89_apply (F := Ideal)  (ix2 (0 : Fin 1) j)).trans (congrArg (val_main_v88 (F := Ideal) ) (funext fun a => match a with | ⟨0, _⟩ => rfl))
theorem at_v90 (t : Fin 2048) : val_main_v90 (F := Ideal)  (ix2 t (0 : Fin 1)) = val_main_v88 (F := Ideal)  (ix1 t) :=
  (val_main_v90_apply (F := Ideal)  (ix2 t (0 : Fin 1))).trans (congrArg (val_main_v88 (F := Ideal) ) (funext fun a => match a with | ⟨0, _⟩ => rfl))
theorem at_v91 (t : Fin 2048) (j : Fin 2048) : val_main_v91 (F := Ideal)  (ix2 t j) = val_main_v89 (F := Ideal)  (ix2 (0 : Fin 1) j) :=
  (val_main_v91_apply (F := Ideal)  (ix2 t j)).trans (congrArg (val_main_v89 (F := Ideal) ) (funext fun a => match a with | ⟨0, _⟩ => rfl | ⟨1, _⟩ => rfl))
theorem at_v92 (t : Fin 2048) (j : Fin 2048) : val_main_v92 (F := Ideal)  (ix2 t j) = val_main_v90 (F := Ideal)  (ix2 t (0 : Fin 1)) :=
  (val_main_v92_apply (F := Ideal)  (ix2 t j)).trans (congrArg (val_main_v90 (F := Ideal) ) (funext fun a => match a with | ⟨0, _⟩ => rfl | ⟨1, _⟩ => rfl))
theorem at_v94 (t : Fin 2048) (j : Fin 2048) : val_main_v94 (F := Ideal)  (ix5 (0 : Fin 1) (0 : Fin 1) t (0 : Fin 1) j) = val_main_v93 (F := Ideal)  (ix2 t j) :=
  (val_main_v94_apply (F := Ideal)  (ix5 (0 : Fin 1) (0 : Fin 1) t (0 : Fin 1) j)).trans (congrArg (val_main_v93 (F := Ideal) ) (funext fun a => match a with | ⟨0, _⟩ => rfl | ⟨1, _⟩ => rfl))
theorem at_call9_v1 (b : Fin 8) (g : Fin 8) (t : Fin 2048) (h : Fin 4) (j : Fin 2048) : val_main_call9_v1 (F := Ideal)  (ix5 b g t h j) = val_main_v94 (F := Ideal)  (ix5 (0 : Fin 1) (0 : Fin 1) t (0 : Fin 1) j) :=
  (val_main_call9_v1_apply (F := Ideal)  (ix5 b g t h j)).trans (congrArg (val_main_v94 (F := Ideal) ) (funext fun a => match a with | ⟨0, _⟩ => rfl | ⟨1, _⟩ => rfl | ⟨2, _⟩ => rfl | ⟨3, _⟩ => rfl | ⟨4, _⟩ => rfl))
theorem at_v97 (b : Fin 8) (g : Fin 8) (t : Fin 2048) (h : Fin 4) : val_main_v97 (F := Ideal) x0 x1 (ix5 b g t h (0 : Fin 1)) = val_main_v96 (F := Ideal) x0 x1 (ix4 b g t h) :=
  (val_main_v97_apply (F := Ideal) x0 x1 (ix5 b g t h (0 : Fin 1))).trans (congrArg (val_main_v96 (F := Ideal) x0 x1) (funext fun a => match a with | ⟨0, _⟩ => rfl | ⟨1, _⟩ => rfl | ⟨2, _⟩ => rfl | ⟨3, _⟩ => rfl))
theorem at_v98 (b : Fin 8) (g : Fin 8) (t : Fin 2048) (h : Fin 4) (j : Fin 2048) : val_main_v98 (F := Ideal) x0 x1 (ix5 b g t h j) = val_main_v97 (F := Ideal) x0 x1 (ix5 b g t h (0 : Fin 1)) :=
  (val_main_v98_apply (F := Ideal) x0 x1 (ix5 b g t h j)).trans (congrArg (val_main_v97 (F := Ideal) x0 x1) (funext fun a => match a with | ⟨0, _⟩ => rfl | ⟨1, _⟩ => rfl | ⟨2, _⟩ => rfl | ⟨3, _⟩ => rfl | ⟨4, _⟩ => rfl))
theorem at_v102 (b : Fin 8) (g : Fin 8) (t : Fin 2048) (h : Fin 4) : val_main_v102 (F := Ideal) x0 x1 (ix5 b g t h (0 : Fin 1)) = val_main_v101 (F := Ideal) x0 x1 (ix4 b g t h) :=
  (val_main_v102_apply (F := Ideal) x0 x1 (ix5 b g t h (0 : Fin 1))).trans (congrArg (val_main_v101 (F := Ideal) x0 x1) (funext fun a => match a with | ⟨0, _⟩ => rfl | ⟨1, _⟩ => rfl | ⟨2, _⟩ => rfl | ⟨3, _⟩ => rfl))
theorem at_v107 (b : Fin 8) (g : Fin 8) (d : Fin 256) : val_main_v107 (F := Ideal) x2 (ix4 b g (0 : Fin 1) d) = val_main_v74 (F := Ideal) x2 (ix4 b (0 : Fin 1) g d) :=
  (val_main_v107_apply (F := Ideal) x2 (ix4 b g (0 : Fin 1) d)).trans (congrArg (val_main_v74 (F := Ideal) x2) (funext fun a => match a with | ⟨0, _⟩ => rfl | ⟨1, _⟩ => rfl | ⟨2, _⟩ => rfl | ⟨3, _⟩ => rfl))
theorem at_v108 (b : Fin 8) (g : Fin 8) (d : Fin 256) : val_main_v108 (F := Ideal) x2 (ix5 b g (0 : Fin 1) (0 : Fin 1) d) = val_main_v107 (F := Ideal) x2 (ix4 b g (0 : Fin 1) d) :=
  (val_main_v108_apply (F := Ideal) x2 (ix5 b g (0 : Fin 1) (0 : Fin 1) d)).trans (congrArg (val_main_v107 (F := Ideal) x2) (funext fun a => match a with | ⟨0, _⟩ => rfl | ⟨1, _⟩ => rfl | ⟨2, _⟩ => rfl | ⟨3, _⟩ => rfl))
theorem at_v109 (b : Fin 8) (g : Fin 8) (t : Fin 2048) (h : Fin 4) (d : Fin 256) : val_main_v109 (F := Ideal) x2 (ix5 b g t h d) = val_main_v108 (F := Ideal) x2 (ix5 b g (0 : Fin 1) (0 : Fin 1) d) :=
  (val_main_v109_apply (F := Ideal) x2 (ix5 b g t h d)).trans (congrArg (val_main_v108 (F := Ideal) x2) (funext fun a => match a with | ⟨0, _⟩ => rfl | ⟨1, _⟩ => rfl | ⟨2, _⟩ => rfl | ⟨3, _⟩ => rfl | ⟨4, _⟩ => rfl))
theorem at_v113 (b : Fin 8) (g : Fin 8) (t : Fin 2048) (h : Fin 4) (d : Fin 256) : val_main_v113 (F := Ideal) x0 x1 (ix5 b g t h d) = val_main_v112 (F := Ideal) x0 x1 (ix5 b g t h (0 : Fin 1)) :=
  (val_main_v113_apply (F := Ideal) x0 x1 (ix5 b g t h d)).trans (congrArg (val_main_v112 (F := Ideal) x0 x1) (funext fun a => match a with | ⟨0, _⟩ => rfl | ⟨1, _⟩ => rfl | ⟨2, _⟩ => rfl | ⟨3, _⟩ => rfl | ⟨4, _⟩ => rfl))
theorem at_v115 (b : Fin 8) (t : Fin 2048) (g : Fin 8) (h : Fin 4) (d : Fin 256) : val_main_v115 (F := Ideal) x0 x1 x2 (ix5 b t g h d) = val_main_v114 (F := Ideal) x0 x1 x2 (ix5 b g t h d) :=
  (val_main_v115_apply (F := Ideal) x0 x1 x2 (ix5 b t g h d)).trans (congrArg (val_main_v114 (F := Ideal) x0 x1 x2) (funext fun a => match a with | ⟨0, _⟩ => rfl | ⟨1, _⟩ => rfl | ⟨2, _⟩ => rfl | ⟨3, _⟩ => rfl | ⟨4, _⟩ => rfl))

theorem cv (x : Ideal .f32) : FloatOps.hostConvertf (F := Ideal) .fp8e4m3 x = x := rfl
theorem tr (x : Ideal .f32) : FloatOps.truncf (F := Ideal) .bf16 bitsLt_bf16_f32 x = x := rfl

theorem at_mask (b g : Fin 8) (t : Fin 2048) (h : Fin 4) (j : Fin 2048) :
    val_main_call9_v1 (F := Ideal) (ix5 b g t h j) = BitVec.ofBool (decide (j.val ≤ t.val)) := by
  rw [at_call9_v1, at_v94, val_main_v93_apply, at_v91, at_v92, at_v89, at_v90, val_main_v88_apply, val_main_v88_apply]
  show IntOp.cmpi .sle (BitVec.ofNat 32 j.val) (BitVec.ofNat 32 t.val) = _
  exact WordCmp.cmpi_sle_ofNat (by have := j.isLt; omega) (by have := t.isLt; omega)

variable (hG : ∀ b g : ℕ, Good (inA x0 x1 x2 b g))
include hG

/-! ### Scales and codes -/

theorem ref_qs (b : Fin 8) (t : Fin 2048) (g : Fin 8) (h : Fin 4) :
    val_main_v22 (F := Ideal) x0 (ix5 b t g h (0 : Fin 1)) = qs (inA x0 x1 x2 b.val g.val) t.val h.val := by
  rw [at_v22 x0 x1 x2, scr_q (hG b.val g.val)]
theorem ref_ks (b : Fin 8) (t : Fin 2048) (g : Fin 8) :
    val_main_v48 (F := Ideal) x1 (ix4 b t g (0 : Fin 1)) = ks (inA x0 x1 x2 b.val g.val) t.val := by
  rw [at_v48 x0 x1 x2, scr_k (hG b.val g.val)]
theorem ref_vs (b : Fin 8) (g : Fin 8) (d : Fin 256) :
    val_main_v74 (F := Ideal) x2 (ix4 b (0 : Fin 1) g d) = vs (inA x0 x1 x2 b.val g.val) d.val := by
  rw [at_v74 x0 x1 x2, scr_v (hG b.val g.val)]
theorem ref_qc (b : Fin 8) (t : Fin 2048) (g : Fin 8) (h : Fin 4) (d : Fin 256) :
    val_main_v25 (F := Ideal) x0 (ix5 b t g h d) = qc (inA x0 x1 x2 b.val g.val) t.val h.val d.val := by
  rw [at_v25 x0 x1 x2, scr_q (hG b.val g.val), clip_q (hG b.val g.val) _ _ _ d.isLt]
theorem ref_kc (b : Fin 8) (t : Fin 2048) (g : Fin 8) (d : Fin 256) :
    val_main_v51 (F := Ideal) x1 (ix4 b t g d) = kc (inA x0 x1 x2 b.val g.val) t.val d.val := by
  rw [at_v51 x0 x1 x2, scr_k (hG b.val g.val), clip_k (hG b.val g.val) _ _ d.isLt]
theorem ref_vc (b : Fin 8) (t : Fin 2048) (g : Fin 8) (d : Fin 256) :
    val_main_v77 (F := Ideal) x2 (ix4 b t g d) = vc (inA x0 x1 x2 b.val g.val) t.val d.val := by
  rw [at_v77 x0 x1 x2, scr_v (hG b.val g.val), clip_v (hG b.val g.val) _ _ t.isLt]

/-! ### The attention -/

theorem ref_raw (b g : Fin 8) (t : Fin 2048) (h : Fin 4) (j : Fin 2048) :
    val_main_v78 (F := Ideal) x0 x1 (ix5 b g t h j)
      = ∑ d : Fin 256, qc (inA x0 x1 x2 b.val g.val) t.val h.val d.val * kc (inA x0 x1 x2 b.val g.val) j.val d.val := by
  rw [val_main_v78_apply]
  refine Finset.sum_congr rfl fun d _ => ?_
  rw [← ref_qc x0 x1 x2 hG b t g h d, ← ref_kc x0 x1 x2 hG b j g d]
  refine congrArg₂ (· * ·) (congrArg (val_main_v25 (F := Ideal) x0) ?_) (congrArg (val_main_v51 (F := Ideal) x1) ?_)
  · exact funext fun a => match a with | ⟨0, _⟩ => rfl | ⟨1, _⟩ => rfl | ⟨2, _⟩ => rfl | ⟨3, _⟩ => rfl | ⟨4, _⟩ => rfl
  · exact funext fun a => match a with | ⟨0, _⟩ => rfl | ⟨1, _⟩ => rfl | ⟨2, _⟩ => rfl | ⟨3, _⟩ => rfl

theorem ref_sr (b g : Fin 8) (t : Fin 2048) (h : Fin 4) (j : Fin 2048) :
    val_main_v95 (F := Ideal) x0 x1 (ix5 b g t h j) = srR (inA x0 x1 x2 b.val g.val) t.val h.val j.val := by
  rw [val_main_v95_apply, at_mask, val_main_call9_v2_apply, val_main_call9_v0_apply, val_main_cst_29_apply, sel_if]
  rw [val_main_v87_apply, val_main_v83_apply, ref_raw x0 x1 x2 hG, at_v82, val_main_v81_apply, at_v79, ref_qs x0 x1 x2 hG, val_main_v80_apply, val_main_cst_28_apply,
    at_v86, at_v85, at_v84, ref_ks x0 x1 x2 hG, srR, ← c_16th, ← c_bot]
  rfl

theorem ref_max (b g : Fin 8) (t : Fin 2048) (h : Fin 4) :
    val_main_v96 (F := Ideal) x0 x1 (ix4 b g t h)
      = Finset.fold max ⊥ (fun j : Fin 2048 => srR (inA x0 x1 x2 b.val g.val) t.val h.val j.val) Finset.univ := by
  unfold val_main_v96
  refine red_max _ _ _ (by decide : S8x8x2048x4x2048.Reduces [4] S8x8x2048x4) _ _ (fun j : Fin 2048 => srR (inA x0 x1 x2 b.val g.val) t.val h.val j.val) (fun j : Fin 2048 => ?_) c_bot
  refine Eq.trans (congrArg (val_main_v95 (F := Ideal) x0 x1) (?_ : _ = ix5 b g t h j)) (ref_sr x0 x1 x2 hG b g t h j)
  exact funext fun a => Fin.ext (by match a with | ⟨0, _⟩ => rfl | ⟨1, _⟩ => rfl | ⟨2, _⟩ => rfl | ⟨3, _⟩ => rfl | ⟨4, _⟩ => rfl)

theorem ref_pr (b g : Fin 8) (t : Fin 2048) (h : Fin 4) (j : Fin 2048) :
    val_main_v100 (F := Ideal) x0 x1 (ix5 b g t h j) = prR (inA x0 x1 x2 b.val g.val) t.val h.val j.val := by
  rw [val_main_v100_apply, val_main_v99_apply, ref_sr x0 x1 x2 hG, at_v98, at_v97, ref_max x0 x1 x2 hG]
  rfl

theorem ref_sum (b g : Fin 8) (t : Fin 2048) (h : Fin 4) :
    val_main_v101 (F := Ideal) x0 x1 (ix4 b g t h) = ∑ j : Fin 2048, prR (inA x0 x1 x2 b.val g.val) t.val h.val j.val := by
  rw [val_main_v101_apply, val_main_cst_31_apply]
  refine Eq.trans (congrArg (fun z : EReal => z + _) Ideal.ofBits_zero_f32) ?_
  rw [zero_add]
  refine Finset.sum_congr rfl fun j _ => ?_
  rw [← ref_pr x0 x1 x2 hG b g t h j]
  refine congrArg (val_main_v100 (F := Ideal) x0 x1) ?_
  exact funext fun a => match a with | ⟨0, _⟩ => rfl | ⟨1, _⟩ => rfl | ⟨2, _⟩ => rfl | ⟨3, _⟩ => rfl | ⟨4, _⟩ => rfl

theorem ref_pc (b g : Fin 8) (t : Fin 2048) (h : Fin 4) (j : Fin 2048) :
    val_main_v105 (F := Ideal) x0 x1 (ix5 b g t h j)
      = min ((448 : ℝ) : EReal) (max 0 (prR (inA x0 x1 x2 b.val g.val) t.val h.val j.val * ((256 : ℝ) : EReal))) := by
  rw [val_main_v105_apply, val_main_call10_v4_apply, val_main_call10_v3_apply, val_main_cst_34_apply, val_main_call10_v2_apply, val_main_call10_v1_apply,
    val_main_call10_v0_apply, val_main_cst_33_apply, val_main_v104_apply, ref_pr x0 x1 x2 hG, val_main_v103_apply, val_main_cst_32_apply, ← c_448, ← c_256, ← Ideal.ofBits_zero_f32]
  rfl

theorem ref_acc (b g : Fin 8) (t : Fin 2048) (h : Fin 4) (d : Fin 256) :
    val_main_v106 (F := Ideal) x0 x1 x2 (ix5 b g t h d)
      = ∑ j : Fin 2048, min ((448 : ℝ) : EReal) (max 0 (prR (inA x0 x1 x2 b.val g.val) t.val h.val j.val * ((256 : ℝ) : EReal))) * vc (inA x0 x1 x2 b.val g.val) j.val d.val := by
  rw [val_main_v106_apply]
  refine Finset.sum_congr rfl fun j _ => ?_
  rw [← ref_pc x0 x1 x2 hG b g t h j, ← ref_vc x0 x1 x2 hG b j g d]
  refine congrArg₂ (· * ·) (congrArg (val_main_v105 (F := Ideal) x0 x1) ?_) (congrArg (val_main_v77 (F := Ideal) x2) ?_)
  · exact funext fun a => match a with | ⟨0, _⟩ => rfl | ⟨1, _⟩ => rfl | ⟨2, _⟩ => rfl | ⟨3, _⟩ => rfl | ⟨4, _⟩ => rfl
  · exact funext fun a => match a with | ⟨0, _⟩ => rfl | ⟨1, _⟩ => rfl | ⟨2, _⟩ => rfl | ⟨3, _⟩ => rfl

theorem ref_o (b g : Fin 8) (t : Fin 2048) (h : Fin 4) (d : Fin 256) :
    val_main_v114 (F := Ideal) x0 x1 x2 (ix5 b g t h d) = outR (inA x0 x1 x2 b.val g.val) t.val h.val d.val := by
  rw [val_main_v114_apply, val_main_v110_apply, ref_acc x0 x1 x2 hG, at_v109, at_v108, at_v107, ref_vs x0 x1 x2 hG, at_v113, val_main_v112_apply, val_main_v111_apply,
    val_main_cst_35_apply, at_v102, ref_sum x0 x1 x2 hG, outR]
  show Ideal.div _ (Ideal.ofBits .f32 0x43800000#32 * _) = _
  rw [c_256]
  rfl

/-! ### The results -/

theorem res_0 (b : Fin 8) (t : Fin 2048) (g : Fin 8) (cc : Fin 1024) :
    val_main_v117 (F := Ideal) x0 x1 x2 (ix3 b t ⟨1024 * g.val + cc.val, by omega⟩) = outR (inA x0 x1 x2 b.val g.val) t.val (cc.val / 256) (cc.val % 256) := by
  have h0 := b.isLt; have h1 := t.isLt; have h2 := g.isLt; have h3 := cc.isLt
  rw [← ref_o x0 x1 x2 hG b g t ⟨cc.val / 256, by omega⟩ ⟨cc.val % 256, by omega⟩, ← at_v115]
  rw [val_main_v117_apply, tr, val_main_v116_apply]
  refine congrArg (val_main_v115 (F := Ideal) x0 x1 x2) (funext fun a => Fin.ext ?_)
  match a with
  | ⟨0, _⟩ => show ((b.val * 2048 + t.val) * 8192 + (1024 * g.val + cc.val)) / (2048 * 8192) = b.val; omega
  | ⟨1, _⟩ => show ((b.val * 2048 + t.val) * 8192 + (1024 * g.val + cc.val)) / 8192 % 2048 = t.val; omega
  | ⟨2, _⟩ => show ((b.val * 2048 + t.val) * 8192 + (1024 * g.val + cc.val)) / 1024 % 8 = g.val; omega
  | ⟨3, _⟩ => show ((b.val * 2048 + t.val) * 8192 + (1024 * g.val + cc.val)) / 256 % 4 = cc.val / 256; omega
  | ⟨4, _⟩ => show ((b.val * 2048 + t.val) * 8192 + (1024 * g.val + cc.val)) % 256 = cc.val % 256; omega

theorem res_1 (b : Fin 8) (t : Fin 2048) (g : Fin 8) (cc : Fin 1024) :
    val_main_v119 (F := Ideal) x0 (ix3 b t ⟨1024 * g.val + cc.val, by omega⟩) = qc (inA x0 x1 x2 b.val g.val) t.val (cc.val / 256) (cc.val % 256) := by
  have h0 := b.isLt; have h1 := t.isLt; have h2 := g.isLt; have h3 := cc.isLt
  refine Eq.trans ?_ (ref_qc x0 x1 x2 hG b t g ⟨cc.val / 256, by omega⟩ ⟨cc.val % 256, by omega⟩)
  rw [val_main_v119_apply, val_main_v118_apply, cv]
  refine congrArg (val_main_v25 (F := Ideal) x0) (funext fun a => Fin.ext ?_)
  match a with
  | ⟨0, _⟩ => show ((b.val * 2048 + t.val) * 8192 + (1024 * g.val + cc.val)) / (2048 * 8192) = b.val; omega
  | ⟨1, _⟩ => show ((b.val * 2048 + t.val) * 8192 + (1024 * g.val + cc.val)) / 8192 % 2048 = t.val; omega
  | ⟨2, _⟩ => show ((b.val * 2048 + t.val) * 8192 + (1024 * g.val + cc.val)) / 1024 % 8 = g.val; omega
  | ⟨3, _⟩ => show ((b.val * 2048 + t.val) * 8192 + (1024 * g.val + cc.val)) / 256 % 4 = cc.val / 256; omega
  | ⟨4, _⟩ => show ((b.val * 2048 + t.val) * 8192 + (1024 * g.val + cc.val)) % 256 = cc.val % 256; omega

theorem res_2 (b : Fin 8) (t : Fin 2048) (cc : Fin 32) :
    val_main_v120 (F := Ideal) x0 (ix3 b t cc) = qs (inA x0 x1 x2 b.val (cc.val / 4)) t.val (cc.val % 4) := by
  have h0 := b.isLt; have h1 := t.isLt; have h3 := cc.isLt
  refine Eq.trans ?_ (ref_qs x0 x1 x2 hG b t ⟨cc.val / 4, by omega⟩ ⟨cc.val % 4, by omega⟩)
  rw [val_main_v120_apply]
  refine congrArg (val_main_v22 (F := Ideal) x0) (funext fun a => Fin.ext ?_)
  match a with
  | ⟨0, _⟩ => show ((b.val * 2048 + t.val) * 32 + cc.val) / (2048 * 32) = b.val; omega
  | ⟨1, _⟩ => show ((b.val * 2048 + t.val) * 32 + cc.val) / 32 % 2048 = t.val; omega
  | ⟨2, _⟩ => show ((b.val * 2048 + t.val) * 32 + cc.val) / 4 % 8 = cc.val / 4; omega
  | ⟨3, _⟩ => show ((b.val * 2048 + t.val) * 32 + cc.val) / 1 % 4 = cc.val % 4; omega
  | ⟨4, _⟩ => rfl

theorem res_3 (b : Fin 8) (t : Fin 2048) (g : Fin 8) (d : Fin 256) :
    val_main_v122 (F := Ideal) x1 (ix3 b t ⟨256 * g.val + d.val, by omega⟩) = kc (inA x0 x1 x2 b.val g.val) t.val d.val := by
  have h0 := b.isLt; have h1 := t.isLt; have h2 := g.isLt; have h3 := d.isLt
  refine Eq.trans ?_ (ref_kc x0 x1 x2 hG b t g d)
  rw [val_main_v122_apply, val_main_v121_apply, cv]
  refine congrArg (val_main_v51 (F := Ideal) x1) (funext fun a => Fin.ext ?_)
  match a with
  | ⟨0, _⟩ => show ((b.val * 2048 + t.val) * 2048 + (256 * g.val + d.val)) / (2048 * 2048) = b.val; omega
  | ⟨1, _⟩ => show ((b.val * 2048 + t.val) * 2048 + (256 * g.val + d.val)) / 2048 % 2048 = t.val; omega
  | ⟨2, _⟩ => show ((b.val * 2048 + t.val) * 2048 + (256 * g.val + d.val)) / 256 % 8 = g.val; omega
  | ⟨3, _⟩ => show ((b.val * 2048 + t.val) * 2048 + (256 * g.val + d.val)) % 256 = d.val; omega

theorem res_4 (b : Fin 8) (t : Fin 2048) (cc : Fin 8) :
    val_main_v123 (F := Ideal) x1 (ix3 b t cc) = ks (inA x0 x1 x2 b.val cc.val) t.val := by
  have h0 := b.isLt; have h1 := t.isLt; have h3 := cc.isLt
  refine Eq.trans ?_ (ref_ks x0 x1 x2 hG b t cc)
  rw [val_main_v123_apply]
  refine congrArg (val_main_v48 (F := Ideal) x1) (funext fun a => Fin.ext ?_)
  match a with
  | ⟨0, _⟩ => show ((b.val * 2048 + t.val) * 8 + cc.val) / (2048 * 8) = b.val; omega
  | ⟨1, _⟩ => show ((b.val * 2048 + t.val) * 8 + cc.val) / 8 % 2048 = t.val; omega
  | ⟨2, _⟩ => show ((b.val * 2048 + t.val) * 8 + cc.val) / 1 % 8 = cc.val; omega
  | ⟨3, _⟩ => rfl

theorem res_5 (b : Fin 8) (t : Fin 2048) (g : Fin 8) (d : Fin 256) :
    val_main_v125 (F := Ideal) x2 (ix3 b t ⟨256 * g.val + d.val, by omega⟩) = vc (inA x0 x1 x2 b.val g.val) t.val d.val := by
  have h0 := b.isLt; have h1 := t.isLt; have h2 := g.isLt; have h3 := d.isLt
  refine Eq.trans ?_ (ref_vc x0 x1 x2 hG b t g d)
  rw [val_main_v125_apply, val_main_v124_apply, cv]
  refine congrArg (val_main_v77 (F := Ideal) x2) (funext fun a => Fin.ext ?_)
  match a with
  | ⟨0, _⟩ => show ((b.val * 2048 + t.val) * 2048 + (256 * g.val + d.val)) / (2048 * 2048) = b.val; omega
  | ⟨1, _⟩ => show ((b.val * 2048 + t.val) * 2048 + (256 * g.val + d.val)) / 2048 % 2048 = t.val; omega
  | ⟨2, _⟩ => show ((b.val * 2048 + t.val) * 2048 + (256 * g.val + d.val)) / 256 % 8 = g.val; omega
  | ⟨3, _⟩ => show ((b.val * 2048 + t.val) * 2048 + (256 * g.val + d.val)) % 256 = d.val; omega

theorem res_6 (b g : Fin 8) (u : Fin 1) (d : Fin 256) :
    val_main_v126 (F := Ideal) x2 (ix4 b g u d) = vs (inA x0 x1 x2 b.val g.val) d.val := by
  have h0 := b.isLt; have h2 := g.isLt; have h3 := d.isLt; have hu := u.isLt
  refine Eq.trans ?_ (ref_vs x0 x1 x2 hG b g d)
  rw [val_main_v126_apply]
  refine congrArg (val_main_v74 (F := Ideal) x2) (funext fun a => Fin.ext ?_)
  match a with
  | ⟨0, _⟩ => show (((b.val * 8 + g.val) * 1 + u.val) * 256 + d.val) / 2048 = b.val; omega
  | ⟨1, _⟩ => rfl
  | ⟨2, _⟩ => show (((b.val * 8 + g.val) * 1 + u.val) * 256 + d.val) / 256 % 8 = g.val; omega
  | ⟨3, _⟩ => show (((b.val * 8 + g.val) * 1 + u.val) * 256 + d.val) % 256 = d.val; omega

end Cert.Gqa
-- ==== Proof.Pre.lean ====
module

public import proofs.«01_k».proof.Proof.Ref2
public import proofs.«01_k».proof.Pre_pre
public import Idealize.ShloMosaic.Lib.ReduceAll

@[expose] public section

set_option maxRecDepth 16384

noncomputable section

/-! What the precondition says of every row and lane. -/

namespace Cert.Gqa

open Idealize.ShloMosaic

theorem ofBool_one (p : Prop) [Decidable p] (h : BitVec.ofBool (decide p) = 1#1) : p := by
  by_contra hp
  rw [decide_eq_false hp] at h
  exact absurd h (by decide)

theorem bw_of (x : EReal) (h : IntOp.ori (Ideal.cmp .oeq x (Ideal.ofBits .f32 0x00000000#32))
    (IntOp.andi (Ideal.cmp .oge x (Ideal.ofBits .f32 0x04800000#32)) (Ideal.cmp .ole x (Ideal.ofBits .f32 0x7F7F0000#32))) = 1#1) : Bw x := by
  have h' : x = 0 ∨ ((((2 : ℝ) ^ (-118 : ℤ) : ℝ) : EReal) ≤ x ∧ x ≤ ((((2 : ℝ) - 2 ^ (-7 : ℤ)) * 2 ^ (127 : ℤ) : ℝ) : EReal)) := by
    rcases IntOp.ori_eq_one.1 h with h | h
    · left
      exact (ofBool_one (x = Ideal.ofBits .f32 0x00000000#32) h).trans Ideal.ofBits_zero_f32
    · right
      obtain ⟨h1, h2⟩ := IntOp.andi_eq_one.1 h
      rw [← c_m118, ← c_max]
      exact ⟨ofBool_one (Ideal.ofBits .f32 0x04800000#32 ≤ x) h1, ofBool_one (x ≤ Ideal.ofBits .f32 0x7F7F0000#32) h2⟩
  induction x using EReal.rec with
  | bot =>
    rcases h' with h' | ⟨h', _⟩
    · exact absurd h' (by decide)
    · exact absurd (le_bot_iff.1 h') (EReal.coe_ne_bot _)
  | top =>
    rcases h' with h' | ⟨_, h'⟩
    · exact absurd h' (by decide)
    · exact absurd (top_le_iff.1 h') (EReal.coe_ne_top _)
  | coe y =>
    refine ⟨y, rfl, ?_⟩
    rcases h' with h' | ⟨h1, h2⟩
    · have e : y = 0 := by exact_mod_cast h'
      exact ⟨Or.inl e, by rw [e]; norm_num⟩
    · exact ⟨Or.inr (EReal.coe_le_coe_iff.1 h1), EReal.coe_le_coe_iff.1 h2⟩

instance : Subsingleton (Cert.Pre_pre.S_).Idx := ⟨fun a b => funext fun k => k.elim0⟩

theorem all_bw {s : Shape} {axes : List (Fin s.rank)} (x : FVec Ideal s .f32)
    (hbc : (Cert.Pre_pre.S_).BroadcastsInDim s (![] : Fin 0 → Fin s.rank)) (h' : s.ReducesTo axes Cert.Pre_pre.S_) (hu : 0 < (Cert.Pre_pre.S_).numel) (j : (Cert.Pre_pre.S_).Idx)
    (h : Host.reduce IntOp.andi (ori (cmpf .oeq x (broadcastInDim s ![] hbc (constant (F := Ideal) Cert.Pre_pre.S_ .f32 0x00000000#32)))
      (andi (cmpf .oge x (broadcastInDim s ![] hbc (constant (F := Ideal) Cert.Pre_pre.S_ .f32 0x04800000#32)))
        (cmpf .ole x (broadcastInDim s ![] hbc (constant (F := Ideal) Cert.Pre_pre.S_ .f32 0x7F7F0000#32)))))
      (constantI Cert.Pre_pre.S_ 1 1#1) h' hu j = 1#1) : ∀ i, Bw (x i) := fun i =>
  bw_of (x i) (Host.reduce_andi_all _ _ h' hu j h i)

variable [Cert.Pre_pre.Facts]

/-- The largest magnitudes that the precondition bounds are the reference's. -/
theorem pre_bw (A0 : FVec Ideal Cert.Pre_pre.S8x2048x8192 .bf16) (A1 A2 : FVec Ideal Cert.Pre_pre.S8x2048x2048 .bf16)
    (h : Cert.Pre_pre.fn (F := Ideal) A0 A1 A2 = fun _ => 1#1) :
    (∀ i, Bw (Cert.ReferenceIdeal.Read.val_main_v3 (F := Ideal) A0 i)) ∧ (∀ i, Bw (Cert.ReferenceIdeal.Read.val_main_v29 (F := Ideal) A1 i))
      ∧ ∀ i, Bw (Cert.ReferenceIdeal.Read.val_main_v55 (F := Ideal) A2 i) := by
  have h0 := congrFun h (fun a => a.elim0)
  unfold Cert.Pre_pre.fn Cert.Pre_pre.fn_part1 Cert.Pre_pre.fn_part2 at h0
  obtain ⟨h01, h2⟩ := IntOp.andi_eq_one.1 h0
  obtain ⟨h0, h1⟩ := IntOp.andi_eq_one.1 h01
  exact ⟨all_bw (Cert.ReferenceIdeal.Read.val_main_v3 (F := Ideal) A0) _ _ _ _ h0, all_bw (Cert.ReferenceIdeal.Read.val_main_v29 (F := Ideal) A1) _ _ _ _ h1,
    all_bw (Cert.ReferenceIdeal.Read.val_main_v55 (F := Ideal) A2) _ _ _ _ h2⟩

theorem bw_zeros (n : ℕ) (hn : 0 < n) (f : ℕ → EReal) (hf : ∀ d, f d = 0) : Bw (am n f) := by
  obtain ⟨⟨i, hi⟩, _⟩ := fold_max_mem n hn (fun d : Fin n => ab (f d.val))
  have e : am n f = ab (f i.val) := hi
  rw [e, hf, ab, neg_zero, max_self]
  exact Bw_zero

theorem inA_good (A0 : Vec Ideal (T3 8 2048 8192) .bf16) (A1 A2 : Vec Ideal (T3 8 2048 2048) .bf16)
    (h0 : ∀ i, Bw (Cert.ReferenceIdeal.Read.val_main_v3 (F := Ideal) A0 i)) (h1 : ∀ i, Bw (Cert.ReferenceIdeal.Read.val_main_v29 (F := Ideal) A1 i))
    (h2 : ∀ i, Bw (Cert.ReferenceIdeal.Read.val_main_v55 (F := Ideal) A2 i)) (b g : ℕ) : Good (inA A0 A1 A2 b g) := by
  have bx : ∀ t h, Bw (am 256 ((inA A0 A1 A2 b g).X t h)) := fun t h => by
    by_cases c : (b < 8 ∧ g < 8) ∧ t < 2048 ∧ h < 4
    · obtain ⟨⟨hb, hg⟩, ht, hh⟩ := c
      have e := at_v3 A0 A1 A2 ⟨b, hb⟩ ⟨t, ht⟩ ⟨g, hg⟩ ⟨h, hh⟩
      rw [← show _ = am 256 ((inA A0 A1 A2 b g).X t h) from e]
      exact h0 _
    · refine bw_zeros 256 (by norm_num) _ fun d => ?_
      unfold inA; dsimp only
      rw [dif_neg (fun k => c ⟨k.1, k.2.1, k.2.2.1⟩)]
  have bk : ∀ j, Bw (am 256 ((inA A0 A1 A2 b g).K j)) := fun t => by
    by_cases c : (b < 8 ∧ g < 8) ∧ t < 2048
    · obtain ⟨⟨hb, hg⟩, ht⟩ := c
      have e := at_v29 A0 A1 A2 ⟨b, hb⟩ ⟨t, ht⟩ ⟨g, hg⟩
      rw [← show _ = am 256 ((inA A0 A1 A2 b g).K t) from e]
      exact h1 _
    · refine bw_zeros 256 (by norm_num) _ fun d => ?_
      unfold inA; dsimp only
      rw [dif_neg (fun k => c ⟨k.1, k.2.1⟩)]
  have bv : ∀ d, Bw (am 2048 fun j => (inA A0 A1 A2 b g).V j d) := fun d => by
    by_cases c : (b < 8 ∧ g < 8) ∧ d < 256
    · obtain ⟨⟨hb, hg⟩, hd⟩ := c
      have e := at_v55 A0 A1 A2 ⟨b, hb⟩ ⟨g, hg⟩ ⟨d, hd⟩
      rw [← show _ = am 2048 (fun j => (inA A0 A1 A2 b g).V j d) from e]
      exact h2 _
    · refine bw_zeros 2048 (by norm_num) _ fun j => ?_
      unfold inA; dsimp only
      rw [dif_neg (fun k => c ⟨k.1, k.2.2⟩)]
  refine ⟨⟨bx, bk, bv⟩, fun t h d => ?_, fun j d => ?_, fun j d => ?_⟩
  · by_cases hd : d < 256
    · obtain ⟨y, hy, _⟩ := real_of_am 256 _ (bx t h) d hd
      exact ⟨y, hy⟩
    · refine ⟨0, ?_⟩
      unfold inA; dsimp only
      rw [dif_neg (fun k => hd k.2.2.2)]; rfl
  · by_cases hd : d < 256
    · obtain ⟨y, hy, _⟩ := real_of_am 256 _ (bk j) d hd
      exact ⟨y, hy⟩
    · refine ⟨0, ?_⟩
      unfold inA; dsimp only
      rw [dif_neg (fun k => hd k.2.2)]; rfl
  · by_cases hj : j < 2048
    · obtain ⟨y, hy, _⟩ := real_of_am 2048 _ (bv d) j hj
      exact ⟨y, hy⟩
    · refine ⟨0, ?_⟩
      unfold inA; dsimp only
      rw [dif_neg (fun k => hj k.2.1)]; rfl

theorem fine_of {I : In} (hG : Good I) : Fine I := by
  intro t h j _ _ _
  obtain ⟨r, hr⟩ := raw_real hG t h j
  obtain ⟨s, _, hs⟩ := ks_real hG j
  have e : sc0 I t h j = ((r * s : ℝ) : EReal) := by rw [sc0, hr, hs, EReal.coe_mul]
  rw [e]
  exact ⟨EReal.coe_ne_top _, EReal.coe_ne_bot _⟩

end Cert.Gqa
-- ==== Proof.Alg.lean ====
module

public import proofs.«01_k».proof.Proof.Pre

@[expose] public section

set_option maxRecDepth 16384
set_option maxHeartbeats 1000000

noncomputable section

/-! The arrays after the grid are the reference's results, and the reference's run in these terms. -/

namespace Cert.Gqa

open Idealize.ShloMosaic Idealize.ShloMosaic.TcCoe Idealize.SL.Sem Cert.ReferenceIdeal.Read

theorem cut3 {n : ℕ} (k : ℕ) (hk : 0 < k) (hn : n = 8 * k) (z : Fin n) :
    ∃ (g : Fin 8) (cc : Fin k) (hh : k * g.val + cc.val < n), z = ⟨k * g.val + cc.val, hh⟩ := by
  subst hn
  have h := z.isLt
  have hg : z.val / k < 8 := Nat.div_lt_of_lt_mul (by have e := Nat.mul_comm k 8; omega)
  have e : k * (z.val / k) + z.val % k = z.val := Nat.div_add_mod z.val k
  exact ⟨⟨z.val / k, hg⟩, ⟨z.val % k, Nat.mod_lt _ hk⟩, by show k * (z.val / k) + z.val % k < 8 * k; omega, Fin.ext e.symm⟩

theorem ext_three {N : ℕ} {α : Type} (f g : (T3 8 2048 N).Idx → α)
    (h : ∀ (b : Fin 8) (r : Fin 2048) (cc : Fin N), f (ix3 b r cc) = g (ix3 b r cc)) : f = g := by
  funext i
  have e : i = ix3 (show Fin 8 from i 0) (show Fin 2048 from i 1) (show Fin N from i 2) := funext fun a => match a with | ⟨0, _⟩ => rfl | ⟨1, _⟩ => rfl | ⟨2, _⟩ => rfl
  rw [e]; exact h _ _ _

/-- Two arrays that agree in every group are equal. -/
theorem ext_grp {N : ℕ} (k : ℕ) (hk : 0 < k) (hN : N = 8 * k) {α : Type} (f g : (T3 8 2048 N).Idx → α)
    (h : ∀ (b : Fin 8) (r : Fin 2048) (gg : Fin 8) (cc : Fin k) (hh : k * gg.val + cc.val < N), f (ix3 b r (⟨k * gg.val + cc.val, hh⟩ : Fin N)) = g (ix3 b r (⟨k * gg.val + cc.val, hh⟩ : Fin N))) : f = g := by
  refine ext_three f g fun b r z => ?_
  obtain ⟨gg, cc, hh, e2⟩ := cut3 k hk hN z
  subst e2
  exact h _ _ _ _ _

theorem ext_four {α : Type} (f g : (⟨4, ![8, 8, 1, 256]⟩ : Shape).Idx → α)
    (h : ∀ (b : Fin 8) (r : Fin 8) (u : Fin 1) (cc : Fin 256), f (ix4 b r u cc) = g (ix4 b r u cc)) : f = g := by
  funext i
  have e : i = ix4 (show Fin 8 from i 0) (show Fin 8 from i 1) (show Fin 1 from i 2) (show Fin 256 from i 3) := funext fun a => match a with | ⟨0, _⟩ => rfl | ⟨1, _⟩ => rfl | ⟨2, _⟩ => rfl | ⟨3, _⟩ => rfl
  rw [e]; exact h _ _ _ _

section Kernel

open Cert.KernelIdeal Cert.KernelIdeal.Gen

variable [Cert.Pre_pre.Facts]
variable (m : (ℓ : Loc nD τ sig) → Buf (Elt Ideal) ℓ) (c : Dev nD) (hG : ∀ b g : ℕ, Good (inA (arr0 m c) (arr1 m c) (arr2 m c) b g))
include hG

theorem eq_0 : ((dats m 0 c).arrAt 3 cfg0.N : (T3 8 2048 8192).Idx → EReal) = val_main_v117 (F := Ideal) (arr0 m c) (arr1 m c) (arr2 m c) := by
  refine ext_grp 1024 (by norm_num) rfl _ _ fun b r g cc hh => ?_
  obtain ⟨M, e⟩ := fin_3 m c (fun b g => fine_of (hG b g)) b g r cc
  exact e.trans ((out_eq (hG b.val g.val) M _ r.val _ _ (by omega) (by have := r.isLt; omega)).trans (res_0 (arr0 m c) (arr1 m c) (arr2 m c) hG b r g cc).symm)
theorem eq_1 : ((dats m 0 c).arrAt 4 cfg0.N : (T3 8 2048 8192).Idx → EReal) = val_main_v119 (F := Ideal) (arr0 m c) := by
  refine ext_grp 1024 (by norm_num) rfl _ _ fun b r g cc hh => ?_
  exact (fin_4 m c (fun b g => fine_of (hG b g)) b g r cc).trans (res_1 (arr0 m c) (arr1 m c) (arr2 m c) hG b r g cc).symm
theorem eq_2 : ((dats m 0 c).arrAt 5 cfg0.N : (T3 8 2048 32).Idx → EReal) = val_main_v120 (F := Ideal) (arr0 m c) := by
  refine ext_three _ _ fun b r cc => ?_
  exact (fin_5 m c (fun b g => fine_of (hG b g)) b r cc).trans (res_2 (arr0 m c) (arr1 m c) (arr2 m c) hG b r cc).symm
theorem eq_3 : ((dats m 0 c).arrAt 6 cfg0.N : (T3 8 2048 2048).Idx → EReal) = val_main_v122 (F := Ideal) (arr1 m c) := by
  refine ext_grp 256 (by norm_num) rfl _ _ fun b r g cc hh => ?_
  exact (fin_6 m c (fun b g => fine_of (hG b g)) b g r cc).trans (res_3 (arr0 m c) (arr1 m c) (arr2 m c) hG b r g cc).symm
theorem eq_4 : ((dats m 0 c).arrAt 7 cfg0.N : (T3 8 2048 8).Idx → EReal) = val_main_v123 (F := Ideal) (arr1 m c) := by
  refine ext_three _ _ fun b r cc => ?_
  exact (fin_7 m c (fun b g => fine_of (hG b g)) b r cc).trans (res_4 (arr0 m c) (arr1 m c) (arr2 m c) hG b r cc).symm
theorem eq_5 : ((dats m 0 c).arrAt 8 cfg0.N : (T3 8 2048 2048).Idx → EReal) = val_main_v125 (F := Ideal) (arr2 m c) := by
  refine ext_grp 256 (by norm_num) rfl _ _ fun b r g cc hh => ?_
  exact (fin_8 m c (fun b g => fine_of (hG b g)) b g r cc).trans (res_5 (arr0 m c) (arr1 m c) (arr2 m c) hG b r g cc).symm
theorem eq_6 : ((dats m 0 c).arrAt 9 cfg0.N : (⟨4, ![8, 8, 1, 256]⟩ : Shape).Idx → EReal) = val_main_v126 (F := Ideal) (arr2 m c) := by
  refine ext_four _ _ fun b g u d => ?_
  exact (fin_9 m c (fun b g => fine_of (hG b g)) b g u d).trans (res_6 (arr0 m c) (arr1 m c) (arr2 m c) hG b g u d).symm

end Kernel

section Reference

open Cert.ReferenceIdeal Idealize.ShloMosaic.StableHlo

/-- The reference's run, its results as functions of the arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v117) = val_main_v117 (F := Ideal) (m ((c.tc : Thread nD τ).loc main_arg0)) (m ((c.tc : Thread nD τ).loc main_arg1)) (m ((c.tc : Thread nD τ).loc main_arg2))
      ∧ r.2.mem ((c.tc : Thread nD τ).loc main_v119) = val_main_v119 (F := Ideal) (m ((c.tc : Thread nD τ).loc main_arg0))
      ∧ r.2.mem ((c.tc : Thread nD τ).loc main_v120) = val_main_v120 (F := Ideal) (m ((c.tc : Thread nD τ).loc main_arg0))
      ∧ r.2.mem ((c.tc : Thread nD τ).loc main_v122) = val_main_v122 (F := Ideal) (m ((c.tc : Thread nD τ).loc main_arg1))
      ∧ r.2.mem ((c.tc : Thread nD τ).loc main_v123) = val_main_v123 (F := Ideal) (m ((c.tc : Thread nD τ).loc main_arg1))
      ∧ r.2.mem ((c.tc : Thread nD τ).loc main_v125) = val_main_v125 (F := Ideal) (m ((c.tc : Thread nD τ).loc main_arg2))
      ∧ r.2.mem ((c.tc : Thread nD τ).loc main_v126) = val_main_v126 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h0, h1, h2, h3, h4, h5, h6, h7⟩ := h c
    exact ⟨h0.trans (val_main_v117_eq (launchContents m c)), h1.trans (val_main_v119_eq (launchContents m c)), h2.trans (val_main_v120_eq (launchContents m c)),
      h3.trans (val_main_v122_eq (launchContents m c)), h4.trans (val_main_v123_eq (launchContents m c)), h5.trans (val_main_v125_eq (launchContents m c)),
      h6.trans (val_main_v126_eq (launchContents m c)), h7⟩)
    (Cert.ReferenceIdeal.Value.run (F := Ideal) m ρ)

end Reference

end Cert.Gqa
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pre
public import proofs.«01_k».proof.Proof.Alg
public import Idealize.ShloMosaic.Adequacy
public import Idealize.ShloMosaic.Init

@[expose] public section

noncomputable section

namespace Cert.Proof

open Idealize.ShloMosaic Idealize.SL.Sem Cert.Gqa

/-- The kernel as printed runs, keeps its arguments and ends quiescent. -/
theorem frame_k : Cert.quiescent_Kernel (hKernel := Cert.Kernel.Gen.facts) := fun m ρ _ => Cert.Kernel.Gen.frame m ρ

/-- So does the idealised kernel. -/
theorem frame_i : Cert.quiescent_KernelIdeal (hKernelIdeal := Cert.KernelIdeal.Gen.facts) := fun m ρ _ => Cert.KernelIdeal.Gen.frame m ρ

theorem frame_ip : Cert.quiescent_KernelIdeal_pre_pre (hKernelIdeal := Cert.KernelIdeal.Gen.facts) (hPre_pre := Cert.Pre_pre.Gen.facts) :=
  fun m ρ _ => Cert.KernelIdeal.Gen.frame m ρ

/-- So does the reference. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

theorem frame_rp : Cert.quiescent_ReferenceIdeal_pre_pre (hReferenceIdeal := Cert.ReferenceIdeal.Gen.facts) (hPre_pre := Cert.Pre_pre.Gen.facts) :=
  fun m ρ _ => frame_r m ρ trivial

/-- The named constant is what the kernel's literal reads. -/
theorem pres : Cert.preserves_Kernel_KernelIdeal :=
  IdealRules.named_const.statement Cert.KernelIdeal.κ "log2e_16" .f32 0x3DB8AA3B#32 _ rfl

/-- The kernel's seven results are the reference's. -/
theorem alg : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hp ha
  have hG : ∀ (c : Dev Cert.KernelIdeal.nD) (b g : ℕ), Good (inA (arr0 m c) (arr1 m c) (arr2 m c) b g) := fun c b g => by
    obtain ⟨h0, h1, h2⟩ := pre_bw (arr0 m c) (arr1 m c) (arr2 m c) (hp c)
    exact inA_good _ _ _ h0 h1 h2 b g
  refine ⟨fun c => (Cert.KernelIdeal.Gen.dats m 0 c).arrAt 3 Cert.KernelIdeal.cfg0.N, fun c => (Cert.KernelIdeal.Gen.dats m 0 c).arrAt 4 Cert.KernelIdeal.cfg0.N,
    fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m g, ?_⟩
  refine (θ_run Cert.ReferenceIdeal.defs _ _).mono (fun r h c => ?_) (ref_run m' g')
  obtain ⟨h0, h1, h2, h3, h4, h5, h6, h7⟩ := h c
  obtain ⟨a0, a1, a2⟩ := ha c
  rw [a0, a1, a2] at h0
  rw [a0] at h1 h2
  rw [a1] at h3 h4
  rw [a2] at h5 h6
  exact ⟨h0.trans (eq_0 m c (hG c)).symm, h1.trans (eq_1 m c (hG c)).symm, h2.trans (eq_2 m c (hG c)).symm, h3.trans (eq_3 m c (hG c)).symm,
    h4.trans (eq_4 m c (hG c)).symm, h5.trans (eq_5 m c (hG c)).symm, h6.trans (eq_6 m c (hG c)).symm, h7⟩

theorem claim : Cert.Claim := ⟨Cert.Kernel.Gen.facts, Cert.KernelIdeal.Gen.facts, Cert.ReferenceIdeal.Gen.facts, Cert.Pre_pre.Gen.facts,
  frame_k, frame_i, frame_ip, frame_r, frame_rp, pres, alg⟩

end Cert.Proof

end
